-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v319) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x128x7168 : Shape := ⟨3, ![1, 128, 7168]⟩
abbrev S18432x5376 : Shape := ⟨2, ![18432, 5376]⟩
abbrev S18432x224 : Shape := ⟨2, ![18432, 224]⟩
abbrev S1x128x224x32 : Shape := ⟨4, ![1, 128, 224, 32]⟩
abbrev S_ : Shape := ⟨0, ![]⟩
abbrev S1x128x224 : Shape := ⟨3, ![1, 128, 224]⟩

class Facts : Prop where
  bitsLt_bf16_f32 : FTy.bits .bf16 < FTy.bits .f32
  shapeCasts_S1x128x7168_S1x128x224x32 : S1x128x7168.ShapeCasts S1x128x224x32
  reducesTo_S1x128x224x32_S1x128x224_d3 : S1x128x224x32.ReducesTo [3] S1x128x224
  h_S_ : 0 < S_.numel
  natLt_8_32 : 8 < 32
  bcast_S_S1x128x224 : S_.BroadcastsInDim S1x128x224 (![] : Fin 0 → Fin S1x128x224.rank)
  bcast_S_S18432x224 : S_.BroadcastsInDim S18432x224 (![] : Fin 0 → Fin S18432x224.rank)

variable [Facts]

def fn {F : FTy → Type} [FloatOps F] (main_arg0 : FVec F S1x128x7168 .bf16) (main_arg1 : IVec S18432x5376 8) (main_arg2 : IVec S18432x224 8) : IVec S1x128x224 1 × IVec S18432x224 1 :=
  let main_v0 : FVec F S1x128x7168 .f32 := (extf .f32 · bitsLt_bf16_f32) main_arg0
  let main_v1 : FVec F S1x128x224x32 .f32 := shapeCast S1x128x224x32 main_v0 shapeCasts_S1x128x7168_S1x128x224x32
  let main_v2 : FVec F S1x128x224x32 .f32 := Host.absf main_v1
  let main_cst : FVec F S_ .f32 := constant S_ .f32 0xFF800000#32
  let main_v3 : FVec F S1x128x224 .f32 := (fun x v => Host.reduce FloatOps.maximumf x v reducesTo_S1x128x224x32_S1x128x224_d3 h_S_) main_v2 main_cst
  let main_v4 : IVec S18432x224 32 := (extui 32 · natLt_8_32) main_arg2
  let main_cst_0 : FVec F S_ .f32 := constant S_ .f32 0x00000000#32
  let main_v5 : FVec F S1x128x224 .f32 := broadcastInDim S1x128x224 ![] bcast_S_S1x128x224 main_cst_0
  let main_v6 : IVec S1x128x224 1 := cmpf .oeq main_v3 main_v5
  let main_cst_1 : FVec F S_ .f32 := constant S_ .f32 0x02800000#32
  let main_v7 : FVec F S1x128x224 .f32 := broadcastInDim S1x128x224 ![] bcast_S_S1x128x224 main_cst_1
  let main_v8 : IVec S1x128x224 1 := cmpf .oge main_v3 main_v7
  let main_cst_2 : FVec F S_ .f32 := constant S_ .f32 0x7F7F0000#32
  let main_v9 : FVec F S1x128x224 .f32 := broadcastInDim S1x128x224 ![] bcast_S_S1x128x224 main_cst_2
  let main_v10 : IVec S1x128x224 1 := cmpf .ole main_v3 main_v9
  let main_v11 : IVec S1x128x224 1 := andi main_v8 main_v10
  let main_v12 : IVec S1x128x224 1 := ori main_v6 main_v11
  let main_c : IVec S_ 32 := constantI S_ 32 1#32
  let main_v13 : IVec S18432x224 32 := broadcastInDim S18432x224 ![] bcast_S_S18432x224 main_c
  let main_v14 : IVec S18432x224 1 := cmpi .sge main_v4 main_v13
  let main_c_3 : IVec S_ 32 := constantI S_ 32 254#32
  let main_v15 : IVec S18432x224 32 := broadcastInDim S18432x224 ![] bcast_S_S18432x224 main_c_3
  let main_v16 : IVec S18432x224 1 := cmpi .sle main_v4 main_v15
  let main_v17 : IVec S18432x224 1 := andi main_v14 main_v16
  (main_v12, main_v17)
-- ==== Kernel.lean ====
abbrev S1x128x7168 : Shape := ⟨3, ![1, 128, 7168]⟩
abbrev S18432x5376 : Shape := ⟨2, ![18432, 5376]⟩
abbrev S18432x224 : Shape := ⟨2, ![18432, 224]⟩
abbrev S256x256 : Shape := ⟨2, ![256, 256]⟩
abbrev S128x7168 : Shape := ⟨2, ![128, 7168]⟩
abbrev S128x18432 : Shape := ⟨2, ![128, 18432]⟩
abbrev S128x224 : Shape := ⟨2, ![128, 224]⟩
abbrev S1024x5376 : Shape := ⟨2, ![1024, 5376]⟩
abbrev S1024x224 : Shape := ⟨2, ![1024, 224]⟩
abbrev S128x1024 : Shape := ⟨2, ![128, 1024]⟩
abbrev S14x4x96x128 : Shape := ⟨4, ![14, 4, 96, 128]⟩
abbrev S4x448x128 : Shape := ⟨3, ![4, 448, 128]⟩
abbrev S256x128 : Shape := ⟨2, ![256, 128]⟩
abbrev S128x256 : Shape := ⟨2, ![128, 256]⟩
abbrev S8x32x128 : Shape := ⟨3, ![8, 32, 128]⟩
abbrev S8x128 : Shape := ⟨2, ![8, 128]⟩
abbrev S8x1x128 : Shape := ⟨3, ![8, 1, 128]⟩
abbrev S64x128 : Shape := ⟨2, ![64, 128]⟩
abbrev S512x224 : Shape := ⟨2, ![512, 224]⟩
abbrev S224x512 : Shape := ⟨2, ![224, 512]⟩
abbrev S56x512 : Shape := ⟨2, ![56, 512]⟩
abbrev S1x8x128 : Shape := ⟨3, ![1, 8, 128]⟩
abbrev S32x128 : Shape := ⟨2, ![32, 128]⟩
abbrev S128x512 : Shape := ⟨2, ![128, 512]⟩
abbrev S512x384 : Shape := ⟨2, ![512, 384]⟩
abbrev S384x512 : Shape := ⟨2, ![384, 512]⟩
abbrev S96x512 : Shape := ⟨2, ![96, 512]⟩
abbrev S96x128 : Shape := ⟨2, ![96, 128]⟩
abbrev S1x1x96x128 : Shape := ⟨4, ![1, 1, 96, 128]⟩
abbrev S1x16x128 : Shape := ⟨3, ![1, 16, 128]⟩
abbrev S16x128 : Shape := ⟨2, ![16, 128]⟩
abbrev S1x1x8x128 : Shape := ⟨4, ![1, 1, 8, 128]⟩
abbrev S256x512 : Shape := ⟨2, ![256, 512]⟩
abbrev S1x128x18432 : Shape := ⟨3, ![1, 128, 18432]⟩
abbrev S1x128x224 : Shape := ⟨3, ![1, 128, 224]⟩

abbrev nBuf : Space → Nat
  | .hbm => 11
  | .vmem => 14
  | .smem => 0
  | _ => 0

abbrev bufTy : (tb : Table) → Fin (tcTables nBuf tb) → BufTy
  | .hbm, ⟨0, _⟩ => ⟨S1x128x7168, .bf16⟩
  | .hbm, ⟨1, _⟩ => ⟨S18432x5376, .i8⟩
  | .hbm, ⟨2, _⟩ => ⟨S18432x224, .i8⟩
  | .hbm, ⟨3, _⟩ => ⟨S256x256, .bf16⟩
  | .hbm, ⟨4, _⟩ => ⟨S128x7168, .bf16⟩
  | .hbm, ⟨5, _⟩ => ⟨S128x18432, .bf16⟩
  | .hbm, ⟨6, _⟩ => ⟨S128x7168, .i8⟩
  | .hbm, ⟨7, _⟩ => ⟨S128x224, .i8⟩
  | .hbm, ⟨8, _⟩ => ⟨S1x128x18432, .bf16⟩
  | .hbm, ⟨9, _⟩ => ⟨S1x128x7168, .i8⟩
  | .hbm, ⟨10, _⟩ => ⟨S1x128x224, .i8⟩
  | .local _ .vmem, ⟨0, _⟩ => ⟨S128x7168, .bf16⟩
  | .local _ .vmem, ⟨1, _⟩ => ⟨S256x256, .bf16⟩
  | .local _ .vmem, ⟨2, _⟩ => ⟨S1024x5376, .i8⟩
  | .local _ .vmem, ⟨3, _⟩ => ⟨S1024x5376, .i8⟩
  | .local _ .vmem, ⟨4, _⟩ => ⟨S1024x224, .i8⟩
  | .local _ .vmem, ⟨5, _⟩ => ⟨S1024x224, .i8⟩
  | .local _ .vmem, ⟨6, _⟩ => ⟨S128x1024, .bf16⟩
  | .local _ .vmem, ⟨7, _⟩ => ⟨S128x1024, .bf16⟩
  | .local _ .vmem, ⟨8, _⟩ => ⟨S128x7168, .i8⟩
  | .local _ .vmem, ⟨9, _⟩ => ⟨S128x224, .i8⟩
  | .local _ .vmem, ⟨10, _⟩ => ⟨S14x4x96x128, .i32⟩
  | .local _ .vmem, ⟨11, _⟩ => ⟨S4x448x128, .i32⟩
  | .local _ .vmem, ⟨12, _⟩ => ⟨S128x7168, .bf16⟩
  | .local _ .vmem, ⟨13, _⟩ => ⟨S256x128, .i32⟩
  | _, _ => ⟨S1x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3 : BitVec 32 := 0#32
  let c28_i32 : BitVec 32 := 28#32
  let v4 : BitVec 32 := Scalar.addi c0_i32_3 c28_i32
  let c1_i32_4 : BitVec 32 := 1#32
  ⟨c0_i32_3, v4, c1_i32_4⟩
def k0_mult1 (k0_t1 : Fin k0_t1_loop.trips) : BitVec 32 :=
  let c256_i32 : BitVec 32 := 256#32
  let c0_i32_3 : BitVec 32 := 0#32
  let c1_i32_4 : BitVec 32 := 1#32
  let arg12 : BitVec 32 := Scf.iv c0_i32_3 c1_i32_4 k0_t1
  let v10 : BitVec 32 := Scalar.muli c256_i32 arg12
  v10
def k0_off1 (k0_t1 : Fin k0_t1_loop.trips) : Fin 2 → Nat :=
  let c0_9 : Index := 0#32
  let c256_i32 : BitVec 32 := 256#32
  let c0_i32_3 : BitVec 32 := 0#32
  let c1_i32_4 : BitVec 32 := 1#32
  let arg12 : BitVec 32 := Scf.iv c0_i32_3 c1_i32_4 k0_t1
  let v10 : BitVec 32 := Scalar.muli c256_i32 arg12
  let v11 : BitVec 32 := v10
  let v12 : Index := Scalar.indexCast v11
  ![0, v12.toNat]
def k0_mult2 (k0_t1 : Fin k0_t1_loop.trips) : BitVec 32 :=
  let c8_i32_31 : BitVec 32 := 8#32
  let c0_i32_3 : BitVec 32 := 0#32
  let c1_i32_4 : BitVec 32 := 1#32
  let arg12 : BitVec 32 := Scf.iv c0_i32_3 c1_i32_4 k0_t1
  let v105 : BitVec 32 := Scalar.muli c8_i32_31 arg12
  v105
def k0_off2 (k0_t1 : Fin k0_t1_loop.trips) : Fin 2 → Nat :=
  let c8_i32_31 : BitVec 32 := 8#32
  let c0_i32_3 : BitVec 32 := 0#32
  let c1_i32_4 : BitVec 32 := 1#32
  let arg12 : BitVec 32 := Scf.iv c0_i32_3 c1_i32_4 k0_t1
  let v105 : BitVec 32 := Scalar.muli c8_i32_31 arg12
  let v106 : BitVec 32 := v105
  let v107 : Index := Scalar.indexCast v106
  let c0_32 : Index := 0#32
  ![v107.toNat, 0]
@[reducible] def k0_t2_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult3 (k0_t2 : Fin k0_t2_loop.trips) : BitVec 32 :=
  let c0_i32_1 : BitVec 32 := 0#32
  let c1_i32 : BitVec 32 := 1#32
  let arg12 : BitVec 32 := Scf.iv c0_i32_1 c1_i32 k0_t2
  let c512_i32 : BitVec 32 := 512#32
  let v4 : BitVec 32 := Scalar.muli arg12 c512_i32
  v4
def k0_off3 (k0_t2 : Fin k0_t2_loop.trips) : Fin 2 → Nat :=
  let c0_i32_1 : BitVec 32 := 0#32
  let c1_i32 : BitVec 32 := 1#32
  let arg12 : BitVec 32 := Scf.iv c0_i32_1 c1_i32 k0_t2
  let c512_i32 : BitVec 32 := 512#32
  let v4 : BitVec 32 := Scalar.muli arg12 c512_i32
  let v5 : BitVec 32 := v4
  let v6 : Index := Scalar.indexCast v5
  let c0 : Index := 0#32
  ![v6.toNat, 0]
@[reducible] def k0_t3_loop : Scf.Loop 32 :=
  let c0_i32_951 : BitVec 32 := 0#32
  let c14_i32 : BitVec 32 := 14#32
  let v1498 : BitVec 32 := Scalar.addi c0_i32_951 c14_i32
  let c1_i32_952 : BitVec 32 := 1#32
  ⟨c0_i32_951, v1498, c1_i32_952⟩
def k0_mult4 (k0_t3 : Fin k0_t3_loop.trips) : BitVec 32 :=
  let c384_i32 : BitVec 32 := 384#32
  let c0_i32_951 : BitVec 32 := 0#32
  let c1_i32_952 : BitVec 32 := 1#32
  let arg13 : BitVec 32 := Scf.iv c0_i32_951 c1_i32_952 k0_t3
  let v1505 : BitVec 32 := Scalar.muli c384_i32 arg13
  v1505
def k0_off4 (k0_t2 : Fin k0_t2_loop.trips) (k0_t3 : Fin k0_t3_loop.trips) : Fin 2 → Nat :=
  let c0_i32_1 : BitVec 32 := 0#32
  let c1_i32 : BitVec 32 := 1#32
  let arg12 : BitVec 32 := Scf.iv c0_i32_1 c1_i32 k0_t2
  let c512_i32 : BitVec 32 := 512#32
  let v4 : BitVec 32 := Scalar.muli arg12 c512_i32
  let v5 : BitVec 32 := v4
  let v1507 : Index := Scalar.indexCast v5
  let c384_i32 : BitVec 32 := 384#32
  let c0_i32_951 : BitVec 32 := 0#32
  let c1_i32_952 : BitVec 32 := 1#32
  let arg13 : BitVec 32 := Scf.iv c0_i32_951 c1_i32_952 k0_t3
  let v1505 : BitVec 32 := Scalar.muli c384_i32 arg13
  let v1506 : BitVec 32 := v1505
  let v1508 : Index := Scalar.indexCast v1506
  ![v1507.toNat, v1508.toNat]
def k0_off5 (k0_t3 : Fin k0_t3_loop.trips) : Fin 4 → Nat :=
  let c0_i32_951 : BitVec 32 := 0#32
  let c1_i32_952 : BitVec 32 := 1#32
  let arg13 : BitVec 32 := Scf.iv c0_i32_951 c1_i32_952 k0_t3
  let v1513 : Index := Scalar.indexCast arg13
  let c0_956 : Index := 0#32
  let c0_957 : Index := 0#32
  let c0_958 : Index := 0#32
  ![v1513.toNat, 0, 0, 0]
def k0_off6 (k0_t3 : Fin k0_t3_loop.trips) : Fin 4 → Nat :=
  let c0_i32_951 : BitVec 32 := 0#32
  let c1_i32_952 : BitVec 32 := 1#32
  let arg13 : BitVec 32 := Scf.iv c0_i32_951 c1_i32_952 k0_t3
  let v1518 : Index := Scalar.indexCast arg13
  let c1_959 : Index := 1#32
  let c0_960 : Index := 0#32
  let c0_961 : Index := 0#32
  ![v1518.toNat, 1, 0, 0]
def k0_off7 (k0_t3 : Fin k0_t3_loop.trips) : Fin 4 → Nat :=
  let c0_i32_951 : BitVec 32 := 0#32
  let c1_i32_952 : BitVec 32 := 1#32
  let arg13 : BitVec 32 := Scf.iv c0_i32_951 c1_i32_952 k0_t3
  let v1523 : Index := Scalar.indexCast arg13
  let c2_962 : Index := 2#32
  let c0_963 : Index := 0#32
  let c0_964 : Index := 0#32
  ![v1523.toNat, 2, 0, 0]
def k0_off8 (k0_t3 : Fin k0_t3_loop.trips) : Fin 4 → Nat :=
  let c0_i32_951 : BitVec 32 := 0#32
  let c1_i32_952 : BitVec 32 := 1#32
  let arg13 : BitVec 32 := Scf.iv c0_i32_951 c1_i32_952 k0_t3
  let v1528 : Index := Scalar.indexCast arg13
  let c3_965 : Index := 3#32
  let c0_966 : Index := 0#32
  let c0_967 : Index := 0#32
  ![v1528.toNat, 3, 0, 0]
@[reducible] def k0_t4_loop : Scf.Loop 32 :=
  let c0_i32_968 : BitVec 32 := 0#32
  let c2_i32_969 : BitVec 32 := 2#32
  let v1532 : BitVec 32 := Scalar.addi c0_i32_968 c2_i32_969
  let c1_i32_970 : BitVec 32 := 1#32
  ⟨c0_i32_968, v1532, c1_i32_970⟩
def k0_mult5 (k0_t3 : Fin k0_t3_loop.trips) (k0_t4 : Fin k0_t4_loop.trips) : BitVec 32 :=
  let c16_i32_973 : BitVec 32 := 16#32
  let c2_i32_972 : BitVec 32 := 2#32
  let c0_i32_951 : BitVec 32 := 0#32
  let c1_i32_952 : BitVec 32 := 1#32
  let arg13 : BitVec 32 := Scf.iv c0_i32_951 c1_i32_952 k0_t3
  let v1534 : BitVec 32 := Scalar.muli c2_i32_972 arg13
  let c0_i32_968 : BitVec 32 := 0#32
  let c1_i32_970 : BitVec 32 := 1#32
  let arg15 : BitVec 32 := Scf.iv c0_i32_968 c1_i32_970 k0_t4
  let v1535 : BitVec 32 := Scalar.addi v1534 arg15
  let v1536 : BitVec 32 := Scalar.muli c16_i32_973 v1535
  v1536
def k0_off9 (k0_t3 : Fin k0_t3_loop.trips) (k0_t4 : Fin k0_t4_loop.trips) : Fin 3 → Nat :=
  let c0_974 : Index := 0#32
  let c16_i32_973 : BitVec 32 := 16#32
  let c2_i32_972 : BitVec 32 := 2#32
  let c0_i32_951 : BitVec 32 := 0#32
  let c1_i32_952 : BitVec 32 := 1#32
  let arg13 : BitVec 32 := Scf.iv c0_i32_951 c1_i32_952 k0_t3
  let v1534 : BitVec 32 := Scalar.muli c2_i32_972 arg13
  let c0_i32_968 : BitVec 32 := 0#32
  let c1_i32_970 : BitVec 32 := 1#32
  let arg15 : BitVec 32 := Scf.iv c0_i32_968 c1_i32_970 k0_t4
  let v1535 : BitVec 32 := Scalar.addi v1534 arg15
  let v1536 : BitVec 32 := Scalar.muli c16_i32_973 v1535
  let v1537 : BitVec 32 := v1536
  let v1538 : Index := Scalar.indexCast v1537
  let c0_975 : Index := 0#32
  ![0, v1538.toNat, 0]
def k0_off10 (k0_t3 : Fin k0_t3_loop.trips) (k0_t4 : Fin k0_t4_loop.trips) (c0_i32_976 : BitVec 32) (c0_i32_977 : BitVec 32) : Fin 4 → Nat :=
  let c0_i32_951 : BitVec 32 := 0#32
  let c1_i32_952 : BitVec 32 := 1#32
  let arg13 : BitVec 32 := Scf.iv c0_i32_951 c1_i32_952 k0_t3
  let v1545 : Index := Scalar.indexCast arg13
  let c0_978 : Index := 0#32
  let c48_i32 : BitVec 32 := 48#32
  let c0_i32_968 : BitVec 32 := 0#32
  let c1_i32_970 : BitVec 32 := 1#32
  let arg15 : BitVec 32 := Scf.iv c0_i32_968 c1_i32_970 k0_t4
  let v1542 : BitVec 32 := Scalar.muli c48_i32 arg15
  let v1543 : BitVec 32 := Scalar.addi v1542 c0_i32_976
  let v1544 : BitVec 32 := Scalar.addi v1543 c0_i32_977
  let v1546 : Index := Scalar.indexCast v1544
  let c0_979 : Index := 0#32
  ![v1545.toNat, 0, v1546.toNat, 0]
def k0_mult6 (k0_t3 : Fin k0_t3_loop.trips) (k0_t4 : Fin k0_t4_loop.trips) : BitVec 32 :=
  let c16_i32_1045 : BitVec 32 := 16#32
  let c2_i32_972 : BitVec 32 := 2#32
  let c0_i32_951 : BitVec 32 := 0#32
  let c1_i32_952 : BitVec 32 := 1#32
  let arg13 : BitVec 32 := Scf.iv c0_i32_951 c1_i32_952 k0_t3
  let v1534 : BitVec 32 := Scalar.muli c2_i32_972 arg13
  let c0_i32_968 : BitVec 32 := 0#32
  let c1_i32_970 : BitVec 32 := 1#32
  let arg15 : BitVec 32 := Scf.iv c0_i32_968 c1_i32_970 k0_t4
  let v1535 : BitVec 32 := Scalar.addi v1534 arg15
  let v1741 : BitVec 32 := Scalar.muli c16_i32_1045 v1535
  v1741
def k0_off11 (k0_t3 : Fin k0_t3_loop.trips) (k0_t4 : Fin k0_t4_loop.trips) : Fin 3 → Nat :=
  let c1_1046 : Index := 1#32
  let c16_i32_1045 : BitVec 32 := 16#32
  let c2_i32_972 : BitVec 32 := 2#32
  let c0_i32_951 : BitVec 32 := 0#32
  let c1_i32_952 : BitVec 32 := 1#32
  let arg13 : BitVec 32 := Scf.iv c0_i32_951 c1_i32_952 k0_t3
  let v1534 : BitVec 32 := Scalar.muli c2_i32_972 arg13
  let c0_i32_968 : BitVec 32 := 0#32
  let c1_i32_970 : BitVec 32 := 1#32
  let arg15 : BitVec 32 := Scf.iv c0_i32_968 c1_i32_970 k0_t4
  let v1535 : BitVec 32 := Scalar.addi v1534 arg15
  let v1741 : BitVec 32 := Scalar.muli c16_i32_1045 v1535
  let v1742 : BitVec 32 := v1741
  let v1743 : Index := Scalar.indexCast v1742
  let c0_1047 : Index := 0#32
  ![1, v1743.toNat, 0]
def k0_off12 (k0_t3 : Fin k0_t3_loop.trips) (k0_t4 : Fin k0_t4_loop.trips) (c0_i32_1049 : BitVec 32) (c0_i32_1050 : BitVec 32) : Fin 4 → Nat :=
  let c0_i32_951 : BitVec 32 := 0#32
  let c1_i32_952 : BitVec 32 := 1#32
  let arg13 : BitVec 32 := Scf.iv c0_i32_951 c1_i32_952 k0_t3
  let v1750 : Index := Scalar.indexCast arg13
  let c1_1051 : Index := 1#32
  let c48_i32_1048 : BitVec 32 := 48#32
  let c0_i32_968 : BitVec 32 := 0#32
  let c1_i32_970 : BitVec 32 := 1#32
  let arg15 : BitVec 32 := Scf.iv c0_i32_968 c1_i32_970 k0_t4
  let v1747 : BitVec 32 := Scalar.muli c48_i32_1048 arg15
  let v1748 : BitVec 32 := Scalar.addi v1747 c0_i32_1049
  let v1749 : BitVec 32 := Scalar.addi v1748 c0_i32_1050
  let v1751 : Index := Scalar.indexCast v1749
  let c0_1052 : Index := 0#32
  ![v1750.toNat, 1, v1751.toNat, 0]
def k0_mult7 (k0_t3 : Fin k0_t3_loop.trips) (k0_t4 : Fin k0_t4_loop.trips) : BitVec 32 :=
  let c16_i32_1128 : BitVec 32 := 16#32
  let c2_i32_972 : BitVec 32 := 2#32
  let c0_i32_951 : BitVec 32 := 0#32
  let c1_i32_952 : BitVec 32 := 1#32
  let arg13 : BitVec 32 := Scf.iv c0_i32_951 c1_i32_952 k0_t3
  let v1534 : BitVec 32 := Scalar.muli c2_i32_972 arg13
  let c0_i32_968 : BitVec 32 := 0#32
  let c1_i32_970 : BitVec 32 := 1#32
  let arg15 : BitVec 32 := Scf.iv c0_i32_968 c1_i32_970 k0_t4
  let v1535 : BitVec 32 := Scalar.addi v1534 arg15
  let v1946 : BitVec 32 := Scalar.muli c16_i32_1128 v1535
  v1946
def k0_off13 (k0_t3 : Fin k0_t3_loop.trips) (k0_t4 : Fin k0_t4_loop.trips) : Fin 3 → Nat :=
  let c2_1129 : Index := 2#32
  let c16_i32_1128 : BitVec 32 := 16#32
  let c2_i32_972 : BitVec 32 := 2#32
  let c0_i32_951 : BitVec 32 := 0#32
  let c1_i32_952 : BitVec 32 := 1#32
  let arg13 : BitVec 32 := Scf.iv c0_i32_951 c1_i32_952 k0_t3
  let v1534 : BitVec 32 := Scalar.muli c2_i32_972 arg13
  let c0_i32_968 : BitVec 32 := 0#32
  let c1_i32_970 : BitVec 32 := 1#32
  let arg15 : BitVec 32 := Scf.iv c0_i32_968 c1_i32_970 k0_t4
  let v1535 : BitVec 32 := Scalar.addi v1534 arg15
  let v1946 : BitVec 32 := Scalar.muli c16_i32_1128 v1535
  let v1947 : BitVec 32 := v1946
  let v1948 : Index := Scalar.indexCast v1947
  let c0_1130 : Index := 0#32
  ![2, v1948.toNat, 0]
def k0_off14 (k0_t3 : Fin k0_t3_loop.trips) (k0_t4 : Fin k0_t4_loop.trips) (c0_i32_1132 : BitVec 32) (c0_i32_1133 : BitVec 32) : Fin 4 → Nat :=
  let c0_i32_951 : BitVec 32 := 0#32
  let c1_i32_952 : BitVec 32 := 1#32
  let arg13 : BitVec 32 := Scf.iv c0_i32_951 c1_i32_952 k0_t3
  let v1955 : Index := Scalar.indexCast arg13
  let c2_1134 : Index := 2#32
  let c48_i32_1131 : BitVec 32 := 48#32
  let c0_i32_968 : BitVec 32 := 0#32
  let c1_i32_970 : BitVec 32 := 1#32
  let arg15 : BitVec 32 := Scf.iv c0_i32_968 c1_i32_970 k0_t4
  let v1952 : BitVec 32 := Scalar.muli c48_i32_1131 arg15
  let v1953 : BitVec 32 := Scalar.addi v1952 c0_i32_1132
  let v1954 : BitVec 32 := Scalar.addi v1953 c0_i32_1133
  let v1956 : Index := Scalar.indexCast v1954
  let c0_1135 : Index := 0#32
  ![v1955.toNat, 2, v1956.toNat, 0]
def k0_mult8 (k0_t3 : Fin k0_t3_loop.trips) (k0_t4 : Fin k0_t4_loop.trips) : BitVec 32 :=
  let c16_i32_1211 : BitVec 32 := 16#32
  let c2_i32_972 : BitVec 32 := 2#32
  let c0_i32_951 : BitVec 32 := 0#32
  let c1_i32_952 : BitVec 32 := 1#32
  let arg13 : BitVec 32 := Scf.iv c0_i32_951 c1_i32_952 k0_t3
  let v1534 : BitVec 32 := Scalar.muli c2_i32_972 arg13
  let c0_i32_968 : BitVec 32 := 0#32
  let c1_i32_970 : BitVec 32 := 1#32
  let arg15 : BitVec 32 := Scf.iv c0_i32_968 c1_i32_970 k0_t4
  let v1535 : BitVec 32 := Scalar.addi v1534 arg15
  let v2151 : BitVec 32 := Scalar.muli c16_i32_1211 v1535
  v2151
def k0_off15 (k0_t3 : Fin k0_t3_loop.trips) (k0_t4 : Fin k0_t4_loop.trips) : Fin 3 → Nat :=
  let c3_1212 : Index := 3#32
  let c16_i32_1211 : BitVec 32 := 16#32
  let c2_i32_972 : BitVec 32 := 2#32
  let c0_i32_951 : BitVec 32 := 0#32
  let c1_i32_952 : BitVec 32 := 1#32
  let arg13 : BitVec 32 := Scf.iv c0_i32_951 c1_i32_952 k0_t3
  let v1534 : BitVec 32 := Scalar.muli c2_i32_972 arg13
  let c0_i32_968 : BitVec 32 := 0#32
  let c1_i32_970 : BitVec 32 := 1#32
  let arg15 : BitVec 32 := Scf.iv c0_i32_968 c1_i32_970 k0_t4
  let v1535 : BitVec 32 := Scalar.addi v1534 arg15
  let v2151 : BitVec 32 := Scalar.muli c16_i32_1211 v1535
  let v2152 : BitVec 32 := v2151
  let v2153 : Index := Scalar.indexCast v2152
  let c0_1213 : Index := 0#32
  ![3, v2153.toNat, 0]
def k0_off16 (k0_t3 : Fin k0_t3_loop.trips) (k0_t4 : Fin k0_t4_loop.trips) (c0_i32_1215 : BitVec 32) (c0_i32_1216 : BitVec 32) : Fin 4 → Nat :=
  let c0_i32_951 : BitVec 32 := 0#32
  let c1_i32_952 : BitVec 32 := 1#32
  let arg13 : BitVec 32 := Scf.iv c0_i32_951 c1_i32_952 k0_t3
  let v2160 : Index := Scalar.indexCast arg13
  let c3_1217 : Index := 3#32
  let c48_i32_1214 : BitVec 32 := 48#32
  let c0_i32_968 : BitVec 32 := 0#32
  let c1_i32_970 : BitVec 32 := 1#32
  let arg15 : BitVec 32 := Scf.iv c0_i32_968 c1_i32_970 k0_t4
  let v2157 : BitVec 32 := Scalar.muli c48_i32_1214 arg15
  let v2158 : BitVec 32 := Scalar.addi v2157 c0_i32_1215
  let v2159 : BitVec 32 := Scalar.addi v2158 c0_i32_1216
  let v2161 : Index := Scalar.indexCast v2159
  let c0_1218 : Index := 0#32
  ![v2160.toNat, 3, v2161.toNat, 0]
def k0_mult9 (k0_t3 : Fin k0_t3_loop.trips) (k0_t4 : Fin k0_t4_loop.trips) : BitVec 32 :=
  let c256_i32 : BitVec 32 := 256#32
  let c2_i32_972 : BitVec 32 := 2#32
  let c0_i32_951 : BitVec 32 := 0#32
  let c1_i32_952 : BitVec 32 := 1#32
  let arg13 : BitVec 32 := Scf.iv c0_i32_951 c1_i32_952 k0_t3
  let v1534 : BitVec 32 := Scalar.muli c2_i32_972 arg13
  let c0_i32_968 : BitVec 32 := 0#32
  let c1_i32_970 : BitVec 32 := 1#32
  let arg15 : BitVec 32 := Scf.iv c0_i32_968 c1_i32_970 k0_t4
  let v1535 : BitVec 32 := Scalar.addi v1534 arg15
  let v2357 : BitVec 32 := Scalar.muli c256_i32 v1535
  v2357
def k0_off17 (k0_t3 : Fin k0_t3_loop.trips) (k0_t4 : Fin k0_t4_loop.trips) : Fin 2 → Nat :=
  let c0_1294 : Index := 0#32
  let c256_i32 : BitVec 32 := 256#32
  let c2_i32_972 : BitVec 32 := 2#32
  let c0_i32_951 : BitVec 32 := 0#32
  let c1_i32_952 : BitVec 32 := 1#32
  let arg13 : BitVec 32 := Scf.iv c0_i32_951 c1_i32_952 k0_t3
  let v1534 : BitVec 32 := Scalar.muli c2_i32_972 arg13
  let c0_i32_968 : BitVec 32 := 0#32
  let c1_i32_970 : BitVec 32 := 1#32
  let arg15 : BitVec 32 := Scf.iv c0_i32_968 c1_i32_970 k0_t4
  let v1535 : BitVec 32 := Scalar.addi v1534 arg15
  let v2357 : BitVec 32 := Scalar.muli c256_i32 v1535
  let v2358 : BitVec 32 := v2357
  let v2359 : Index := Scalar.indexCast v2358
  ![0, v2359.toNat]
def k0_off18 (k0_t2 : Fin k0_t2_loop.trips) : Fin 2 → Nat :=
  let c0_955 : Index := 0#32
  let c0_i32_1 : BitVec 32 := 0#32
  let c1_i32 : BitVec 32 := 1#32
  let arg12 : BitVec 32 := Scf.iv c0_i32_1 c1_i32 k0_t2
  let c512_i32 : BitVec 32 := 512#32
  let v4 : BitVec 32 := Scalar.muli arg12 c512_i32
  let v5 : BitVec 32 := v4
  let v1503 : Index := Scalar.indexCast v5
  ![0, v1503.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x5376 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x224 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x7168 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x224 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x128x7168 : Shape := ⟨3, ![1, 128, 7168]⟩
abbrev S18432x5376 : Shape := ⟨2, ![18432, 5376]⟩
abbrev S18432x224 : Shape := ⟨2, ![18432, 224]⟩
abbrev S1x128x224x32 : Shape := ⟨4, ![1, 128, 224, 32]⟩
abbrev S_ : Shape := ⟨0, ![]⟩
abbrev S1x128x224 : Shape := ⟨3, ![1, 128, 224]⟩
abbrev S1x128x224x1 : Shape := ⟨4, ![1, 128, 224, 1]⟩
abbrev S1x128x1792x4 : Shape := ⟨4, ![1, 128, 1792, 4]⟩
abbrev S18432x1792x3 : Shape := ⟨3, ![18432, 1792, 3]⟩
abbrev S18432x1792x1 : Shape := ⟨3, ![18432, 1792, 1]⟩
abbrev S18432x1792 : Shape := ⟨2, ![18432, 1792]⟩
abbrev S18432x224x1 : Shape := ⟨3, ![18432, 224, 1]⟩
abbrev S18432x224x8 : Shape := ⟨3, ![18432, 224, 8]⟩
abbrev S1x128x1792x1 : Shape := ⟨4, ![1, 128, 1792, 1]⟩
abbrev S1x128x1792 : Shape := ⟨3, ![1, 128, 1792]⟩
abbrev S1x128x18432 : Shape := ⟨3, ![1, 128, 18432]⟩

abbrev nBuf : Space → Nat
  | .hbm => 424
  | .vmem => 0
  | .smem => 0
  | _ => 0

abbrev hbmTy0_0 (i : Nat) : BufTy := match i % 128 with
  | 0 => ⟨S1x128x7168, .bf16⟩
  | 1 => ⟨S18432x5376, .i8⟩
  | 2 => ⟨S18432x224, .i8⟩
  | 3 => ⟨S1x128x7168, .f32⟩
  | 4 => ⟨S1x128x224x32, .f32⟩
  | 5 => ⟨S1x128x224x32, .f32⟩
  | 6 => ⟨S_, .f32⟩
  | 7 => ⟨S1x128x224, .f32⟩
  | 8 => ⟨S_, .f32⟩
  | 9 => ⟨S1x128x224, .f32⟩
  | 10 => ⟨S1x128x224, .i1⟩
  | 11 => ⟨S1x128x224, .f32⟩
  | 12 => ⟨S_, .f32⟩
  | 13 => ⟨S1x128x224, .f32⟩
  | 14 => ⟨S1x128x224, .f32⟩
  | 15 => ⟨S1x128x224, .f32⟩
  | 16 => ⟨S1x128x224, .f32⟩
  | 17 => ⟨S1x128x224, .i32⟩
  | 18 => ⟨S_, .i32⟩
  | 19 => ⟨S1x128x224, .i32⟩
  | 20 => ⟨S1x128x224, .i32⟩
  | 21 => ⟨S_, .i32⟩
  | 22 => ⟨S1x128x224, .i32⟩
  | 23 => ⟨S1x128x224, .i32⟩
  | 24 => ⟨S_, .i32⟩
  | 25 => ⟨S1x128x224, .i32⟩
  | 26 => ⟨S1x128x224, .i32⟩
  | 27 => ⟨S1x128x224, .i32⟩
  | 28 => ⟨S_, .f32⟩
  | 29 => ⟨S1x128x224, .f32⟩
  | 30 => ⟨S1x128x224, .f32⟩
  | 31 => ⟨S1x128x224, .f32⟩
  | 32 => ⟨S1x128x224x1, .f32⟩
  | 33 => ⟨S1x128x224x32, .f32⟩
  | 34 => ⟨S1x128x224x32, .f32⟩
  | 35 => ⟨S1x128x224x32, .f32⟩
  | 36 => ⟨S_, .f32⟩
  | 37 => ⟨S1x128x224x32, .f32⟩
  | 38 => ⟨S1x128x224x32, .i1⟩
  | 39 => ⟨S1x128x224x32, .f32⟩
  | 40 => ⟨S_, .f32⟩
  | 41 => ⟨S1x128x224x32, .f32⟩
  | 42 => ⟨S1x128x224x32, .f32⟩
  | 43 => ⟨S1x128x224x32, .f32⟩
  | 44 => ⟨S1x128x224x32, .f32⟩
  | 45 => ⟨S1x128x224x32, .i32⟩
  | 46 => ⟨S_, .i32⟩
  | 47 => ⟨S1x128x224x32, .i32⟩
  | 48 => ⟨S1x128x224x32, .i32⟩
  | 49 => ⟨S_, .i32⟩
  | 50 => ⟨S1x128x224x32, .i32⟩
  | 51 => ⟨S1x128x224x32, .i32⟩
  | 52 => ⟨S_, .i32⟩
  | 53 => ⟨S1x128x224x32, .i32⟩
  | 54 => ⟨S1x128x224x32, .i32⟩
  | 55 => ⟨S1x128x224x32, .i32⟩
  | 56 => ⟨S_, .f32⟩
  | 57 => ⟨S1x128x224x32, .f32⟩
  | 58 => ⟨S1x128x224x32, .f32⟩
  | 59 => ⟨S1x128x224x32, .f32⟩
  | 60 => ⟨S1x128x224x32, .f32⟩
  | 61 => ⟨S1x128x224x32, .f32⟩
  | 62 => ⟨S_, .f32⟩
  | 63 => ⟨S1x128x224x32, .f32⟩
  | 64 => ⟨S1x128x224x32, .f32⟩
  | 65 => ⟨S1x128x224x32, .f32⟩
  | 66 => ⟨S1x128x224x32, .f32⟩
  | 67 => ⟨S_, .f32⟩
  | 68 => ⟨S1x128x224x32, .f32⟩
  | 69 => ⟨S1x128x224x32, .f32⟩
  | 70 => ⟨S_, .f32⟩
  | 71 => ⟨S1x128x224x32, .f32⟩
  | 72 => ⟨S1x128x224x32, .i1⟩
  | 73 => ⟨S1x128x224x32, .f32⟩
  | 74 => ⟨S_, .f32⟩
  | 75 => ⟨S1x128x224x32, .f32⟩
  | 76 => ⟨S1x128x224x32, .f32⟩
  | 77 => ⟨S1x128x224x32, .f32⟩
  | 78 => ⟨S1x128x224x32, .f32⟩
  | 79 => ⟨S1x128x224x32, .i32⟩
  | 80 => ⟨S_, .i32⟩
  | 81 => ⟨S1x128x224x32, .i32⟩
  | 82 => ⟨S1x128x224x32, .i32⟩
  | 83 => ⟨S_, .i32⟩
  | 84 => ⟨S1x128x224x32, .i32⟩
  | 85 => ⟨S1x128x224x32, .i32⟩
  | 86 => ⟨S_, .f32⟩
  | 87 => ⟨S1x128x224x32, .f32⟩
  | 88 => ⟨S1x128x224x32, .i1⟩
  | 89 => ⟨S1x128x224x32, .i32⟩
  | 90 => ⟨S_, .i32⟩
  | 91 => ⟨S1x128x224x32, .i32⟩
  | 92 => ⟨S1x128x224x32, .i32⟩
  | 93 => ⟨S_, .i32⟩
  | 94 => ⟨S1x128x224x32, .i32⟩
  | 95 => ⟨S1x128x224x32, .i32⟩
  | 96 => ⟨S_, .i32⟩
  | 97 => ⟨S1x128x224x32, .i32⟩
  | 98 => ⟨S1x128x224x32, .i32⟩
  | 99 => ⟨S1x128x224x32, .i32⟩
  | 100 => ⟨S_, .i32⟩
  | 101 => ⟨S1x128x224x32, .i32⟩
  | 102 => ⟨S1x128x224x32, .i32⟩
  | 103 => ⟨S_, .i32⟩
  | 104 => ⟨S1x128x224x32, .i32⟩
  | 105 => ⟨S1x128x224x32, .i32⟩
  | 106 => ⟨S_, .f32⟩
  | 107 => ⟨S1x128x224x32, .f32⟩
  | 108 => ⟨S1x128x224x32, .f32⟩
  | 109 => ⟨S1x128x224x32, .f32⟩
  | 110 => ⟨S1x128x224x32, .f32⟩
  | 111 => ⟨S1x128x224x32, .i32⟩
  | 112 => ⟨S1x128x224x32, .i32⟩
  | 113 => ⟨S_, .f32⟩
  | 114 => ⟨S1x128x224x32, .f32⟩
  | 115 => ⟨S1x128x224x32, .i1⟩
  | 116 => ⟨S_, .f32⟩
  | 117 => ⟨S1x128x224x32, .f32⟩
  | 118 => ⟨S1x128x224x32, .i1⟩
  | 119 => ⟨S1x128x224x32, .i1⟩
  | 120 => ⟨S1x128x224x32, .i32⟩
  | 121 => ⟨S_, .i32⟩
  | 122 => ⟨S1x128x224x32, .i32⟩
  | 123 => ⟨S1x128x224x32, .i32⟩
  | 124 => ⟨S1x128x224x32, .i32⟩
  | 125 => ⟨S1x128x7168, .i32⟩
  | 126 => ⟨S1x128x7168, .i8⟩
  | 127 => ⟨S1x128x224, .i8⟩
  | _ => ⟨S1x128x7168, .bf16⟩

abbrev hbmTy0_1 (i : Nat) : BufTy := match i % 128 with
  | 0 => ⟨S1x128x7168, .i32⟩
  | 1 => ⟨S_, .i32⟩
  | 2 => ⟨S1x128x7168, .i32⟩
  | 3 => ⟨S1x128x7168, .i32⟩
  | 4 => ⟨S_, .i32⟩
  | 5 => ⟨S1x128x7168, .i32⟩
  | 6 => ⟨S1x128x7168, .i32⟩
  | 7 => ⟨S_, .i32⟩
  | 8 => ⟨S1x128x7168, .i32⟩
  | 9 => ⟨S1x128x7168, .i32⟩
  | 10 => ⟨S_, .i32⟩
  | 11 => ⟨S1x128x7168, .i32⟩
  | 12 => ⟨S1x128x7168, .i32⟩
  | 13 => ⟨S_, .i32⟩
  | 14 => ⟨S1x128x7168, .i32⟩
  | 15 => ⟨S1x128x7168, .i32⟩
  | 16 => ⟨S_, .i32⟩
  | 17 => ⟨S1x128x7168, .i32⟩
  | 18 => ⟨S1x128x7168, .i1⟩
  | 19 => ⟨S_, .i32⟩
  | 20 => ⟨S1x128x7168, .i32⟩
  | 21 => ⟨S1x128x7168, .i32⟩
  | 22 => ⟨S1x128x7168, .i32⟩
  | 23 => ⟨S1x128x7168, .f32⟩
  | 24 => ⟨S_, .i32⟩
  | 25 => ⟨S1x128x7168, .i32⟩
  | 26 => ⟨S1x128x7168, .i32⟩
  | 27 => ⟨S_, .i32⟩
  | 28 => ⟨S1x128x7168, .i32⟩
  | 29 => ⟨S1x128x7168, .i32⟩
  | 30 => ⟨S_, .f32⟩
  | 31 => ⟨S1x128x7168, .f32⟩
  | 32 => ⟨S1x128x7168, .f32⟩
  | 33 => ⟨S1x128x7168, .f32⟩
  | 34 => ⟨S1x128x7168, .f32⟩
  | 35 => ⟨S1x128x7168, .f32⟩
  | 36 => ⟨S_, .f32⟩
  | 37 => ⟨S1x128x7168, .f32⟩
  | 38 => ⟨S1x128x7168, .f32⟩
  | 39 => ⟨S_, .f32⟩
  | 40 => ⟨S1x128x7168, .f32⟩
  | 41 => ⟨S1x128x7168, .f32⟩
  | 42 => ⟨S1x128x7168, .f32⟩
  | 43 => ⟨S1x128x7168, .bf16⟩
  | 44 => ⟨S1x128x224, .i32⟩
  | 45 => ⟨S_, .i32⟩
  | 46 => ⟨S1x128x224, .i32⟩
  | 47 => ⟨S1x128x224, .i32⟩
  | 48 => ⟨S_, .f32⟩
  | 49 => ⟨S1x128x224, .f32⟩
  | 50 => ⟨S1x128x224, .f32⟩
  | 51 => ⟨S1x128x224, .f32⟩
  | 52 => ⟨S1x128x224, .bf16⟩
  | 53 => ⟨S1x128x224x32, .bf16⟩
  | 54 => ⟨S1x128x224x1, .bf16⟩
  | 55 => ⟨S1x128x224x32, .bf16⟩
  | 56 => ⟨S1x128x224x32, .bf16⟩
  | 57 => ⟨S1x128x1792x4, .bf16⟩
  | 58 => ⟨S18432x1792x3, .i8⟩
  | 59 => ⟨S18432x1792x3, .i32⟩
  | 60 => ⟨S18432x1792x1, .i32⟩
  | 61 => ⟨S18432x1792, .i32⟩
  | 62 => ⟨S18432x1792x1, .i32⟩
  | 63 => ⟨S18432x1792, .i32⟩
  | 64 => ⟨S18432x1792x1, .i32⟩
  | 65 => ⟨S18432x1792, .i32⟩
  | 66 => ⟨S_, .i32⟩
  | 67 => ⟨S18432x1792, .i32⟩
  | 68 => ⟨S18432x1792, .i32⟩
  | 69 => ⟨S_, .i32⟩
  | 70 => ⟨S18432x1792, .i32⟩
  | 71 => ⟨S18432x1792, .i32⟩
  | 72 => ⟨S_, .i32⟩
  | 73 => ⟨S18432x1792, .i32⟩
  | 74 => ⟨S18432x1792, .i32⟩
  | 75 => ⟨S_, .i32⟩
  | 76 => ⟨S18432x1792, .i32⟩
  | 77 => ⟨S18432x1792, .i32⟩
  | 78 => ⟨S18432x1792, .i32⟩
  | 79 => ⟨S_, .i32⟩
  | 80 => ⟨S18432x1792, .i32⟩
  | 81 => ⟨S18432x1792, .i32⟩
  | 82 => ⟨S_, .i32⟩
  | 83 => ⟨S18432x1792, .i32⟩
  | 84 => ⟨S18432x1792, .i32⟩
  | 85 => ⟨S_, .i32⟩
  | 86 => ⟨S18432x1792, .i32⟩
  | 87 => ⟨S18432x1792, .i32⟩
  | 88 => ⟨S18432x1792, .i32⟩
  | 89 => ⟨S_, .i32⟩
  | 90 => ⟨S18432x1792, .i32⟩
  | 91 => ⟨S18432x1792, .i32⟩
  | 92 => ⟨S18432x224, .i32⟩
  | 93 => ⟨S_, .i32⟩
  | 94 => ⟨S18432x224, .i32⟩
  | 95 => ⟨S18432x224, .i32⟩
  | 96 => ⟨S_, .f32⟩
  | 97 => ⟨S18432x224, .f32⟩
  | 98 => ⟨S18432x224, .f32⟩
  | 99 => ⟨S18432x224, .f32⟩
  | 100 => ⟨S18432x224, .bf16⟩
  | 101 => ⟨S18432x224x1, .bf16⟩
  | 102 => ⟨S18432x224x8, .bf16⟩
  | 103 => ⟨S18432x1792, .bf16⟩
  | 104 => ⟨S_, .i32⟩
  | 105 => ⟨S18432x1792, .i32⟩
  | 106 => ⟨S18432x1792, .i32⟩
  | 107 => ⟨S_, .i32⟩
  | 108 => ⟨S18432x1792, .i32⟩
  | 109 => ⟨S18432x1792, .i32⟩
  | 110 => ⟨S_, .i32⟩
  | 111 => ⟨S18432x1792, .i32⟩
  | 112 => ⟨S18432x1792, .i32⟩
  | 113 => ⟨S_, .i32⟩
  | 114 => ⟨S18432x1792, .i32⟩
  | 115 => ⟨S18432x1792, .i32⟩
  | 116 => ⟨S_, .i32⟩
  | 117 => ⟨S18432x1792, .i32⟩
  | 118 => ⟨S18432x1792, .i32⟩
  | 119 => ⟨S_, .i32⟩
  | 120 => ⟨S18432x1792, .i32⟩
  | 121 => ⟨S18432x1792, .i1⟩
  | 122 => ⟨S_, .i32⟩
  | 123 => ⟨S18432x1792, .i32⟩
  | 124 => ⟨S18432x1792, .i32⟩
  | 125 => ⟨S18432x1792, .i32⟩
  | 126 => ⟨S18432x1792, .f32⟩
  | 127 => ⟨S_, .i32⟩
  | _ => ⟨S1x128x7168, .bf16⟩

abbrev hbmTy0_2 (i : Nat) : BufTy := match i % 128 with
  | 0 => ⟨S18432x1792, .i32⟩
  | 1 => ⟨S18432x1792, .i32⟩
  | 2 => ⟨S_, .i32⟩
  | 3 => ⟨S18432x1792, .i32⟩
  | 4 => ⟨S18432x1792, .i32⟩
  | 5 => ⟨S_, .f32⟩
  | 6 => ⟨S18432x1792, .f32⟩
  | 7 => ⟨S18432x1792, .f32⟩
  | 8 => ⟨S18432x1792, .f32⟩
  | 9 => ⟨S18432x1792, .f32⟩
  | 10 => ⟨S18432x1792, .f32⟩
  | 11 => ⟨S_, .f32⟩
  | 12 => ⟨S18432x1792, .f32⟩
  | 13 => ⟨S18432x1792, .f32⟩
  | 14 => ⟨S_, .f32⟩
  | 15 => ⟨S18432x1792, .f32⟩
  | 16 => ⟨S18432x1792, .f32⟩
  | 17 => ⟨S18432x1792, .f32⟩
  | 18 => ⟨S18432x1792, .bf16⟩
  | 19 => ⟨S18432x1792, .bf16⟩
  | 20 => ⟨S1x128x1792x1, .bf16⟩
  | 21 => ⟨S1x128x1792, .bf16⟩
  | 22 => ⟨S1x128x18432, .f32⟩
  | 23 => ⟨S_, .i32⟩
  | 24 => ⟨S18432x1792, .i32⟩
  | 25 => ⟨S18432x1792, .i32⟩
  | 26 => ⟨S_, .i32⟩
  | 27 => ⟨S18432x1792, .i32⟩
  | 28 => ⟨S18432x1792, .i32⟩
  | 29 => ⟨S_, .i32⟩
  | 30 => ⟨S18432x1792, .i32⟩
  | 31 => ⟨S18432x1792, .i32⟩
  | 32 => ⟨S_, .i32⟩
  | 33 => ⟨S18432x1792, .i32⟩
  | 34 => ⟨S18432x1792, .i32⟩
  | 35 => ⟨S_, .i32⟩
  | 36 => ⟨S18432x1792, .i32⟩
  | 37 => ⟨S18432x1792, .i32⟩
  | 38 => ⟨S_, .i32⟩
  | 39 => ⟨S18432x1792, .i32⟩
  | 40 => ⟨S18432x1792, .i1⟩
  | 41 => ⟨S_, .i32⟩
  | 42 => ⟨S18432x1792, .i32⟩
  | 43 => ⟨S18432x1792, .i32⟩
  | 44 => ⟨S18432x1792, .i32⟩
  | 45 => ⟨S18432x1792, .f32⟩
  | 46 => ⟨S_, .i32⟩
  | 47 => ⟨S18432x1792, .i32⟩
  | 48 => ⟨S18432x1792, .i32⟩
  | 49 => ⟨S_, .i32⟩
  | 50 => ⟨S18432x1792, .i32⟩
  | 51 => ⟨S18432x1792, .i32⟩
  | 52 => ⟨S_, .f32⟩
  | 53 => ⟨S18432x1792, .f32⟩
  | 54 => ⟨S18432x1792, .f32⟩
  | 55 => ⟨S18432x1792, .f32⟩
  | 56 => ⟨S18432x1792, .f32⟩
  | 57 => ⟨S18432x1792, .f32⟩
  | 58 => ⟨S_, .f32⟩
  | 59 => ⟨S18432x1792, .f32⟩
  | 60 => ⟨S18432x1792, .f32⟩
  | 61 => ⟨S_, .f32⟩
  | 62 => ⟨S18432x1792, .f32⟩
  | 63 => ⟨S18432x1792, .f32⟩
  | 64 => ⟨S18432x1792, .f32⟩
  | 65 => ⟨S18432x1792, .bf16⟩
  | 66 => ⟨S18432x1792, .bf16⟩
  | 67 => ⟨S1x128x1792x1, .bf16⟩
  | 68 => ⟨S1x128x1792, .bf16⟩
  | 69 => ⟨S1x128x18432, .f32⟩
  | 70 => ⟨S1x128x18432, .f32⟩
  | 71 => ⟨S_, .i32⟩
  | 72 => ⟨S18432x1792, .i32⟩
  | 73 => ⟨S18432x1792, .i32⟩
  | 74 => ⟨S_, .i32⟩
  | 75 => ⟨S18432x1792, .i32⟩
  | 76 => ⟨S18432x1792, .i32⟩
  | 77 => ⟨S_, .i32⟩
  | 78 => ⟨S18432x1792, .i32⟩
  | 79 => ⟨S18432x1792, .i32⟩
  | 80 => ⟨S_, .i32⟩
  | 81 => ⟨S18432x1792, .i32⟩
  | 82 => ⟨S18432x1792, .i32⟩
  | 83 => ⟨S_, .i32⟩
  | 84 => ⟨S18432x1792, .i32⟩
  | 85 => ⟨S18432x1792, .i32⟩
  | 86 => ⟨S_, .i32⟩
  | 87 => ⟨S18432x1792, .i32⟩
  | 88 => ⟨S18432x1792, .i1⟩
  | 89 => ⟨S_, .i32⟩
  | 90 => ⟨S18432x1792, .i32⟩
  | 91 => ⟨S18432x1792, .i32⟩
  | 92 => ⟨S18432x1792, .i32⟩
  | 93 => ⟨S18432x1792, .f32⟩
  | 94 => ⟨S_, .i32⟩
  | 95 => ⟨S18432x1792, .i32⟩
  | 96 => ⟨S18432x1792, .i32⟩
  | 97 => ⟨S_, .i32⟩
  | 98 => ⟨S18432x1792, .i32⟩
  | 99 => ⟨S18432x1792, .i32⟩
  | 100 => ⟨S_, .f32⟩
  | 101 => ⟨S18432x1792, .f32⟩
  | 102 => ⟨S18432x1792, .f32⟩
  | 103 => ⟨S18432x1792, .f32⟩
  | 104 => ⟨S18432x1792, .f32⟩
  | 105 => ⟨S18432x1792, .f32⟩
  | 106 => ⟨S_, .f32⟩
  | 107 => ⟨S18432x1792, .f32⟩
  | 108 => ⟨S18432x1792, .f32⟩
  | 109 => ⟨S_, .f32⟩
  | 110 => ⟨S18432x1792, .f32⟩
  | 111 => ⟨S18432x1792, .f32⟩
  | 112 => ⟨S18432x1792, .f32⟩
  | 113 => ⟨S18432x1792, .bf16⟩
  | 114 => ⟨S18432x1792, .bf16⟩
  | 115 => ⟨S1x128x1792x1, .bf16⟩
  | 116 => ⟨S1x128x1792, .bf16⟩
  | 117 => ⟨S1x128x18432, .f32⟩
  | 118 => ⟨S1x128x18432, .f32⟩
  | 119 => ⟨S_, .i32⟩
  | 120 => ⟨S18432x1792, .i32⟩
  | 121 => ⟨S18432x1792, .i32⟩
  | 122 => ⟨S_, .i32⟩
  | 123 => ⟨S18432x1792, .i32⟩
  | 124 => ⟨S18432x1792, .i32⟩
  | 125 => ⟨S_, .i32⟩
  | 126 => ⟨S18432x1792, .i32⟩
  | 127 => ⟨S18432x1792, .i32⟩
  | _ => ⟨S1x128x7168, .bf16⟩

abbrev hbmTy0_3 (i : Nat) : BufTy := match i % 128 with
  | 0 => ⟨S_, .i32⟩
  | 1 => ⟨S18432x1792, .i32⟩
  | 2 => ⟨S18432x1792, .i32⟩
  | 3 => ⟨S_, .i32⟩
  | 4 => ⟨S18432x1792, .i32⟩
  | 5 => ⟨S18432x1792, .i32⟩
  | 6 => ⟨S_, .i32⟩
  | 7 => ⟨S18432x1792, .i32⟩
  | 8 => ⟨S18432x1792, .i1⟩
  | 9 => ⟨S_, .i32⟩
  | 10 => ⟨S18432x1792, .i32⟩
  | 11 => ⟨S18432x1792, .i32⟩
  | 12 => ⟨S18432x1792, .i32⟩
  | 13 => ⟨S18432x1792, .f32⟩
  | 14 => ⟨S_, .i32⟩
  | 15 => ⟨S18432x1792, .i32⟩
  | 16 => ⟨S18432x1792, .i32⟩
  | 17 => ⟨S_, .i32⟩
  | 18 => ⟨S18432x1792, .i32⟩
  | 19 => ⟨S18432x1792, .i32⟩
  | 20 => ⟨S_, .f32⟩
  | 21 => ⟨S18432x1792, .f32⟩
  | 22 => ⟨S18432x1792, .f32⟩
  | 23 => ⟨S18432x1792, .f32⟩
  | 24 => ⟨S18432x1792, .f32⟩
  | 25 => ⟨S18432x1792, .f32⟩
  | 26 => ⟨S_, .f32⟩
  | 27 => ⟨S18432x1792, .f32⟩
  | 28 => ⟨S18432x1792, .f32⟩
  | 29 => ⟨S_, .f32⟩
  | 30 => ⟨S18432x1792, .f32⟩
  | 31 => ⟨S18432x1792, .f32⟩
  | 32 => ⟨S18432x1792, .f32⟩
  | 33 => ⟨S18432x1792, .bf16⟩
  | 34 => ⟨S18432x1792, .bf16⟩
  | 35 => ⟨S1x128x1792x1, .bf16⟩
  | 36 => ⟨S1x128x1792, .bf16⟩
  | 37 => ⟨S1x128x18432, .f32⟩
  | 38 => ⟨S1x128x18432, .f32⟩
  | 39 => ⟨S1x128x18432, .bf16⟩
  | _ => ⟨S1x128x7168, .bf16⟩

abbrev hbmTy (i : Nat) : BufTy := match i / 128 with
  | 0 => hbmTy0_0 i
  | 1 => hbmTy0_1 i
  | 2 => hbmTy0_2 i
  | 3 => hbmTy0_3 i
  | _ => ⟨S1x128x7168, .bf16⟩

abbrev bufTy : (tb : Table) → Fin (tcTables nBuf tb) → BufTy
  | .hbm, ⟨i, _⟩ => hbmTy i
  | _, _ => ⟨S1x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_c_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_15 : Ref sig .tc := ⟨.hbm, 80, rfl⟩
abbrev main_v60 : Ref sig .tc := ⟨.hbm, 81, rfl⟩
abbrev main_v61 : Ref sig .tc := ⟨.hbm, 82, rfl⟩
abbrev main_c_16 : Ref sig .tc := ⟨.hbm, 83, rfl⟩
abbrev main_v62 : Ref sig .tc := ⟨.hbm, 84, rfl⟩
abbrev main_v63 : Ref sig .tc := ⟨.hbm, 85, rfl⟩
abbrev main_cst_17 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_18 : Ref sig .tc := ⟨.hbm, 90, rfl⟩
abbrev main_v67 : Ref sig .tc := ⟨.hbm, 91, rfl⟩
abbrev main_v68 : Ref sig .tc := ⟨.hbm, 92, rfl⟩
abbrev main_c_19 : Ref sig .tc := ⟨.hbm, 93, rfl⟩
abbrev main_v69 : Ref sig .tc := ⟨.hbm, 94, rfl⟩
abbrev main_v70 : Ref sig .tc := ⟨.hbm, 95, rfl⟩
abbrev main_c_20 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_21 : Ref sig .tc := ⟨.hbm, 100, rfl⟩
abbrev main_v74 : Ref sig .tc := ⟨.hbm, 101, rfl⟩
abbrev main_v75 : Ref sig .tc := ⟨.hbm, 102, rfl⟩
abbrev main_c_22 : Ref sig .tc := ⟨.hbm, 103, rfl⟩
abbrev main_v76 : Ref sig .tc := ⟨.hbm, 104, rfl⟩
abbrev main_v77 : Ref sig .tc := ⟨.hbm, 105, rfl⟩
abbrev main_cst_23 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_24 : Ref sig .tc := ⟨.hbm, 113, rfl⟩
abbrev main_v84 : Ref sig .tc := ⟨.hbm, 114, rfl⟩
abbrev main_v85 : Ref sig .tc := ⟨.hbm, 115, rfl⟩
abbrev main_cst_25 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_26 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_27 : Ref sig .tc := ⟨.hbm, 129, rfl⟩
abbrev main_v97 : Ref sig .tc := ⟨.hbm, 130, rfl⟩
abbrev main_v98 : Ref sig .tc := ⟨.hbm, 131, rfl⟩
abbrev main_c_28 : Ref sig .tc := ⟨.hbm, 132, rfl⟩
abbrev main_v99 : Ref sig .tc := ⟨.hbm, 133, rfl⟩
abbrev main_v100 : Ref sig .tc := ⟨.hbm, 134, rfl⟩
abbrev main_c_29 : Ref sig .tc := ⟨.hbm, 135, rfl⟩
abbrev main_v101 : Ref sig .tc := ⟨.hbm, 136, rfl⟩
abbrev main_v102 : Ref sig .tc := ⟨.hbm, 137, rfl⟩
abbrev main_c_30 : Ref sig .tc := ⟨.hbm, 138, rfl⟩
abbrev main_v103 : Ref sig .tc := ⟨.hbm, 139, rfl⟩
abbrev main_v104 : Ref sig .tc := ⟨.hbm, 140, rfl⟩
abbrev main_c_31 : Ref sig .tc := ⟨.hbm, 141, rfl⟩
abbrev main_v105 : Ref sig .tc := ⟨.hbm, 142, rfl⟩
abbrev main_v106 : Ref sig .tc := ⟨.hbm, 143, rfl⟩
abbrev main_c_32 : Ref sig .tc := ⟨.hbm, 144, rfl⟩
abbrev main_v107 : Ref sig .tc := ⟨.hbm, 145, rfl⟩
abbrev main_v108 : Ref sig .tc := ⟨.hbm, 146, rfl⟩
abbrev main_c_33 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_c_34 : Ref sig .tc := ⟨.hbm, 152, rfl⟩
abbrev main_v113 : Ref sig .tc := ⟨.hbm, 153, rfl⟩
abbrev main_v114 : Ref sig .tc := ⟨.hbm, 154, rfl⟩
abbrev main_c_35 : Ref sig .tc := ⟨.hbm, 155, rfl⟩
abbrev main_v115 : Ref sig .tc := ⟨.hbm, 156, rfl⟩
abbrev main_v116 : Ref sig .tc := ⟨.hbm, 157, rfl⟩
abbrev main_cst_36 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_37 : Ref sig .tc := ⟨.hbm, 164, rfl⟩
abbrev main_v122 : Ref sig .tc := ⟨.hbm, 165, rfl⟩
abbrev main_v123 : Ref sig .tc := ⟨.hbm, 166, rfl⟩
abbrev main_cst_38 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_c_39 : Ref sig .tc := ⟨.hbm, 173, rfl⟩
abbrev main_v129 : Ref sig .tc := ⟨.hbm, 174, rfl⟩
abbrev main_v130 : Ref sig .tc := ⟨.hbm, 175, rfl⟩
abbrev main_cst_40 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_c_41 : Ref sig .tc := ⟨.hbm, 194, rfl⟩
abbrev main_v148 : Ref sig .tc := ⟨.hbm, 195, rfl⟩
abbrev main_v149 : Ref sig .tc := ⟨.hbm, 196, rfl⟩
abbrev main_c_42 : Ref sig .tc := ⟨.hbm, 197, rfl⟩
abbrev main_v150 : Ref sig .tc := ⟨.hbm, 198, rfl⟩
abbrev main_v151 : Ref sig .tc := ⟨.hbm, 199, rfl⟩
abbrev main_c_43 : Ref sig .tc := ⟨.hbm, 200, rfl⟩
abbrev main_v152 : Ref sig .tc := ⟨.hbm, 201, rfl⟩
abbrev main_v153 : Ref sig .tc := ⟨.hbm, 202, rfl⟩
abbrev main_c_44 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_c_45 : Ref sig .tc := ⟨.hbm, 207, rfl⟩
abbrev main_v157 : Ref sig .tc := ⟨.hbm, 208, rfl⟩
abbrev main_v158 : Ref sig .tc := ⟨.hbm, 209, rfl⟩
abbrev main_c_46 : Ref sig .tc := ⟨.hbm, 210, rfl⟩
abbrev main_v159 : Ref sig .tc := ⟨.hbm, 211, rfl⟩
abbrev main_v160 : Ref sig .tc := ⟨.hbm, 212, rfl⟩
abbrev main_c_47 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_c_48 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_c_49 : Ref sig .tc := ⟨.hbm, 221, rfl⟩
abbrev main_v167 : Ref sig .tc := ⟨.hbm, 222, rfl⟩
abbrev main_v168 : Ref sig .tc := ⟨.hbm, 223, rfl⟩
abbrev main_cst_50 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_c_51 : Ref sig .tc := ⟨.hbm, 232, rfl⟩
abbrev main_v176 : Ref sig .tc := ⟨.hbm, 233, rfl⟩
abbrev main_v177 : Ref sig .tc := ⟨.hbm, 234, rfl⟩
abbrev main_c_52 : Ref sig .tc := ⟨.hbm, 235, rfl⟩
abbrev main_v178 : Ref sig .tc := ⟨.hbm, 236, rfl⟩
abbrev main_v179 : Ref sig .tc := ⟨.hbm, 237, rfl⟩
abbrev main_c_53 : Ref sig .tc := ⟨.hbm, 238, rfl⟩
abbrev main_v180 : Ref sig .tc := ⟨.hbm, 239, rfl⟩
abbrev main_v181 : Ref sig .tc := ⟨.hbm, 240, rfl⟩
abbrev main_c_54 : Ref sig .tc := ⟨.hbm, 241, rfl⟩
abbrev main_v182 : Ref sig .tc := ⟨.hbm, 242, rfl⟩
abbrev main_v183 : Ref sig .tc := ⟨.hbm, 243, rfl⟩
abbrev main_c_55 : Ref sig .tc := ⟨.hbm, 244, rfl⟩
abbrev main_v184 : Ref sig .tc := ⟨.hbm, 245, rfl⟩
abbrev main_v185 : Ref sig .tc := ⟨.hbm, 246, rfl⟩
abbrev main_c_56 : Ref sig .tc := ⟨.hbm, 247, rfl⟩
abbrev main_v186 : Ref sig .tc := ⟨.hbm, 248, rfl⟩
abbrev main_v187 : Ref sig .tc := ⟨.hbm, 249, rfl⟩
abbrev main_c_57 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_c_58 : Ref sig .tc := ⟨.hbm, 255, rfl⟩
abbrev main_v192 : Ref sig .tc := ⟨.hbm, 256, rfl⟩
abbrev main_v193 : Ref sig .tc := ⟨.hbm, 257, rfl⟩
abbrev main_c_59 : Ref sig .tc := ⟨.hbm, 258, rfl⟩
abbrev main_v194 : Ref sig .tc := ⟨.hbm, 259, rfl⟩
abbrev main_v195 : Ref sig .tc := ⟨.hbm, 260, rfl⟩
abbrev main_cst_60 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_cst_61 : Ref sig .tc := ⟨.hbm, 267, rfl⟩
abbrev main_v201 : Ref sig .tc := ⟨.hbm, 268, rfl⟩
abbrev main_v202 : Ref sig .tc := ⟨.hbm, 269, rfl⟩
abbrev main_cst_62 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_c_63 : Ref sig .tc := ⟨.hbm, 279, rfl⟩
abbrev main_v211 : Ref sig .tc := ⟨.hbm, 280, rfl⟩
abbrev main_v212 : Ref sig .tc := ⟨.hbm, 281, rfl⟩
abbrev main_c_64 : Ref sig .tc := ⟨.hbm, 282, rfl⟩
abbrev main_v213 : Ref sig .tc := ⟨.hbm, 283, rfl⟩
abbrev main_v214 : Ref sig .tc := ⟨.hbm, 284, rfl⟩
abbrev main_c_65 : Ref sig .tc := ⟨.hbm, 285, rfl⟩
abbrev main_v215 : Ref sig .tc := ⟨.hbm, 286, rfl⟩
abbrev main_v216 : Ref sig .tc := ⟨.hbm, 287, rfl⟩
abbrev main_c_66 : Ref sig .tc := ⟨.hbm, 288, rfl⟩
abbrev main_v217 : Ref sig .tc := ⟨.hbm, 289, rfl⟩
abbrev main_v218 : Ref sig .tc := ⟨.hbm, 290, rfl⟩
abbrev main_c_67 : Ref sig .tc := ⟨.hbm, 291, rfl⟩
abbrev main_v219 : Ref sig .tc := ⟨.hbm, 292, rfl⟩
abbrev main_v220 : Ref sig .tc := ⟨.hbm, 293, rfl⟩
abbrev main_c_68 : Ref sig .tc := ⟨.hbm, 294, rfl⟩
abbrev main_v221 : Ref sig .tc := ⟨.hbm, 295, rfl⟩
abbrev main_v222 : Ref sig .tc := ⟨.hbm, 296, rfl⟩
abbrev main_c_69 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_c_70 : Ref sig .tc := ⟨.hbm, 302, rfl⟩
abbrev main_v227 : Ref sig .tc := ⟨.hbm, 303, rfl⟩
abbrev main_v228 : Ref sig .tc := ⟨.hbm, 304, rfl⟩
abbrev main_c_71 : Ref sig .tc := ⟨.hbm, 305, rfl⟩
abbrev main_v229 : Ref sig .tc := ⟨.hbm, 306, rfl⟩
abbrev main_v230 : Ref sig .tc := ⟨.hbm, 307, rfl⟩
abbrev main_cst_72 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_cst_73 : Ref sig .tc := ⟨.hbm, 314, rfl⟩
abbrev main_v236 : Ref sig .tc := ⟨.hbm, 315, rfl⟩
abbrev main_v237 : Ref sig .tc := ⟨.hbm, 316, rfl⟩
abbrev main_cst_74 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_c_75 : Ref sig .tc := ⟨.hbm, 327, rfl⟩
abbrev main_v247 : Ref sig .tc := ⟨.hbm, 328, rfl⟩
abbrev main_v248 : Ref sig .tc := ⟨.hbm, 329, rfl⟩
abbrev main_c_76 : Ref sig .tc := ⟨.hbm, 330, rfl⟩
abbrev main_v249 : Ref sig .tc := ⟨.hbm, 331, rfl⟩
abbrev main_v250 : Ref sig .tc := ⟨.hbm, 332, rfl⟩
abbrev main_c_77 : Ref sig .tc := ⟨.hbm, 333, rfl⟩
abbrev main_v251 : Ref sig .tc := ⟨.hbm, 334, rfl⟩
abbrev main_v252 : Ref sig .tc := ⟨.hbm, 335, rfl⟩
abbrev main_c_78 : Ref sig .tc := ⟨.hbm, 336, rfl⟩
abbrev main_v253 : Ref sig .tc := ⟨.hbm, 337, rfl⟩
abbrev main_v254 : Ref sig .tc := ⟨.hbm, 338, rfl⟩
abbrev main_c_79 : Ref sig .tc := ⟨.hbm, 339, rfl⟩
abbrev main_v255 : Ref sig .tc := ⟨.hbm, 340, rfl⟩
abbrev main_v256 : Ref sig .tc := ⟨.hbm, 341, rfl⟩
abbrev main_c_80 : Ref sig .tc := ⟨.hbm, 342, rfl⟩
abbrev main_v257 : Ref sig .tc := ⟨.hbm, 343, rfl⟩
abbrev main_v258 : Ref sig .tc := ⟨.hbm, 344, rfl⟩
abbrev main_c_81 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_c_82 : Ref sig .tc := ⟨.hbm, 350, rfl⟩
abbrev main_v263 : Ref sig .tc := ⟨.hbm, 351, rfl⟩
abbrev main_v264 : Ref sig .tc := ⟨.hbm, 352, rfl⟩
abbrev main_c_83 : Ref sig .tc := ⟨.hbm, 353, rfl⟩
abbrev main_v265 : Ref sig .tc := ⟨.hbm, 354, rfl⟩
abbrev main_v266 : Ref sig .tc := ⟨.hbm, 355, rfl⟩
abbrev main_cst_84 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_cst_85 : Ref sig .tc := ⟨.hbm, 362, rfl⟩
abbrev main_v272 : Ref sig .tc := ⟨.hbm, 363, rfl⟩
abbrev main_v273 : Ref sig .tc := ⟨.hbm, 364, rfl⟩
abbrev main_cst_86 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_c_87 : Ref sig .tc := ⟨.hbm, 375, rfl⟩
abbrev main_v283 : Ref sig .tc := ⟨.hbm, 376, rfl⟩
abbrev main_v284 : Ref sig .tc := ⟨.hbm, 377, rfl⟩
abbrev main_c_88 : Ref sig .tc := ⟨.hbm, 378, rfl⟩
abbrev main_v285 : Ref sig .tc := ⟨.hbm, 379, rfl⟩
abbrev main_v286 : Ref sig .tc := ⟨.hbm, 380, rfl⟩
abbrev main_c_89 : Ref sig .tc := ⟨.hbm, 381, rfl⟩
abbrev main_v287 : Ref sig .tc := ⟨.hbm, 382, rfl⟩
abbrev main_v288 : Ref sig .tc := ⟨.hbm, 383, rfl⟩
abbrev main_c_90 : Ref sig .tc := ⟨.hbm, 384, rfl⟩
abbrev main_v289 : Ref sig .tc := ⟨.hbm, 385, rfl⟩
abbrev main_v290 : Ref sig .tc := ⟨.hbm, 386, rfl⟩
abbrev main_c_91 : Ref sig .tc := ⟨.hbm, 387, rfl⟩
abbrev main_v291 : Ref sig .tc := ⟨.hbm, 388, rfl⟩
abbrev main_v292 : Ref sig .tc := ⟨.hbm, 389, rfl⟩
abbrev main_c_92 : Ref sig .tc := ⟨.hbm, 390, rfl⟩
abbrev main_v293 : Ref sig .tc := ⟨.hbm, 391, rfl⟩
abbrev main_v294 : Ref sig .tc := ⟨.hbm, 392, rfl⟩
abbrev main_c_93 : Ref sig .tc := ⟨.hbm, 393, rfl⟩
abbrev main_v295 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_c_94 : Ref sig .tc := ⟨.hbm, 398, rfl⟩
abbrev main_v299 : Ref sig .tc := ⟨.hbm, 399, rfl⟩
abbrev main_v300 : Ref sig .tc := ⟨.hbm, 400, rfl⟩
abbrev main_c_95 : Ref sig .tc := ⟨.hbm, 401, rfl⟩
abbrev main_v301 : Ref sig .tc := ⟨.hbm, 402, rfl⟩
abbrev main_v302 : Ref sig .tc := ⟨.hbm, 403, rfl⟩
abbrev main_cst_96 : Ref sig .tc := ⟨.hbm, 404, rfl⟩
abbrev main_v303 : Ref sig .tc := ⟨.hbm, 405, rfl⟩
abbrev main_v304 : Ref sig .tc := ⟨.hbm, 406, rfl⟩
abbrev main_v305 : Ref sig .tc := ⟨.hbm, 407, rfl⟩
abbrev main_v306 : Ref sig .tc := ⟨.hbm, 408, rfl⟩
abbrev main_v307 : Ref sig .tc := ⟨.hbm, 409, rfl⟩
abbrev main_cst_97 : Ref sig .tc := ⟨.hbm, 410, rfl⟩
abbrev main_v308 : Ref sig .tc := ⟨.hbm, 411, rfl⟩
abbrev main_v309 : Ref sig .tc := ⟨.hbm, 412, rfl⟩
abbrev main_cst_98 : Ref sig .tc := ⟨.hbm, 413, rfl⟩
abbrev main_v310 : Ref sig .tc := ⟨.hbm, 414, rfl⟩
abbrev main_v311 : Ref sig .tc := ⟨.hbm, 415, rfl⟩
abbrev main_v312 : Ref sig .tc := ⟨.hbm, 416, rfl⟩
abbrev main_v313 : Ref sig .tc := ⟨.hbm, 417, rfl⟩
abbrev main_v314 : Ref sig .tc := ⟨.hbm, 418, rfl⟩
abbrev main_v315 : Ref sig .tc := ⟨.hbm, 419, rfl⟩
abbrev main_v316 : Ref sig .tc := ⟨.hbm, 420, rfl⟩
abbrev main_v317 : Ref sig .tc := ⟨.hbm, 421, rfl⟩
abbrev main_v318 : Ref sig .tc := ⟨.hbm, 422, rfl⟩
abbrev main_v319 : Ref sig .tc := ⟨.hbm, 423, rfl⟩

abbrev nD : Nat := 1
abbrev τ : Topo := Topo.v7x

variable {F : FTy → Type} [FloatOps F]
-- ==== Proof.P.Loops.lean ====
/- The counted loops of the kernel for its frame: what each trip keeps of the buffers it touches. The two outer
   loops (the 512-row halves of a weight block, and the 384-byte chunks of one) are gone through once each at a
   symbolic trip; what their buffers hold is left open. -/
module

public import proofs.«01_k».proof.Proof.Gen.Kernel
public import proofs.«01_k».proof.Proof.Gen.Kernel.Skeleton
public import proofs.«01_k».proof.Proof.Gen.Kernel.Loops

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the run: the frame kit's. -/
abbrev UU (nD : Nat) (τ : Topo) : Type := UR sig nD τ
abbrev 𝒱₀ : Variants := Variants.none
local notation "𝕄" => MT nD τ sig Unit (Elt F) ℕ (UU nD τ) ℕ

/-- The chunk loop: the packed block, the scales and the permuted activations stay, the staged words are of any value. -/
@[sl_loop] def loopInv_k0_t3 (c : Dev nD) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole) (k0_t2 : Fin k0_t2_loop.trips) (init : FVec F S128x512 .f32)
    (X3 : BufTy.Contents (Elt F) arg3.view.ty) (X9 : BufTy.Contents (Elt F) arg9.view.ty) (X10 : BufTy.Contents (Elt F) arg10.view.ty) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 k0_t2 init where
  inv := fun _ _ => iprop((arg3.view.loc (c : Thread nD τ) ↦[arg3.view.set]{fullShare} X3) ∗ (∃ f, (arg8.view.loc (c : Thread nD τ) ↦[arg8.view.set]{fullShare} f)) ∗ (arg9.view.loc (c : Thread nD τ) ↦[arg9.view.set]{fullShare} X9) ∗ (arg10.view.loc (c : Thread nD τ) ↦[arg10.view.set]{fullShare} X10))
  step k acc := by
    have hk : k.val < 14 := Nat.lt_of_lt_of_le k.isLt (by decide)
    have hk2 : k0_t2.val < 2 := Nat.lt_of_lt_of_le k0_t2.isLt (by decide)
    unfold k0_t3_body
    iintro ⟨H3, ⟨%f8, H8⟩, H9, H10⟩
    sl_exec
    sl_step
    isplitl [H3]; · iexact H3
    isplitl [H8]; · iexists _; iexact H8
    isplitl [H9]; · iexact H9
    iexact H10

/-- The loop over the two halves of a weight block. -/
@[sl_loop] def loopInv_k0_t2 (c : Dev nD) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (X3 : BufTy.Contents (Elt F) arg3.view.ty) (X4 : BufTy.Contents (Elt F) arg4.view.ty) (X10 : BufTy.Contents (Elt F) arg10.view.ty) :
    LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 where
  inv := fun _ _ => iprop((arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f)) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} X10))
  step k acc := by
    have hk : k.val < 2 := Nat.lt_of_lt_of_le k.isLt (by decide)
    unfold k0_t2_body
    iintro ⟨H3, H4, ⟨%f5, H5⟩, ⟨%f8, H8⟩, ⟨%f9, H9⟩, H10⟩
    sl_exec
    sl_step
    isplitl [H3]; · iexact H3
    isplitl [H4]; · iexact H4
    isplitl [H5]; · iexists _; iexact H5
    isplitl [H8]; · iexists _; iexact H8
    isplitl [H9]; · iexists _; iexact H9
    iexact H10

end Cert.Proof.Kernel

end
-- ==== Proof.P.Frame.lean ====
/- The frame of the kernel: from any memory with zero counters the program terminates, its arguments end as they were
   and every counter is zero. The three outputs are forgotten: nothing is said here of what they hold. -/
module

public import proofs.«01_k».proof.Proof.Gen.Kernel.Frame
public import proofs.«01_k».proof.Proof.P.Loops
public import Idealize.ShloMosaic.Lib.Pipeline.FrameSuffix

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UU nD τ) ℕ

variable (m : (ℓ : Loc nD τ sig) → Buf (Elt F) ℓ) (ρ : Dev nD → PrngReg)

/-- The body's triple, for any continuation: the four inputs are handed back as they were, the outputs and the four
    scratch buffers at some contents. -/
theorem kernelRun (c : Dev nD) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (x1 : S128x7168.Idx → Elt F .bf16) (x2 : S256x256.Idx → Elt F .bf16) (x3 : S1024x5376.Idx → Elt F .i8) (x4 : S1024x224.Idx → Elt F .i8) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) 𝒱₀ c none) Set.univ
          (cc0_mxfp6_linear i arg1 harg1 arg2 harg2 arg3 harg3 arg4 harg4 arg5 harg5 arg6 harg6 arg7 harg7 arg8 harg8 arg9 harg9 arg10 harg10 arg11 harg11) K := by
  simp only [cc0_mxfp6_linear_eq_skeleton]; unfold cc0_mxfp6_linear_skel
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  by_cases hc : k0_cond1 i = 1#1
  all_goals
    sl_exec (disch := sl_exact hc)
    sl_step
    iapply Hk
    isplitl [H1]
    · iexists f1; isplitr; swap; · iexact H1
      ipureintro; exact e1
    isplitl [H2]
    · iexists f2; isplitr; swap; · iexact H2
      ipureintro; exact e2
    isplitl [H3]
    · iexists f3; isplitr; swap; · iexact H3
      ipureintro; exact e3
    isplitl [H4]
    · iexists f4; isplitr; swap; · iexact H4
      ipureintro; exact e4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-- The outputs are forgotten, the inputs are not. -/
def forgets0 : Fin 7 → Bool := fun | 4 => true | 5 => true | 6 => true | _ => false

/-- The proof data: each input window keeps its block, the outputs unnamed, the scratch buffers owned at some contents. -/
def dats (_ : Fin 1) (c : Dev nD) : Dat τ (Elt F) Unit ℕ (UU nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
    | 6 => Pipeline.Dat.unnamed (cfg := cfg0) 6 t
  Φ _ := Pipeline.ΦA spec0 c
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ X, owns (c : Thread nD τ) (st0_4 t) fullShare X) ∗ (∃ X, owns (c : Thread nD τ) (st0_5 t) fullShare X) ∗ (∃ X, owns (c : Thread nD τ) (st0_6 t) fullShare X))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ (∃ X, owns (c : Thread nD τ) (st0_4 t) fullShare X) ∗ (∃ X, owns (c : Thread nD τ) (st0_5 t) fullShare X) ∗ (∃ X, owns (c : Thread nD τ) (st0_6 t) fullShare X))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_0, after_1, after_2, after_3]
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c)]
  unfold Pipeline.ΦA
  rw [scopedRest0_eq]
  simp only [← owns_whole]
  iintro ⟨⟨⟨S0, S1, S2, S3⟩, Hg⟩, HO, ⟨%d0, H0⟩, ⟨%d1, H1⟩, ⟨%d2, H2⟩, ⟨%d3, H3⟩, H4, H5, H6⟩
  iapply (kernelRun c (grid0.coords t) _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ forgets0 := fun t => by
  rw [bigSep_W0, bigSep_W0, defs₀_row]
  exact triple_restated (sound_body m c t) rfl .rfl fun _ => .rfl

/-- The buffers the host lines after the region write: the three results. -/
def TT : Finset (Ref sig .tc) := {main_v2, main_v3, main_v4}

theorem sfx_writes : ∀ ops ∈ ([hostOps1] : List (List (HloOp τ sig (Elt F)))), ∀ op ∈ ops, ∀ b : Ref sig .tc,
    Proc.devRef .tc b ∈ op.writes → b ∈ TT := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, Finset.mem_singleton] at hb
    by_contra h
    refine StableHlo.devRef_ne_of_ne (fun e => h ?_) hb
    subst e; decide

set_option backward.isDefEq.respectTransparency.types false in
theorem run_main :
    θ_run defs (onTc (τ := τ) (main (F := F))) (s₀ m ρ)
      (fun r => Pipeline.RDat.FramePostR (cfgs 0) (fun c => (dats m 0 c).toRForget forgets0) TT
        (fun c b => V0 m c (Proc.devRef .tc b)) r ∧ r.2.sem = fun _ => 0) :=
  Pipeline.θ_run_frame_around_T_forget (Q' := _) cfgs (dats m) (0 : Fin 1) launch0 defs₀ 𝒱₀ forgets0 TT m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m 𝒱₀) (hA := A_eq m) (hΦ := fun _ _ => rfl) (hQ' := fun _ h => h)

/-- The arguments end as they were, and every counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (by decide)).trans (V_main_arg0 m c),
      (Pipeline.RDat.FramePostR.arr_in h.1 c 2 rfl).trans ((A_eq m c 2).trans (V_main_arg1 m c)),
      (Pipeline.RDat.FramePostR.arr_in h.1 c 3 rfl).trans ((A_eq m c 3).trans (V_main_arg2 m c))⟩, h.2⟩) (run_main m ρ)

end Cert.Proof.Kernel

end
-- ==== Proof.PI.Loops.lean ====
/- The counted loops of the kernel for its frame: what each trip keeps of the buffers it touches. The two outer
   loops (the 512-row halves of a weight block, and the 384-byte chunks of one) are gone through once each at a
   symbolic trip; what their buffers hold is left open. -/
module

public import proofs.«01_k».proof.Proof.Gen.KernelIdeal
public import proofs.«01_k».proof.Proof.Gen.KernelIdeal.Skeleton
public import proofs.«01_k».proof.Proof.Gen.KernelIdeal.Loops

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the run: the frame kit's. -/
abbrev UU (nD : Nat) (τ : Topo) : Type := UR sig nD τ
abbrev 𝒱₀ : Variants := Variants.none
local notation "𝕄" => MT nD τ sig Unit (Elt F) ℕ (UU nD τ) ℕ

/-- The chunk loop: the packed block, the scales and the permuted activations stay, the staged words are of any value. -/
@[sl_loop] def loopInv_k0_t3 (c : Dev nD) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole) (k0_t2 : Fin k0_t2_loop.trips) (init : FVec F S128x512 .f32)
    (X3 : BufTy.Contents (Elt F) arg3.view.ty) (X9 : BufTy.Contents (Elt F) arg9.view.ty) (X10 : BufTy.Contents (Elt F) arg10.view.ty) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 k0_t2 init where
  inv := fun _ _ => iprop((arg3.view.loc (c : Thread nD τ) ↦[arg3.view.set]{fullShare} X3) ∗ (∃ f, (arg8.view.loc (c : Thread nD τ) ↦[arg8.view.set]{fullShare} f)) ∗ (arg9.view.loc (c : Thread nD τ) ↦[arg9.view.set]{fullShare} X9) ∗ (arg10.view.loc (c : Thread nD τ) ↦[arg10.view.set]{fullShare} X10))
  step k acc := by
    have hk : k.val < 14 := Nat.lt_of_lt_of_le k.isLt (by decide)
    have hk2 : k0_t2.val < 2 := Nat.lt_of_lt_of_le k0_t2.isLt (by decide)
    unfold k0_t3_body
    iintro ⟨H3, ⟨%f8, H8⟩, H9, H10⟩
    sl_exec
    sl_step
    isplitl [H3]; · iexact H3
    isplitl [H8]; · iexists _; iexact H8
    isplitl [H9]; · iexact H9
    iexact H10

/-- The loop over the two halves of a weight block. -/
@[sl_loop] def loopInv_k0_t2 (c : Dev nD) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (X3 : BufTy.Contents (Elt F) arg3.view.ty) (X4 : BufTy.Contents (Elt F) arg4.view.ty) (X10 : BufTy.Contents (Elt F) arg10.view.ty) :
    LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 where
  inv := fun _ _ => iprop((arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f)) ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} X10))
  step k acc := by
    have hk : k.val < 2 := Nat.lt_of_lt_of_le k.isLt (by decide)
    unfold k0_t2_body
    iintro ⟨H3, H4, ⟨%f5, H5⟩, ⟨%f8, H8⟩, ⟨%f9, H9⟩, H10⟩
    sl_exec
    sl_step
    isplitl [H3]; · iexact H3
    isplitl [H4]; · iexact H4
    isplitl [H5]; · iexists _; iexact H5
    isplitl [H8]; · iexists _; iexact H8
    isplitl [H9]; · iexists _; iexact H9
    iexact H10

end Cert.Proof.KernelIdeal

end
-- ==== Proof.PI.Frame.lean ====
/- The frame of the kernel: from any memory with zero counters the program terminates, its arguments end as they were
   and every counter is zero. The three outputs are forgotten: nothing is said here of what they hold. -/
module

public import proofs.«01_k».proof.Proof.Gen.KernelIdeal.Frame
public import proofs.«01_k».proof.Proof.PI.Loops
public import Idealize.ShloMosaic.Lib.Pipeline.FrameSuffix

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UU nD τ) ℕ

variable (m : (ℓ : Loc nD τ sig) → Buf (Elt F) ℓ) (ρ : Dev nD → PrngReg)

/-- The body's triple, for any continuation: the four inputs are handed back as they were, the outputs and the four
    scratch buffers at some contents. -/
theorem kernelRun (c : Dev nD) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (x1 : S128x7168.Idx → Elt F .bf16) (x2 : S256x256.Idx → Elt F .bf16) (x3 : S1024x5376.Idx → Elt F .i8) (x4 : S1024x224.Idx → Elt F .i8) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) 𝒱₀ c none) Set.univ
          (cc0_mxfp6_linear i arg1 harg1 arg2 harg2 arg3 harg3 arg4 harg4 arg5 harg5 arg6 harg6 arg7 harg7 arg8 harg8 arg9 harg9 arg10 harg10 arg11 harg11) K := by
  simp only [cc0_mxfp6_linear_eq_skeleton]; unfold cc0_mxfp6_linear_skel
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  by_cases hc : k0_cond1 i = 1#1
  all_goals
    sl_exec (disch := sl_exact hc)
    sl_step
    iapply Hk
    isplitl [H1]
    · iexists f1; isplitr; swap; · iexact H1
      ipureintro; exact e1
    isplitl [H2]
    · iexists f2; isplitr; swap; · iexact H2
      ipureintro; exact e2
    isplitl [H3]
    · iexists f3; isplitr; swap; · iexact H3
      ipureintro; exact e3
    isplitl [H4]
    · iexists f4; isplitr; swap; · iexact H4
      ipureintro; exact e4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-- The outputs are forgotten, the inputs are not. -/
def forgets0 : Fin 7 → Bool := fun | 4 => true | 5 => true | 6 => true | _ => false

/-- The proof data: each input window keeps its block, the outputs unnamed, the scratch buffers owned at some contents. -/
def dats (_ : Fin 1) (c : Dev nD) : Dat τ (Elt F) Unit ℕ (UU nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
    | 6 => Pipeline.Dat.unnamed (cfg := cfg0) 6 t
  Φ _ := Pipeline.ΦA spec0 c
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ X, owns (c : Thread nD τ) (st0_4 t) fullShare X) ∗ (∃ X, owns (c : Thread nD τ) (st0_5 t) fullShare X) ∗ (∃ X, owns (c : Thread nD τ) (st0_6 t) fullShare X))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ (∃ X, owns (c : Thread nD τ) (st0_4 t) fullShare X) ∗ (∃ X, owns (c : Thread nD τ) (st0_5 t) fullShare X) ∗ (∃ X, owns (c : Thread nD τ) (st0_6 t) fullShare X))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_0, after_1, after_2, after_3]
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c)]
  unfold Pipeline.ΦA
  rw [scopedRest0_eq]
  simp only [← owns_whole]
  iintro ⟨⟨⟨S0, S1, S2, S3⟩, Hg⟩, HO, ⟨%d0, H0⟩, ⟨%d1, H1⟩, ⟨%d2, H2⟩, ⟨%d3, H3⟩, H4, H5, H6⟩
  iapply (kernelRun c (grid0.coords t) _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ forgets0 := fun t => by
  rw [bigSep_W0, bigSep_W0, defs₀_row]
  exact triple_restated (sound_body m c t) rfl .rfl fun _ => .rfl

/-- The buffers the host lines after the region write: the three results. -/
def TT : Finset (Ref sig .tc) := {main_v2, main_v3, main_v4}

theorem sfx_writes : ∀ ops ∈ ([hostOps1] : List (List (HloOp τ sig (Elt F)))), ∀ op ∈ ops, ∀ b : Ref sig .tc,
    Proc.devRef .tc b ∈ op.writes → b ∈ TT := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, Finset.mem_singleton] at hb
    by_contra h
    refine StableHlo.devRef_ne_of_ne (fun e => h ?_) hb
    subst e; decide

set_option backward.isDefEq.respectTransparency.types false in
theorem run_main :
    θ_run defs (onTc (τ := τ) (main (F := F))) (s₀ m ρ)
      (fun r => Pipeline.RDat.FramePostR (cfgs 0) (fun c => (dats m 0 c).toRForget forgets0) TT
        (fun c b => V0 m c (Proc.devRef .tc b)) r ∧ r.2.sem = fun _ => 0) :=
  Pipeline.θ_run_frame_around_T_forget (Q' := _) cfgs (dats m) (0 : Fin 1) launch0 defs₀ 𝒱₀ forgets0 TT m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m 𝒱₀) (hA := A_eq m) (hΦ := fun _ _ => rfl) (hQ' := fun _ h => h)

/-- The arguments end as they were, and every counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (by decide)).trans (V_main_arg0 m c),
      (Pipeline.RDat.FramePostR.arr_in h.1 c 2 rfl).trans ((A_eq m c 2).trans (V_main_arg1 m c)),
      (Pipeline.RDat.FramePostR.arr_in h.1 c 3 rfl).trans ((A_eq m c 3).trans (V_main_arg2 m c))⟩, h.2⟩) (run_main m ρ)

end Cert.Proof.KernelIdeal

end
-- ==== Proof.RI.lean ====
/- The frame of the reference: a host program without semaphores, run to its end with its arguments unchanged. -/
module

public import proofs.«01_k».proof.Defs
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

/-- The reference terminates, its arguments unchanged; it has no semaphore, so every counter is zero. -/
theorem frame_r : Cert.quiescent_ReferenceIdeal (hReferenceIdeal := Cert.ReferenceIdeal.Gen.facts) := fun m ρ _ =>
  (θ_run _ _ _).mono (fun r h => ⟨fun c => (h c).2.2.2, Idealize.ShloMosaic.sem_eq_zero_of_no_sems (by decide) r.2⟩)
    (Cert.ReferenceIdeal.Value.run m ρ)

end Cert.Proof

end
-- ==== Proof.Num.lean ====
/- Numbers of the quantiser: words read as powers of two, the exponent a bisection finds, logarithms and rounding. -/
module

public import Idealize.ShloMosaic.Lib.Tactic
public import Idealize.ShloMosaic.Lib.Pointwise

@[expose] public section

noncomputable section

namespace Cert.Proof.Num

open Idealize.ShloMosaic

/-- The word of a power of two, from its exponent field. -/
def F32 (n : ℕ) : EReal := Ideal.ofBits .f32 (BitVec.ofNat 32 n <<< 23)

theorem f32_fields : ∀ n : Fin 256, (BitVec.ofNat 32 n.val <<< 23).extractLsb' 31 1 = 0#1
    ∧ ((BitVec.ofNat 32 n.val <<< 23).extractLsb' 23 8).toNat = n.val ∧ ((BitVec.ofNat 32 n.val <<< 23).extractLsb' 0 23).toNat = 0 := by
  decide +kernel

theorem F32_zero : F32 0 = ((0 : ℝ) : EReal) := by
  unfold F32; simp [Ideal.ofBits, Ideal.ieee]

theorem ieee_pow (b : BitVec 32) (n : ℕ) (h0 : b.extractLsb' 31 1 = 0#1) (h1 : (b.extractLsb' 23 8).toNat = n) (h2 : (b.extractLsb' 0 23).toNat = 0)
    (g1 : n ≠ 2 ^ 8 - 1) (g2 : n ≠ 0) : Ideal.ofBits .f32 b = ((1 * (2 ^ 23 + 0 : ℕ) * (2 : ℝ) ^ ((n : ℤ) - (2 ^ (8 - 1) - 1) - (23 : ℕ)) : ℝ) : EReal) := by
  show Ideal.ieee 8 23 b = _
  unfold Ideal.ieee
  simp only
  rw [h0, h1, h2, if_neg g1, if_neg g2]
  rfl

theorem mul23 (k : ℤ) : (8388608 : ℝ) * 2 ^ (k - 23) = 2 ^ k := by
  rw [zpow_sub₀ (by norm_num : (2 : ℝ) ≠ 0), show ((2 : ℝ) ^ (23 : ℤ)) = 8388608 by norm_num]
  field_simp

theorem F32_pow (n : ℕ) (h1 : 1 ≤ n) (h2 : n ≤ 254) : F32 n = (((2 : ℝ) ^ ((n : ℤ) - 127) : ℝ) : EReal) := by
  have H := f32_fields ⟨n, by omega⟩
  unfold F32
  rw [ieee_pow _ n H.1 H.2.1 H.2.2 (by norm_num; omega) (by omega), ← mul23 ((n : ℤ) - 127)]
  norm_num

theorem F32_top : F32 255 = ⊤ := by
  obtain ⟨a, b, c⟩ := f32_fields ⟨255, by omega⟩
  simp only at a b c
  unfold F32
  simp only [Ideal.ofBits, Ideal.ieee]
  rw [a, b, c]
  norm_num

/-- One step of the bisection for the exponent field. -/
def kStep (M : EReal) (e st : BitVec 32) : BitVec 32 :=
  Scalar.select (FloatOps.cmpf (F := Ideal) (φ := .f32) .oge M (Ideal.ofBits .f32 (IntOp.shli .vector (IntOp.addi e st) 23#32))) (IntOp.addi e st) e

/-- The exponent field found. -/
def kE (M : EReal) : BitVec 32 :=
  kStep M (kStep M (kStep M (kStep M (kStep M (kStep M (kStep M (kStep M 0#32 128#32) 64#32) 32#32) 16#32) 8#32) 4#32) 2#32) 1#32

def nStep (n e st : ℕ) : ℕ := if e + st ≤ n then e + st else e

theorem shli23 (x : BitVec 32) : IntOp.shli .vector x 23#32 = x <<< 23 := by
  simp [IntOp.shli]

theorem kStep_eq (M : EReal) (n : ℕ) (H : ∀ m, 1 ≤ m → m ≤ 255 → (F32 m ≤ M ↔ m ≤ n)) (e st : ℕ) (h1 : 1 ≤ st) (h2 : e + st ≤ 255) :
    kStep M (BitVec.ofNat 32 e) (BitVec.ofNat 32 st) = BitVec.ofNat 32 (nStep n e st) := by
  unfold kStep nStep
  have ha : IntOp.addi (BitVec.ofNat 32 e) (BitVec.ofNat 32 st) = BitVec.ofNat 32 (e + st) := by
    show _ + _ = _; rw [BitVec.ofNat_add]
  rw [ha, shli23]
  show Scalar.select (BitVec.ofBool (decide (F32 (e + st) ≤ M))) _ _ = _
  unfold Scalar.select
  have hH := H (e + st) (by omega) h2
  by_cases hh : e + st ≤ n <;> simp [hh, hH]

theorem nStep_all : ∀ n : Fin 255, nStep n (nStep n (nStep n (nStep n (nStep n (nStep n (nStep n (nStep n 0 128) 64) 32) 16) 8) 4) 2) 1 = n.val := by
  decide +kernel

theorem nStep_le (n e st : ℕ) : nStep n e st ≤ e + st := by unfold nStep; split <;> omega

theorem kE_eq (M : EReal) (n : ℕ) (hn : n ≤ 254) (H : ∀ m, 1 ≤ m → m ≤ 255 → (F32 m ≤ M ↔ m ≤ n)) : kE M = BitVec.ofNat 32 n := by
  unfold kE
  have b1 := nStep_le n 0 128
  have b2 := nStep_le n (nStep n 0 128) 64
  have b3 := nStep_le n (nStep n (nStep n 0 128) 64) 32
  have b4 := nStep_le n (nStep n (nStep n (nStep n 0 128) 64) 32) 16
  have b5 := nStep_le n (nStep n (nStep n (nStep n (nStep n 0 128) 64) 32) 16) 8
  have b6 := nStep_le n (nStep n (nStep n (nStep n (nStep n (nStep n 0 128) 64) 32) 16) 8) 4
  have b7 := nStep_le n (nStep n (nStep n (nStep n (nStep n (nStep n (nStep n 0 128) 64) 32) 16) 8) 4) 2
  rw [kStep_eq M n H 0 128 (by omega) (by omega), kStep_eq M n H _ 64 (by omega) (by omega), kStep_eq M n H _ 32 (by omega) (by omega),
    kStep_eq M n H _ 16 (by omega) (by omega), kStep_eq M n H _ 8 (by omega) (by omega), kStep_eq M n H _ 4 (by omega) (by omega),
    kStep_eq M n H _ 2 (by omega) (by omega), kStep_eq M n H _ 1 (by omega) (by omega)]
  congr 1
  exact nStep_all ⟨n, by omega⟩

/-- The exponent field of a largest magnitude: zero, or its binary logarithm plus 127. -/
theorem kE_zero : kE ((0 : ℝ) : EReal) = 0#32 := by
  refine kE_eq _ 0 (by omega) ?_
  intro m h1 h2
  refine ⟨fun h => ?_, fun h => by omega⟩
  exfalso
  by_cases h3 : m = 255
  · subst h3; rw [F32_top] at h; simp at h
  · rw [F32_pow m h1 (by omega), EReal.coe_le_coe_iff] at h
    have : (0 : ℝ) < 2 ^ ((m : ℤ) - 127) := by positivity
    linarith

theorem kE_pos (M : ℝ) (n : ℕ) (h1 : 1 ≤ n) (h2 : n ≤ 254) (ha : (2 : ℝ) ^ ((n : ℤ) - 127) ≤ M) (hb : M < (2 : ℝ) ^ ((n : ℤ) - 126)) :
    kE (M : EReal) = BitVec.ofNat 32 n := by
  refine kE_eq _ n h2 ?_
  intro m g1 g2
  by_cases h3 : m = 255
  · subst h3; rw [F32_top]
    constructor
    · intro h; simp at h
    · intro h; omega
  · rw [F32_pow m g1 (by omega), EReal.coe_le_coe_iff]
    constructor
    · intro h
      have := (zpow_lt_zpow_iff_right₀ (show (1 : ℝ) < 2 by norm_num)).1 (lt_of_le_of_lt h hb)
      omega
    · intro h
      refine le_trans ((zpow_le_zpow_iff_right₀ (show (1 : ℝ) < 2 by norm_num)).2 ?_) ha
      omega

/-! ### The logarithm -/

theorem two_eq : Ideal.ofBits .f32 1073741824#32 = ((2 : ℝ) : EReal) := by
  have := F32_pow 128 (by norm_num) (by norm_num)
  rw [show Ideal.ofBits .f32 1073741824#32 = F32 128 from rfl, this]
  norm_num

/-- The floor of the binary logarithm. -/
def lg (a : ℝ) : ℤ := ⌊Real.log a * (1 / Real.log 2)⌋

theorem lg_ge (a : ℝ) (h : 0 < a) (k : ℤ) : k ≤ lg a ↔ (2 : ℝ) ^ k ≤ a := by
  have h2 := Real.log_pos (show (1 : ℝ) < 2 by norm_num)
  unfold lg
  rw [Int.le_floor, mul_one_div, le_div_iff₀ h2, ← Real.log_zpow, Real.log_le_log_iff (by positivity) h]

theorem lg_lt (a : ℝ) (h : 0 < a) (k : ℤ) : lg a < k ↔ a < (2 : ℝ) ^ k := by
  rw [← not_le, lg_ge a h, not_le]

/-- The floor of the binary logarithm as a word. -/
def fl (a : EReal) : BitVec 32 :=
  FloatOps.fptosi (F := Ideal) (φ := .f32) 32 (Ideal.liftRound Int.floor (Ideal.div (Ideal.log a) (Ideal.log (Ideal.ofBits .f32 1073741824#32))))

theorem fptosi_int (w : ℕ) (n : ℤ) : Ideal.fptosi w (((n : ℝ) : EReal)) = BitVec.ofInt w (max (-(2 ^ (w - 1) : ℕ)) (min ((2 ^ (w - 1) : ℕ) - 1) n)) := by
  unfold Ideal.fptosi
  show BitVec.ofInt w (max _ (min _ (if (0 : ℝ) ≤ (n : ℝ) then ⌊(n : ℝ)⌋ else ⌈(n : ℝ)⌉))) = _
  rw [Int.floor_intCast, Int.ceil_intCast, ite_self]

theorem fl_eq (a : ℝ) (h : 0 < a) : fl (a : EReal) = BitVec.ofInt 32 (max (-2147483648) (min 2147483647 (lg a))) := by
  unfold fl
  have hl : Ideal.log (a : EReal) = ((Real.log a : ℝ) : EReal) := by
    show (if a ≤ 0 then (⊥ : EReal) else _) = _
    rw [if_neg (not_le.2 h)]
  have hl2 : Ideal.log ((2 : ℝ) : EReal) = ((Real.log 2 : ℝ) : EReal) := by
    show (if (2 : ℝ) ≤ 0 then (⊥ : EReal) else _) = _
    rw [if_neg (by norm_num)]
  have h2 : Real.log 2 ≠ 0 := by have := Real.log_pos (show (1 : ℝ) < 2 by norm_num); exact ne_of_gt this
  rw [two_eq, hl, hl2, Ideal.div_coe h2, ← EReal.coe_mul]
  show Ideal.fptosi 32 (((lg a : ℝ) : EReal)) = _
  rw [fptosi_int]
  norm_num

theorem pow2 (k : BitVec 32) : Ideal.pow (Ideal.ofBits .f32 1073741824#32) (FloatOps.sitofp (F := Ideal) .f32 k) = (((2 : ℝ) ^ k.toInt : ℝ) : EReal) := by
  rw [two_eq]
  show (((Real.rpow 2 ((k.toInt : ℤ) : ℝ) : ℝ)) : EReal) = _
  congr 1
  exact Real.rpow_intCast 2 k.toInt

theorem log_eq (a : ℝ) (k : ℤ) (h : (2 : ℝ) ^ k ≤ a) (h' : a < (2 : ℝ) ^ (k + 1)) : lg a = k := by
  have ha : 0 < a := lt_of_lt_of_le (by positivity) h
  have h1 := (lg_ge a ha k).2 h
  have h2 := (lg_lt a ha (k + 1)).2 h'
  omega

/-! ### Rounding -/

theorem rhe_ge (v : ℝ) (p : ℤ) (h : (p : ℝ) ≤ v) : p ≤ Ideal.roundHalfEven v := by
  unfold Ideal.roundHalfEven
  have := Int.le_floor.2 h
  simp only
  split_ifs <;> omega

theorem rhe_le (v : ℝ) (q : ℤ) (h : v ≤ (q : ℝ)) : Ideal.roundHalfEven v ≤ q := by
  unfold Ideal.roundHalfEven
  simp only
  have h1 : ⌊v⌋ ≤ q := by
    have := Int.floor_le_floor h; rwa [Int.floor_intCast] at this
  rcases lt_or_eq_of_le h1 with h2 | h2
  · split_ifs <;> omega
  · have h3 : (⌊v⌋ : ℝ) ≤ v := Int.floor_le v
    rw [h2] at h3 ⊢
    rw [if_pos (by have : v = q := le_antisymm h h3; rw [this]; norm_num)]

theorem rhe_int (n : ℤ) : Ideal.roundHalfEven (n : ℝ) = n := le_antisymm (rhe_le _ _ le_rfl) (rhe_ge _ _ le_rfl)

end Cert.Proof.Num

end
-- ==== Proof.Quant.lean ====
/- The quantiser on one number: what the kernel's arithmetic and the reference's make of it, and that they agree. -/
module

public import proofs.«01_k».proof.Proof.Num

@[expose] public section

noncomputable section

namespace Cert.Proof.Num

open Idealize.ShloMosaic

/-! ### The kernel's scalars -/

def kZ (e : BitVec 32) : BitVec 1 := IntOp.cmpi .eq e 0#32
def kInv (e : BitVec 32) : BitVec 32 := Scalar.select (kZ e) 127#32 (IntOp.subi 258#32 e)
def kSc (e : BitVec 32) : BitVec 32 := IntOp.andi (Scalar.select (kZ e) 127#32 (IntOp.subi e 4#32)) 255#32
def kY (x : EReal) (e : BitVec 32) : EReal :=
  min (Ideal.ofBits .f32 0x41E00000#32) (max (Ideal.ofBits .f32 0xC1E00000#32) (x * Ideal.ofBits .f32 (IntOp.shli .vector (kInv e) 23#32)))
    * Ideal.ofBits .bf16 0x3980#16
def kA (y : EReal) : EReal := max y (-y) * Ideal.ofBits .f32 0x47800000#32
def kSel (z : EReal) (b : BitVec 32) (v t : BitVec 32) : BitVec 32 :=
  Scalar.select (FloatOps.cmpf (F := Ideal) (φ := .f32) .oge z (Ideal.ofBits .f32 b)) v t
def kT (z : EReal) : BitVec 32 :=
  kSel z 0x43800000#32 6#32 (kSel z 0x43000000#32 5#32 (kSel z 0x42800000#32 4#32 (kSel z 0x42000000#32 3#32
    (kSel z 0x41800000#32 2#32 (kSel z 0x41000000#32 1#32 0#32)))))
def kN (z : EReal) : BitVec 32 :=
  FloatOps.fptosi (F := Ideal) (φ := .f32) 32 (Ideal.liftRound Ideal.roundHalfEven (z * Ideal.ofBits .f32 (IntOp.shli .vector (IntOp.subi 127#32 (kT z)) 23#32)))
def kByte (y : EReal) : BitVec 8 :=
  (IntOp.addi (IntOp.addi (IntOp.muli 4#32 (kT (kA y))) (kN (kA y)))
    (Scalar.select (FloatOps.cmpf (F := Ideal) (φ := .f32) .olt y (Ideal.ofBits .f32 0x00000000#32)) 128#32 0#32)).setWidth 8

/-! ### The reference's scalars -/

def rX (M : EReal) : BitVec 32 := if 0 < M then IntOp.subi (fl M) 4#32 else 0#32
def rY (x : EReal) (X : BitVec 32) : EReal :=
  x * Ideal.pow (Ideal.ofBits .f32 1073741824#32) (FloatOps.sitofp (F := Ideal) .f32 (-X))
def rT (a : EReal) : BitVec 32 := IntOp.subi (IntOp.maxsi (if 0 < a then fl a else 4294967295#32) 4294967294#32) 2#32
def rR (a : EReal) (t : BitVec 32) : EReal :=
  min (Ideal.liftRound Ideal.roundHalfEven
        (a * Ideal.pow (Ideal.ofBits .f32 1073741824#32) (FloatOps.sitofp (F := Ideal) .f32 (-t)))
      * Ideal.pow (Ideal.ofBits .f32 1073741824#32) (FloatOps.sitofp (F := Ideal) .f32 t)) (Ideal.ofBits .f32 1105199104#32)
def rK (r : EReal) : BitVec 32 := if 0 < r then IntOp.addi (fl r) 1#32 else 0#32
def rMag (r : EReal) (k : BitVec 32) : BitVec 32 :=
  IntOp.addi (IntOp.muli (IntOp.muli (BitVec.setWidth 32 (BitVec.ofBool (decide (0 < r)))) 4#32) (IntOp.maxsi (IntOp.addi k 1#32) 0#32))
    (FloatOps.fptosi (F := Ideal) (φ := .f32) 32 (r * Ideal.pow (Ideal.ofBits .f32 1073741824#32)
      (FloatOps.sitofp (F := Ideal) .f32 (IntOp.subi 3#32 (IntOp.maxsi k 4294967295#32)))))
def rCode (y r : EReal) (k : BitVec 32) : BitVec 8 :=
  BitVec.setWidth 8 (IntOp.ori (IntOp.shli .host (BitVec.setWidth 32 (IntOp.andi (BitVec.ofBool (decide (y < 0))) (BitVec.ofBool (decide (0 < r))))) 5#32)
    (rMag r k))

/-! ### Block exponents -/

/-- A largest magnitude for which no exponent field leaves its range. -/
def InR (M : ℝ) : Prop := M = 0 ∨ ∃ n : ℕ, 5 ≤ n ∧ n ≤ 254 ∧ (2 : ℝ) ^ ((n : ℤ) - 127) ≤ M ∧ M < (2 : ℝ) ^ ((n : ℤ) - 126)

theorem sc_tab : ∀ n : Fin 250, kSc (BitVec.ofNat 32 (n.val + 5)) = BitVec.ofNat 32 (n.val + 1)
    ∧ kInv (BitVec.ofNat 32 (n.val + 5)) = BitVec.ofNat 32 (253 - n.val)
    ∧ IntOp.subi (BitVec.ofInt 32 ((n.val : ℤ) - 122)) 4#32 = BitVec.ofInt 32 ((n.val : ℤ) - 126) := by
  decide +kernel

/-- The two block exponents: the kernel's biased one `q`, the reference's `q - 127`. -/
theorem scale_eq (M : ℝ) (h : InR M) : ∃ q : ℕ, 1 ≤ q ∧ q ≤ 250 ∧ kSc (kE (M : EReal)) = BitVec.ofNat 32 q
    ∧ kInv (kE (M : EReal)) = BitVec.ofNat 32 (254 - q) ∧ rX (M : EReal) = BitVec.ofInt 32 ((q : ℤ) - 127)
    ∧ ∀ x : ℝ, |x| ≤ M → |x * (2 : ℝ) ^ (127 - (q : ℤ))| < 32 := by
  rcases h with rfl | ⟨n, h1, h2, ha, hb⟩
  · refine ⟨127, by omega, by omega, ?_, ?_, ?_, ?_⟩
    · rw [kE_zero]; decide
    · rw [kE_zero]; decide
    · unfold rX; simp
    · intro x hx
      have : x = 0 := by simpa using hx
      subst this; norm_num
  · obtain ⟨p, rfl⟩ : ∃ p, n = p + 5 := ⟨n - 5, by omega⟩
    obtain ⟨t1, t2, t3⟩ := sc_tab ⟨p, by omega⟩
    simp only at t1 t2 t3
    have hE := kE_pos M (p + 5) (by omega) (by omega) ha hb
    have hM : 0 < M := lt_of_lt_of_le (by positivity) ha
    refine ⟨p + 1, by omega, by omega, ?_, ?_, ?_, ?_⟩
    · rw [hE, t1]
    · rw [hE, t2]; congr 1; omega
    · unfold rX
      rw [if_pos (by exact_mod_cast hM), fl_eq M hM, log_eq M ((p + 5 : ℕ) - 127) ha (by convert hb using 2; push_cast; ring)]
      rw [show max (-2147483648) (min 2147483647 (((p + 5 : ℕ) : ℤ) - 127)) = (p : ℤ) - 122 by omega, t3]
      congr 1; push_cast; ring
    · intro x hx
      rw [abs_mul, abs_of_pos (show (0 : ℝ) < (2 : ℝ) ^ (127 - ((p + 1 : ℕ) : ℤ)) by positivity)]
      calc |x| * (2 : ℝ) ^ (127 - ((p + 1 : ℕ) : ℤ)) ≤ M * (2 : ℝ) ^ (127 - ((p + 1 : ℕ) : ℤ)) :=
            mul_le_mul_of_nonneg_right hx (by positivity)
        _ < (2 : ℝ) ^ (((p + 5 : ℕ) : ℤ) - 126) * (2 : ℝ) ^ (127 - ((p + 1 : ℕ) : ℤ)) :=
            mul_lt_mul_of_pos_right hb (by positivity)
        _ = 32 := by
            rw [← zpow_add₀ (by norm_num)]
            rw [show (((p + 5 : ℕ) : ℤ) - 126 + (127 - ((p + 1 : ℕ) : ℤ))) = 5 by push_cast; ring]
            norm_num

/-! ### The byte -/

theorem lit28 : Ideal.ofBits .f32 0x41E00000#32 = ((28 : ℝ) : EReal) := by
  rw [show ((28 : ℝ)) = ((1 * (2 ^ 23 + 6291456 : ℕ) * (2 : ℝ) ^ ((131 : ℤ) - (2 ^ (8 - 1) - 1) - (23 : ℕ)) : ℝ)) by norm_num]
  rfl
theorem lit28' : Ideal.ofBits .f32 0xC1E00000#32 = ((-28 : ℝ) : EReal) := by
  rw [show ((-28 : ℝ)) = ((-1 * (2 ^ 23 + 6291456 : ℕ) * (2 : ℝ) ^ ((131 : ℤ) - (2 ^ (8 - 1) - 1) - (23 : ℕ)) : ℝ)) by norm_num]
  rfl
theorem litm12 : Ideal.ofBits .bf16 0x3980#16 = (((2 : ℝ) ^ (-12 : ℤ) : ℝ) : EReal) := by
  rw [show ((2 : ℝ) ^ (-12 : ℤ)) = ((1 * (2 ^ 7 + 0 : ℕ) * (2 : ℝ) ^ ((115 : ℤ) - (2 ^ (8 - 1) - 1) - (7 : ℕ)) : ℝ)) by norm_num]
  rfl
theorem lit12 : Ideal.ofBits .bf16 17792#16 = (((2 : ℝ) ^ (12 : ℤ) : ℝ) : EReal) := by
  rw [show ((2 : ℝ) ^ (12 : ℤ)) = ((1 * (2 ^ 7 + 0 : ℕ) * (2 : ℝ) ^ ((139 : ℤ) - (2 ^ (8 - 1) - 1) - (7 : ℕ)) : ℝ)) by norm_num]
  rfl

theorem sel_ge (z : ℝ) (e : ℕ) (h1 : 1 ≤ e) (h2 : e ≤ 254) (w v t : BitVec 32) (hw : w = BitVec.ofNat 32 e <<< 23) :
    kSel (z : EReal) w v t = if (2 : ℝ) ^ ((e : ℤ) - 127) ≤ z then v else t := by
  subst hw
  unfold kSel
  show Scalar.select (BitVec.ofBool (decide (F32 e ≤ (z : EReal)))) _ _ = _
  rw [F32_pow e h1 h2]
  unfold Scalar.select
  by_cases hh : (2 : ℝ) ^ ((e : ℤ) - 127) ≤ z <;> simp [hh]

theorem kT_eq (z : ℝ) (t : ℕ) (ht : t ≤ 6) (ha : t = 0 ∨ 4 * (2 : ℝ) ^ t ≤ z) (hb : z < 8 * (2 : ℝ) ^ t) :
    kT (z : EReal) = BitVec.ofNat 32 t := by
  unfold kT
  rw [sel_ge z 135 (by norm_num) (by norm_num) _ _ _ (by decide), sel_ge z 134 (by norm_num) (by norm_num) _ _ _ (by decide),
    sel_ge z 133 (by norm_num) (by norm_num) _ _ _ (by decide), sel_ge z 132 (by norm_num) (by norm_num) _ _ _ (by decide),
    sel_ge z 131 (by norm_num) (by norm_num) _ _ _ (by decide), sel_ge z 130 (by norm_num) (by norm_num) _ _ _ (by decide)]
  norm_num
  interval_cases t <;> norm_num at ha hb <;> (repeat' split_ifs) <;> first | rfl | (exfalso; linarith)

theorem kN_eq (z : ℝ) (t : ℕ) (ht : t ≤ 6) (hT : kT (z : EReal) = BitVec.ofNat 32 t) (N : ℕ) (hN : N ≤ 8)
    (h : Ideal.roundHalfEven (z * (2 : ℝ) ^ (-(t : ℤ))) = N) : kN (z : EReal) = BitVec.ofNat 32 N := by
  unfold kN
  rw [hT, shli23, show IntOp.subi 127#32 (BitVec.ofNat 32 t) = BitVec.ofNat 32 (127 - t) by interval_cases t <;> rfl]
  show Ideal.fptosi 32 (Ideal.liftRound Ideal.roundHalfEven ((z : EReal) * F32 (127 - t))) = _
  rw [F32_pow _ (by omega) (by omega), show (((127 - t : ℕ) : ℤ) - 127) = -(t : ℤ) by omega, ← EReal.coe_mul]
  show Ideal.fptosi 32 (((Ideal.roundHalfEven _ : ℝ) : EReal)) = _
  rw [h, fptosi_int]
  interval_cases N <;> rfl

theorem maxsi_m2 (L : ℤ) (h1 : -2147483648 ≤ L) (h2 : L ≤ 4) :
    IntOp.subi (IntOp.maxsi (BitVec.ofInt 32 L) 4294967294#32) 2#32 = BitVec.ofInt 32 (max L (-2) - 2) := by
  by_cases h : -2 ≤ L
  · interval_cases L <;> decide
  · have h3 : (BitVec.ofInt 32 L).toInt = L := by
      rw [BitVec.toInt_ofInt, Int.bmod_eq_of_le (by norm_num; omega) (by norm_num; omega)]
    have h4 : (4294967294#32).toInt = -2 := by decide
    unfold IntOp.maxsi
    rw [BitVec.slt, h3, h4, if_neg (by simp; omega), show max L (-2) = -2 by omega]
    decide

theorem rT_eq (a : ℝ) (h : 0 < a) (h2 : a < 32) : rT (a : EReal) = BitVec.ofInt 32 (max (lg a) (-2) - 2) := by
  have hl : lg a < 5 := (lg_lt a h 5).2 (by norm_num; exact h2)
  unfold rT
  rw [if_pos (by exact_mod_cast h), fl_eq a h, maxsi_m2 _ (by omega) (by omega)]
  congr 2
  omega

theorem rR_eq (a : ℝ) (T : BitVec 32) (t : ℤ) (h1 : T.toInt = t) (h2 : (-T).toInt = -t) :
    rR (a : EReal) T = ((min ((Ideal.roundHalfEven (a * (2 : ℝ) ^ (-t)) : ℝ) * (2 : ℝ) ^ t) 28 : ℝ) : EReal) := by
  unfold rR
  rw [pow2, pow2, h1, h2, ← EReal.coe_mul]
  rw [show (1105199104#32) = 0x41E00000#32 from rfl, lit28]
  show min (((Ideal.roundHalfEven _ : ℝ) : EReal) * _) _ = _
  rw [← EReal.coe_mul]
  exact ((EReal.coe_strictMono.monotone).map_min).symm

/-- The magnitude's binade and digit. -/
structure Ok (t N : ℕ) : Prop where
  t6 : t ≤ 6
  n8 : N ≤ 8
  lo : 1 ≤ t → 4 ≤ N
  hi : 4 * t + N ≤ 31

theorem ex_t (z : ℝ) (h0 : 0 ≤ z) (h : z < 512) : ∃ t : ℕ, t ≤ 6 ∧ (t = 0 ∨ 4 * (2 : ℝ) ^ t ≤ z) ∧ z < 8 * (2 : ℝ) ^ t := by
  by_cases h1 : z < 8
  · exact ⟨0, by omega, .inl rfl, by norm_num; exact h1⟩
  by_cases h2 : z < 16
  · exact ⟨1, by omega, .inr (by norm_num; linarith), by norm_num; exact h2⟩
  by_cases h3 : z < 32
  · exact ⟨2, by omega, .inr (by norm_num; linarith), by norm_num; exact h3⟩
  by_cases h4 : z < 64
  · exact ⟨3, by omega, .inr (by norm_num; linarith), by norm_num; exact h4⟩
  by_cases h5 : z < 128
  · exact ⟨4, by omega, .inr (by norm_num; linarith), by norm_num; exact h5⟩
  by_cases h6 : z < 256
  · exact ⟨5, by omega, .inr (by norm_num; linarith), by norm_num; exact h6⟩
  · exact ⟨6, by omega, .inr (by norm_num; linarith), by norm_num; exact h⟩

/-- Both round a magnitude to the same binade and digit. -/
theorem mag_eq (a : ℝ) (h0 : 0 ≤ a) (h : a < 32) : ∃ t N : ℕ, Ok t N ∧ kT ((16 * min a 28 : ℝ) : EReal) = BitVec.ofNat 32 t
    ∧ kN ((16 * min a 28 : ℝ) : EReal) = BitVec.ofNat 32 N ∧ rR (a : EReal) (rT (a : EReal)) = (((N : ℝ) * (2 : ℝ) ^ ((t : ℤ) - 4) : ℝ) : EReal) := by
  by_cases hb : 28 < a
  · have hm : min a 28 = 28 := min_eq_right hb.le
    have hT := kT_eq (16 * min a 28) 6 le_rfl (.inr (by rw [hm]; norm_num)) (by rw [hm]; norm_num)
    refine ⟨6, 7, ⟨by omega, by omega, by omega, by omega⟩, hT, ?_, ?_⟩
    · refine kN_eq _ 6 le_rfl hT 7 (by omega) ?_
      rw [hm, show (16 * 28 * (2 : ℝ) ^ (-((6 : ℕ) : ℤ))) = ((7 : ℤ) : ℝ) by norm_num, rhe_int]; rfl
    · have hlg : lg a = 4 := log_eq a 4 (by norm_num; linarith) (by norm_num; linarith)
      rw [rT_eq a (by linarith) h, hlg, rR_eq a _ 2 (by decide) (by decide)]
      have := rhe_ge (a * (2 : ℝ) ^ (-(2 : ℤ))) 7 (by norm_num; linarith)
      have h7 : (7 : ℝ) ≤ (Ideal.roundHalfEven (a * (2 : ℝ) ^ (-(2 : ℤ))) : ℝ) := by exact_mod_cast this
      rw [min_eq_right (by norm_num at h7 ⊢; linarith)]
      norm_num
  · have hm : min a 28 = a := min_eq_left (not_lt.1 hb)
    rw [hm]
    obtain ⟨t, t6, ta, tb⟩ := ex_t (16 * a) (by linarith) (by linarith)
    have hT := kT_eq (16 * a) t t6 ta tb
    have e2 : (0 : ℝ) < (2 : ℝ) ^ t := by positivity
    have ev : 16 * a * (2 : ℝ) ^ (-(t : ℤ)) = 16 * a / 2 ^ t := by rw [zpow_neg, zpow_natCast]; rfl
    set v := 16 * a * (2 : ℝ) ^ (-(t : ℤ)) with hv
    have v0 : ((0 : ℤ) : ℝ) ≤ v := by rw [hv]; push_cast; positivity
    have v8 : v ≤ ((8 : ℤ) : ℝ) := by rw [ev, div_le_iff₀ e2]; push_cast; linarith
    have n0 := rhe_ge v 0 v0
    have n8 := rhe_le v 8 v8
    obtain ⟨N, hN⟩ : ∃ N : ℕ, Ideal.roundHalfEven v = N := ⟨(Ideal.roundHalfEven v).toNat, by omega⟩
    have n4 : 1 ≤ t → 4 ≤ N := by
      intro ht
      have : ((4 : ℤ) : ℝ) ≤ v := by
        rcases ta with ta | ta
        · omega
        · rw [ev, le_div_iff₀ e2]; push_cast; linarith
      have := rhe_ge v 4 this
      omega
    have n7 : t = 6 → N ≤ 7 := by
      intro ht
      have : v ≤ ((7 : ℤ) : ℝ) := by
        rw [ev, div_le_iff₀ e2, ht]; push_cast; linarith [not_lt.1 hb]
      have := rhe_le v 7 this
      omega
    refine ⟨t, N, ⟨t6, by omega, n4, by omega⟩, hT, kN_eq _ t t6 hT N (by omega) (by rw [← hv]; exact hN), ?_⟩
    by_cases hz : a = 0
    · subst hz
      have t0 : t = 0 := by
        rcases ta with ta | ta
        · exact ta
        · exfalso; nlinarith
      subst t0
      have : N = 0 := by
        have : v = ((0 : ℤ) : ℝ) := by rw [hv]; norm_num
        rw [this, rhe_int] at hN; omega
      subst this
      unfold rT
      rw [if_neg (by simp), rR_eq 0 _ (-3) (by decide) (by decide)]
      rw [show (0 : ℝ) * (2 : ℝ) ^ (-(-3 : ℤ)) = ((0 : ℤ) : ℝ) by norm_num, rhe_int]
      norm_num
    · have hp : 0 < a := lt_of_le_of_ne h0 (Ne.symm hz)
      have hL : max (lg a) (-2) - 2 = (t : ℤ) - 4 := by
        by_cases t0 : t = 0
        · have : lg a < -1 := (lg_lt a hp (-1)).2 (by subst t0; norm_num at tb ⊢; linarith)
          omega
        · have hta : 4 * (2 : ℝ) ^ t ≤ 16 * a := by rcases ta with ta | ta; exact absurd ta t0; exact ta
          have e3 : (2 : ℝ) ^ ((t : ℤ) - 2) = 2 ^ t / 4 := by
            rw [zpow_sub₀ (by norm_num), zpow_natCast]; norm_num
          have e4 : (2 : ℝ) ^ ((t : ℤ) - 2 + 1) = 2 ^ t / 2 := by
            rw [zpow_add₀ (by norm_num), e3]; norm_num; ring
          have := log_eq a ((t : ℤ) - 2) (by rw [e3]; linarith) (by rw [e4]; linarith)
          omega
      have tI : (BitVec.ofInt 32 ((t : ℤ) - 4)).toInt = (t : ℤ) - 4 ∧ (-(BitVec.ofInt 32 ((t : ℤ) - 4))).toInt = -((t : ℤ) - 4) := by
        interval_cases t <;> decide
      rw [rT_eq a hp h, hL, rR_eq a _ ((t : ℤ) - 4) tI.1 tI.2]
      have : a * (2 : ℝ) ^ (-((t : ℤ) - 4)) = v := by
        rw [hv, show (-((t : ℤ) - 4)) = -(t : ℤ) + 4 by ring, zpow_add₀ (by norm_num)]; norm_num; ring
      rw [this, hN, min_eq_left]
      · norm_cast
      · have hN8 : (N : ℝ) ≤ 8 := by exact_mod_cast (by omega : N ≤ 8)
        push_cast
        by_cases h6 : t = 6
        · have : (N : ℝ) ≤ 7 := by exact_mod_cast n7 h6
          subst h6; norm_num; linarith
        · have : (2 : ℝ) ^ ((t : ℤ) - 4) ≤ (2 : ℝ) ^ (1 : ℤ) := (zpow_le_zpow_iff_right₀ (by norm_num)).2 (by omega)
          norm_num at this
          nlinarith [show (0 : ℝ) ≤ (N : ℝ) by positivity]

end Cert.Proof.Num

end
-- ==== Proof.PI.Trip.lean ====
/- One half of a 384-byte chunk (one unit of 256 inputs): the product the innermost loop adds, written once over the
   words it reads, and the generated trip opened to it. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

abbrev bcw (w : BitVec 32) : IVec S8x128 32 := broadcast S8x128 w

/-- Four byte rows picked by the position of the row in its word: `B` at position 1, `C` at position 2, else `A`. -/
def mrg (A B C : IVec S32x128 8) : IVec S8x128 32 :=
  bitcast S8x128 32 (select (cmpi .eq k0_pay6 (broadcast S32x128 2#32)) C
    (select (cmpi .eq k0_pay6 (broadcast S32x128 1#32)) B A)) bitcasts_S32x128_w8_S8x128_w32

/-- The four 6-bit fields of every group, from the words of first, second and third bytes. -/
def fld0 (v0 : IVec S8x128 32) : IVec S8x128 32 := andi v0 (bcw 1061109567#32)
def fld1 (v0 v1 : IVec S8x128 32) : IVec S8x128 32 :=
  ori (shli (ori (andi v0 (bcw 3233857728#32)) (andi v1 (bcw 252645135#32))) (bcw 2#32)) (shrui v0 (bcw 30#32))
def fld2 (v1 v2 : IVec S8x128 32) : IVec S8x128 32 :=
  ori (shli (ori (andi v2 (bcw 50529027#32)) (andi v1 (bcw 4042322160#32))) (bcw 4#32)) (shrui v1 (bcw 28#32))
def fld3 (v2 : IVec S8x128 32) : IVec S8x128 32 := andi (shrui v2 (bcw 2#32)) (bcw 1061109567#32)

/-- A word of four fields read as values, times the scales. -/
def pcOf (p : IVec S8x128 32) (sc : FVec F S32x128 .bf16) : FVec F S32x128 .bf16 :=
  mulf (extf .bf16 (bitcastToFloat .fp8e5m2 (bitcast S32x128 8 (andi (addi p (bcw 1616928864#32)) (bcw 2678038431#32))
    bitcasts_S8x128_w32_S32x128_w8)) bitsLt_fp8e5m2_bf16) sc

def w0Of (x : Fin 3 → Vec F S1x1x8x128 .i32) : IVec S8x128 32 := mrg (k0_pay36 (x 0)) (k0_pay36 (x 2)) (k0_pay36 (x 1))
def w1Of (x : Fin 3 → Vec F S1x1x8x128 .i32) : IVec S8x128 32 := mrg (k0_pay36 (x 1)) (k0_pay36 (x 0)) (k0_pay36 (x 2))
def w2Of (x : Fin 3 → Vec F S1x1x8x128 .i32) : IVec S8x128 32 := mrg (k0_pay36 (x 2)) (k0_pay36 (x 1)) (k0_pay36 (x 0))

/-- The 256 decoded inputs of 128 outputs. -/
def colOf (x0 x1 : Fin 3 → Vec F S1x1x8x128 .i32) (s : Vec F S1x16x128 .i32) : FVec F S256x128 .bf16 :=
  concatenate S256x128 0 [⟨S32x128, pcOf (fld0 (w0Of x0)) (k0_pay35 s)⟩, ⟨S32x128, pcOf (fld1 (w0Of x0) (w1Of x0)) (k0_pay35 s)⟩,
    ⟨S32x128, pcOf (fld2 (w1Of x0) (w2Of x0)) (k0_pay35 s)⟩, ⟨S32x128, pcOf (fld3 (w2Of x0)) (k0_pay35 s)⟩,
    ⟨S32x128, pcOf (fld0 (w0Of x1)) (k0_pay35 s)⟩, ⟨S32x128, pcOf (fld1 (w0Of x1) (w1Of x1)) (k0_pay35 s)⟩,
    ⟨S32x128, pcOf (fld2 (w1Of x1) (w2Of x1)) (k0_pay35 s)⟩, ⟨S32x128, pcOf (fld3 (w2Of x1)) (k0_pay35 s)⟩]
    concatenates_S32x128_S32x128_S32x128_S32x128_S32x128_S32x128_S32x128_S32x128_S256x128_d0

def rhsOf (x : Fin 4 → Fin 2 → Fin 3 → Vec F S1x1x8x128 .i32) (s : Fin 4 → Vec F S1x16x128 .i32) : FVec F S256x512 .bf16 :=
  concatenate S256x512 1 [⟨S256x128, colOf (x 0 0) (x 0 1) (s 0)⟩, ⟨S256x128, colOf (x 1 0) (x 1 1) (s 1)⟩,
    ⟨S256x128, colOf (x 2 0) (x 2 1) (s 2)⟩, ⟨S256x128, colOf (x 3 0) (x 3 1) (s 3)⟩]
    concatenates_S256x128_S256x128_S256x128_S256x128_S256x512_d1

def tripOf (acc : FVec F S128x512 .f32) (lhs : FVec F S128x256 .bf16) (rhs : FVec F S256x512 .bf16) : FVec F S128x512 .f32 :=
  addf acc (matmul dot_S128x256_S256x512_S128x512_1_0_0_1_n_n none lhs rhs (constant S128x512 .f32 0x00000000#32))

/-- The trip of the innermost loop, opened. -/
theorem trip_t4_eq (𝒱 : Variants) (c : Dev nD) (bd : Option 𝒱.V) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (t3 : Fin k0_t3_loop.trips) (arg13 : BitVec 32) (X8 : BufTy.Contents (Elt F) arg8.view.ty)
    (X9 : BufTy.Contents (Elt F) arg9.view.ty) (X10 : BufTy.Contents (Elt F) arg10.view.ty) (k : Fin k0_t4_loop.trips)
    (acc : FVec F S128x512 .f32) :
    tripR_k0_t4 (F := F) 𝒱 c bd i arg1 harg1 arg2 harg2 arg3 harg3 arg4 harg4 arg5 harg5 arg6 harg6 arg7 harg7 arg8 harg8 arg9 harg9 arg10 harg10 arg11 harg11 t3 arg13 X8 X9 X10 k acc
      = tripOf acc (arg10.view.readAt (Elt F) (Rect.unit (s := S128x7168) (k0_off17 t3 k) S128x256.size (k0_off17_inb t3 k)).toLoadRect X10)
        (rhsOf ![![![arg8.view.readAt (Elt F) (⟨k0_off10 t3 k 0#32 0#32, S1x1x8x128.size, ![1, 1, 6, 1], (k0_off10_inb t3 k 0 0)⟩ : LoadRect S14x4x96x128) X8,
      arg8.view.readAt (Elt F) (⟨k0_off10 t3 k 0#32 1#32, S1x1x8x128.size, ![1, 1, 6, 1], (k0_off10_inb t3 k 0 1)⟩ : LoadRect S14x4x96x128) X8,
      arg8.view.readAt (Elt F) (⟨k0_off10 t3 k 0#32 2#32, S1x1x8x128.size, ![1, 1, 6, 1], (k0_off10_inb t3 k 0 2)⟩ : LoadRect S14x4x96x128) X8], ![arg8.view.readAt (Elt F) (⟨k0_off10 t3 k 3#32 0#32, S1x1x8x128.size, ![1, 1, 6, 1], (k0_off10_inb t3 k 1 0)⟩ : LoadRect S14x4x96x128) X8,
      arg8.view.readAt (Elt F) (⟨k0_off10 t3 k 3#32 1#32, S1x1x8x128.size, ![1, 1, 6, 1], (k0_off10_inb t3 k 1 1)⟩ : LoadRect S14x4x96x128) X8,
      arg8.view.readAt (Elt F) (⟨k0_off10 t3 k 3#32 2#32, S1x1x8x128.size, ![1, 1, 6, 1], (k0_off10_inb t3 k 1 2)⟩ : LoadRect S14x4x96x128) X8]], ![![arg8.view.readAt (Elt F) (⟨k0_off12 t3 k 0#32 0#32, S1x1x8x128.size, ![1, 1, 6, 1], (k0_off12_inb t3 k 0 0)⟩ : LoadRect S14x4x96x128) X8,
      arg8.view.readAt (Elt F) (⟨k0_off12 t3 k 0#32 1#32, S1x1x8x128.size, ![1, 1, 6, 1], (k0_off12_inb t3 k 0 1)⟩ : LoadRect S14x4x96x128) X8,
      arg8.view.readAt (Elt F) (⟨k0_off12 t3 k 0#32 2#32, S1x1x8x128.size, ![1, 1, 6, 1], (k0_off12_inb t3 k 0 2)⟩ : LoadRect S14x4x96x128) X8], ![arg8.view.readAt (Elt F) (⟨k0_off12 t3 k 3#32 0#32, S1x1x8x128.size, ![1, 1, 6, 1], (k0_off12_inb t3 k 1 0)⟩ : LoadRect S14x4x96x128) X8,
      arg8.view.readAt (Elt F) (⟨k0_off12 t3 k 3#32 1#32, S1x1x8x128.size, ![1, 1, 6, 1], (k0_off12_inb t3 k 1 1)⟩ : LoadRect S14x4x96x128) X8,
      arg8.view.readAt (Elt F) (⟨k0_off12 t3 k 3#32 2#32, S1x1x8x128.size, ![1, 1, 6, 1], (k0_off12_inb t3 k 1 2)⟩ : LoadRect S14x4x96x128) X8]], ![![arg8.view.readAt (Elt F) (⟨k0_off14 t3 k 0#32 0#32, S1x1x8x128.size, ![1, 1, 6, 1], (k0_off14_inb t3 k 0 0)⟩ : LoadRect S14x4x96x128) X8,
      arg8.view.readAt (Elt F) (⟨k0_off14 t3 k 0#32 1#32, S1x1x8x128.size, ![1, 1, 6, 1], (k0_off14_inb t3 k 0 1)⟩ : LoadRect S14x4x96x128) X8,
      arg8.view.readAt (Elt F) (⟨k0_off14 t3 k 0#32 2#32, S1x1x8x128.size, ![1, 1, 6, 1], (k0_off14_inb t3 k 0 2)⟩ : LoadRect S14x4x96x128) X8], ![arg8.view.readAt (Elt F) (⟨k0_off14 t3 k 3#32 0#32, S1x1x8x128.size, ![1, 1, 6, 1], (k0_off14_inb t3 k 1 0)⟩ : LoadRect S14x4x96x128) X8,
      arg8.view.readAt (Elt F) (⟨k0_off14 t3 k 3#32 1#32, S1x1x8x128.size, ![1, 1, 6, 1], (k0_off14_inb t3 k 1 1)⟩ : LoadRect S14x4x96x128) X8,
      arg8.view.readAt (Elt F) (⟨k0_off14 t3 k 3#32 2#32, S1x1x8x128.size, ![1, 1, 6, 1], (k0_off14_inb t3 k 1 2)⟩ : LoadRect S14x4x96x128) X8]], ![![arg8.view.readAt (Elt F) (⟨k0_off16 t3 k 0#32 0#32, S1x1x8x128.size, ![1, 1, 6, 1], (k0_off16_inb t3 k 0 0)⟩ : LoadRect S14x4x96x128) X8,
      arg8.view.readAt (Elt F) (⟨k0_off16 t3 k 0#32 1#32, S1x1x8x128.size, ![1, 1, 6, 1], (k0_off16_inb t3 k 0 1)⟩ : LoadRect S14x4x96x128) X8,
      arg8.view.readAt (Elt F) (⟨k0_off16 t3 k 0#32 2#32, S1x1x8x128.size, ![1, 1, 6, 1], (k0_off16_inb t3 k 0 2)⟩ : LoadRect S14x4x96x128) X8], ![arg8.view.readAt (Elt F) (⟨k0_off16 t3 k 3#32 0#32, S1x1x8x128.size, ![1, 1, 6, 1], (k0_off16_inb t3 k 1 0)⟩ : LoadRect S14x4x96x128) X8,
      arg8.view.readAt (Elt F) (⟨k0_off16 t3 k 3#32 1#32, S1x1x8x128.size, ![1, 1, 6, 1], (k0_off16_inb t3 k 1 1)⟩ : LoadRect S14x4x96x128) X8,
      arg8.view.readAt (Elt F) (⟨k0_off16 t3 k 3#32 2#32, S1x1x8x128.size, ![1, 1, 6, 1], (k0_off16_inb t3 k 1 2)⟩ : LoadRect S14x4x96x128) X8]]]
          ![arg9.view.readAt (Elt F) (Rect.unit (s := S4x448x128) (k0_off9 t3 k) S1x16x128.size (k0_off9_inb t3 k)).toLoadRect X9,
      arg9.view.readAt (Elt F) (Rect.unit (s := S4x448x128) (k0_off11 t3 k) S1x16x128.size (k0_off11_inb t3 k)).toLoadRect X9,
      arg9.view.readAt (Elt F) (Rect.unit (s := S4x448x128) (k0_off13 t3 k) S1x16x128.size (k0_off13_inb t3 k)).toLoadRect X9,
      arg9.view.readAt (Elt F) (Rect.unit (s := S4x448x128) (k0_off15 t3 k) S1x16x128.size (k0_off15_inb t3 k)).toLoadRect X9]) := by
  unfold tripR_k0_t4 trip_k0_t4
  sl_kernel_rfl

end Cert.Proof.KernelIdeal

end
-- ==== Proof.PI.Words.lean ====
/- The packed words of a unit read byte by byte: byte `b` of the word of fields `f` at row `i` is field `f` of the group
   `grp f b` of the four groups whose twelve bytes stand in the three words read for that row. -/
module

public import proofs.«01_k».proof.Proof.PI.Trip
public import Idealize.ShloMosaic.Lib.BitcastFour
public import Idealize.ShloMosaic.Lib.PointwiseCore
public import Idealize.ShloMosaic.Lib.Pointwise.IndexBridge

@[expose] public section

noncomputable section

namespace Cert.Proof.KernelIdeal

open Cert.KernelIdeal Cert.KernelIdeal.Gen
open Idealize.ShloMosaic

variable {F : FTy → Type} [FloatOps F]

/-- Field `f` of a group of three bytes, as a byte. -/
def fbyte (f : Fin 4) (b0 b1 b2 : BitVec 8) : BitVec 8 :=
  match f with
  | 0 => b0 &&& 0x3F#8
  | 1 => ((b1 &&& 0x0F#8) <<< 2) ||| (b0 >>> 6)
  | 2 => ((b2 &&& 0x03#8) <<< 4) ||| (b1 >>> 4)
  | 3 => b2 >>> 2

/-- The group whose field `f` stands in byte `b` of a word of fields. -/
def grp (f b : Fin 4) : Fin 4 :=
  (![![0, 3, 2, 1], ![1, 0, 3, 2], ![2, 1, 0, 3], ![2, 1, 0, 3]] : Fin 4 → Fin 4 → Fin 4) f b

/-- Byte `b` of a word. -/
def byteOf (w : BitVec 32) (b : ℕ) : BitVec 8 := w.extractLsb' (8 * b) 8

/-- Byte `j` of the twelve of three words. -/
def lbyte (T : Fin 3 → BitVec 32) (j : Fin 12) : BitVec 8 := byteOf (T ⟨j.val / 4, by omega⟩) (j.val % 4)

def word4 (b0 b1 b2 b3 : BitVec 8) : BitVec 32 := b3 ++ b2 ++ b1 ++ b0

theorem byteOf_getLsbD (w : BitVec 32) (b q : ℕ) :
    (byteOf w b).getLsbD q = (decide (q < 8) && w.getLsbD (8 * b + q)) := by
  unfold byteOf; rw [BitVec.getLsbD_extractLsb']

theorem word4_getLsbD (b0 b1 b2 b3 : BitVec 8) (q : ℕ) :
    (word4 b0 b1 b2 b3).getLsbD q
      = if q < 8 then b0.getLsbD q else if q < 16 then b1.getLsbD (q - 8) else if q < 24 then b2.getLsbD (q - 16)
        else b3.getLsbD (q - 24) := by
  unfold word4
  rw [BitVec.getLsbD_append, BitVec.getLsbD_append, BitVec.getLsbD_append]
  split_ifs <;> first | rfl | omega | (congr 1; omega) | skip

def wfld (f : Fin 4) (v0 v1 v2 : BitVec 32) : BitVec 32 :=
  match f with
  | 0 => v0 &&& 1061109567#32
  | 1 => (((v0 &&& 3233857728#32) ||| (v1 &&& 252645135#32)) <<< 2) ||| (v0 >>> 30)
  | 2 => (((v2 &&& 50529027#32) ||| (v1 &&& 4042322160#32)) <<< 4) ||| (v1 >>> 28)
  | 3 => (v2 >>> 2) &&& 1061109567#32

def v0w (T : Fin 3 → BitVec 32) : BitVec 32 := word4 (byteOf (T 0) 0) (byteOf (T 2) 1) (byteOf (T 1) 2) (byteOf (T 0) 3)
def v1w (T : Fin 3 → BitVec 32) : BitVec 32 := word4 (byteOf (T 1) 0) (byteOf (T 0) 1) (byteOf (T 2) 2) (byteOf (T 1) 3)
def v2w (T : Fin 3 → BitVec 32) : BitVec 32 := word4 (byteOf (T 2) 0) (byteOf (T 1) 1) (byteOf (T 0) 2) (byteOf (T 2) 3)

set_option maxHeartbeats 4000000 in
theorem byteOf_wfld (T : Fin 3 → BitVec 32) (f b : Fin 4) :
    byteOf (wfld f (v0w T) (v1w T) (v2w T)) b.val
      = fbyte f (lbyte T ⟨3 * (grp f b).val, by have := (grp f b).isLt; omega⟩)
          (lbyte T ⟨3 * (grp f b).val + 1, by have := (grp f b).isLt; omega⟩)
          (lbyte T ⟨3 * (grp f b).val + 2, by have := (grp f b).isLt; omega⟩) := by
  apply BitVec.eq_of_getLsbD_eq
  intro q hq
  match f, b with
  | 0, 0 =>
    show (byteOf (wfld 0 (v0w T) (v1w T) (v2w T)) 0).getLsbD q = (fbyte 0 (byteOf (T 0) 0) (byteOf (T 0) 1) (byteOf (T 0) 2)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 0, 1 =>
    show (byteOf (wfld 0 (v0w T) (v1w T) (v2w T)) 1).getLsbD q = (fbyte 0 (byteOf (T 2) 1) (byteOf (T 2) 2) (byteOf (T 2) 3)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 0, 2 =>
    show (byteOf (wfld 0 (v0w T) (v1w T) (v2w T)) 2).getLsbD q = (fbyte 0 (byteOf (T 1) 2) (byteOf (T 1) 3) (byteOf (T 2) 0)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 0, 3 =>
    show (byteOf (wfld 0 (v0w T) (v1w T) (v2w T)) 3).getLsbD q = (fbyte 0 (byteOf (T 0) 3) (byteOf (T 1) 0) (byteOf (T 1) 1)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 1, 0 =>
    show (byteOf (wfld 1 (v0w T) (v1w T) (v2w T)) 0).getLsbD q = (fbyte 1 (byteOf (T 0) 3) (byteOf (T 1) 0) (byteOf (T 1) 1)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 1, 1 =>
    show (byteOf (wfld 1 (v0w T) (v1w T) (v2w T)) 1).getLsbD q = (fbyte 1 (byteOf (T 0) 0) (byteOf (T 0) 1) (byteOf (T 0) 2)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 1, 2 =>
    show (byteOf (wfld 1 (v0w T) (v1w T) (v2w T)) 2).getLsbD q = (fbyte 1 (byteOf (T 2) 1) (byteOf (T 2) 2) (byteOf (T 2) 3)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 1, 3 =>
    show (byteOf (wfld 1 (v0w T) (v1w T) (v2w T)) 3).getLsbD q = (fbyte 1 (byteOf (T 1) 2) (byteOf (T 1) 3) (byteOf (T 2) 0)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 2, 0 =>
    show (byteOf (wfld 2 (v0w T) (v1w T) (v2w T)) 0).getLsbD q = (fbyte 2 (byteOf (T 1) 2) (byteOf (T 1) 3) (byteOf (T 2) 0)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 2, 1 =>
    show (byteOf (wfld 2 (v0w T) (v1w T) (v2w T)) 1).getLsbD q = (fbyte 2 (byteOf (T 0) 3) (byteOf (T 1) 0) (byteOf (T 1) 1)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 2, 2 =>
    show (byteOf (wfld 2 (v0w T) (v1w T) (v2w T)) 2).getLsbD q = (fbyte 2 (byteOf (T 0) 0) (byteOf (T 0) 1) (byteOf (T 0) 2)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 2, 3 =>
    show (byteOf (wfld 2 (v0w T) (v1w T) (v2w T)) 3).getLsbD q = (fbyte 2 (byteOf (T 2) 1) (byteOf (T 2) 2) (byteOf (T 2) 3)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 3, 0 =>
    show (byteOf (wfld 3 (v0w T) (v1w T) (v2w T)) 0).getLsbD q = (fbyte 3 (byteOf (T 1) 2) (byteOf (T 1) 3) (byteOf (T 2) 0)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 3, 1 =>
    show (byteOf (wfld 3 (v0w T) (v1w T) (v2w T)) 1).getLsbD q = (fbyte 3 (byteOf (T 0) 3) (byteOf (T 1) 0) (byteOf (T 1) 1)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 3, 2 =>
    show (byteOf (wfld 3 (v0w T) (v1w T) (v2w T)) 2).getLsbD q = (fbyte 3 (byteOf (T 0) 0) (byteOf (T 0) 1) (byteOf (T 0) 2)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]
  | 3, 3 =>
    show (byteOf (wfld 3 (v0w T) (v1w T) (v2w T)) 3).getLsbD q = (fbyte 3 (byteOf (T 2) 1) (byteOf (T 2) 2) (byteOf (T 2) 3)).getLsbD q
    interval_cases q <;>
      simp only [wfld, fbyte, v0w, v1w, v2w, byteOf_getLsbD, word4_getLsbD, BitVec.getLsbD_and, BitVec.getLsbD_or,
        BitVec.getLsbD_shiftLeft, BitVec.getLsbD_ushiftRight, Bool.and_true, Bool.true_and, Bool.and_false,
        Bool.false_and, Bool.or_false, Bool.false_or, decide_true, decide_false, if_true, if_false, Nat.reduceMul,
        Nat.reduceAdd, Nat.reduceLT, Nat.reduceSub, Nat.reduceLeDiff, Bool.not_true, Bool.not_false,
        BitVec.reduceGetLsb]

end Cert.Proof.KernelIdeal

end
-- ==== Proof.PI.Decode.lean ====
/- The decoded inputs of one unit, read at an index: which bytes of the staged words and which word of the scales stand
   behind entry `(k, n)` of the 256x512 operand. -/
module

public import proofs.«01_k».proof.Proof.PI.Words
public import Idealize.ShloMosaic.Lib.Pointwise

@[expose] public section

noncomputable section

namespace Cert.Proof.KernelIdeal

open Cert.KernelIdeal Cert.KernelIdeal.Gen
open Idealize.ShloMosaic

variable {F : FTy → Type} [FloatOps F]

/-- Words read as bytes, at rank 2: row `p` is byte `p % 4` of the word at row `p / 4`. -/
theorem bitcast_32_8_ix2 {R r n : ℕ} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = byteOf (x (ix2 a l)) (p.val % 4) := by
  rw [ix2_eq_valueIdx, ix2_eq_valueIdx]
  apply BitVec.eq_of_getLsbD_eq
  intro q hq
  rw [bitcast_getLsbD x h _ q hq (by decide), byteOf_getLsbD]
  have hrow : (⟨2, ![R, n]⟩ : Shape).row (ValueIdx.ix2 p l) = p.val := rfl
  have e1 : ((⟨2, ![R, n]⟩ : Shape).row (ValueIdx.ix2 p l) * 8 + q) / 32 = a.val := by rw [hrow]; omega
  have e2 : ((⟨2, ![R, n]⟩ : Shape).row (ValueIdx.ix2 p l) * 8 + q) % 32 = 8 * (p.val % 4) + q := by rw [hrow]; omega
  rw [e2]
  simp only [hq, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Words read as halves, at rank 2. -/
theorem bitcast_32_16_ix2 {R r n : ℕ} (x : (⟨2, ![r, n]⟩ : Shape).Idx → BitVec 32)
    (h : (⟨2, ![r, n]⟩ : Shape).Bitcasts 32 ⟨2, ![R, n]⟩ 16) (p : Fin R) (l : Fin n) (a : Fin r) (ha : a.val = p.val / 2) :
    bitcast ⟨2, ![R, n]⟩ 16 x h (ix2 p l) = (x (ix2 a l)).extractLsb' (16 * (p.val % 2)) 16 := by
  rw [ix2_eq_valueIdx, ix2_eq_valueIdx]
  apply BitVec.eq_of_getLsbD_eq
  intro q hq
  rw [bitcast_getLsbD x h _ q hq (by decide), BitVec.getLsbD_extractLsb']
  have hrow : (⟨2, ![R, n]⟩ : Shape).row (ValueIdx.ix2 p l) = p.val := rfl
  have e1 : ((⟨2, ![R, n]⟩ : Shape).row (ValueIdx.ix2 p l) * 16 + q) / 32 = a.val := by rw [hrow]; omega
  have e2 : ((⟨2, ![R, n]⟩ : Shape).row (ValueIdx.ix2 p l) * 16 + q) % 32 = 16 * (p.val % 2) + q := by rw [hrow]; omega
  rw [e2]
  simp only [hq, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes read as words, at rank 2. -/
theorem bitcast_8_32_ix2 {R r n : ℕ} (x : (⟨2, ![R, n]⟩ : Shape).Idx → BitVec 8)
    (h : (⟨2, ![R, n]⟩ : Shape).Bitcasts 8 ⟨2, ![r, n]⟩ 32) (a : Fin r) (l : Fin n) (p : Fin 4 → Fin R)
    (hp : ∀ b, (p b).val = 4 * a.val + b.val) :
    bitcast ⟨2, ![r, n]⟩ 32 x h (ix2 a l) = word4 (x (ix2 (p 0) l)) (x (ix2 (p 1) l)) (x (ix2 (p 2) l)) (x (ix2 (p 3) l)) := by
  simp only [ix2_eq_valueIdx]
  apply BitVec.eq_of_getLsbD_eq
  intro q hq
  rw [word4_getLsbD]
  have h0 := hp 0; have h1 := hp 1; have h2 := hp 2; have h3 := hp 3
  simp only [Fin.val_zero, Fin.val_one, Fin.val_two] at h0 h1 h2
  have h3' : (p 3).val = 4 * a.val + 3 := h3
  split_ifs with c0 c1 c2
  · rw [bitcast_8_32_getLsbD_ix2 x h a l q hq (p 0) (by omega)]; congr 1; omega
  · rw [bitcast_8_32_getLsbD_ix2 x h a l q hq (p 1) (by omega)]; congr 1; omega
  · rw [bitcast_8_32_getLsbD_ix2 x h a l q hq (p 2) (by omega)]; congr 1; omega
  · rw [bitcast_8_32_getLsbD_ix2 x h a l q hq (p 3) (by omega)]; congr 1; omega

theorem pay36_at (v : Vec F S1x1x8x128 .i32) (p : Fin 32) (l : Fin 128) :
    k0_pay36 v (ix2 p l) = byteOf (v (ix4 0 0 ⟨p.val / 4, by omega⟩ l)) (p.val % 4) := by
  unfold k0_pay36
  rw [bitcast_32_8_ix2 _ _ p l ⟨p.val / 4, by omega⟩ rfl]
  pointwise

theorem pay6_at (p : Fin 32) (l : Fin 128) : k0_pay6 (ix2 p l) = BitVec.ofNat 32 (p.val % 4) := by
  unfold k0_pay6
  pointwise
  show BitVec.ofNat 32 p.val &&& 3#32 = _
  apply BitVec.eq_of_toNat_eq
  rw [BitVec.toNat_and]
  show (p.val % 2 ^ 32) &&& (2 ^ 2 - 1) = p.val % 4 % 2 ^ 32
  rw [Nat.and_two_pow_sub_one_eq_mod]
  omega

theorem mrg_at (A B C : IVec S32x128 8) (i : Fin 8) (l : Fin 128) :
    mrg A B C (ix2 i l) = word4 (A (ix2 ⟨4 * i.val, by omega⟩ l)) (B (ix2 ⟨4 * i.val + 1, by omega⟩ l))
      (C (ix2 ⟨4 * i.val + 2, by omega⟩ l)) (A (ix2 ⟨4 * i.val + 3, by omega⟩ l)) := by
  unfold mrg
  rw [bitcast_8_32_ix2 _ _ i l (fun b => ⟨4 * i.val + b.val, by omega⟩) (fun b => rfl)]
  pointwise
  have e0 : 4 * i.val % 4 = 0 := by omega
  have e1 : (4 * i.val + 1) % 4 = 1 := by omega
  have e2 : (4 * i.val + 2) % 4 = 2 := by omega
  have e3 : (4 * i.val + 3) % 4 = 3 := by omega
  simp only [pay6_at, e0, e1, e2, e3]
  rfl

theorem w0Of_at (x : Fin 3 → Vec F S1x1x8x128 .i32) (i : Fin 8) (l : Fin 128) :
    w0Of x (ix2 i l) = v0w (fun c => x c (ix4 0 0 i l)) := by
  unfold w0Of v0w
  simp only [mrg_at, pay36_at]
  congr 2 <;> first | (congr 2; apply Fin.ext; simp; try omega) | omega | skip

theorem w1Of_at (x : Fin 3 → Vec F S1x1x8x128 .i32) (i : Fin 8) (l : Fin 128) :
    w1Of x (ix2 i l) = v1w (fun c => x c (ix4 0 0 i l)) := by
  unfold w1Of v1w
  simp only [mrg_at, pay36_at]
  congr 2 <;> first | (congr 2; apply Fin.ext; simp; try omega) | omega | skip

theorem w2Of_at (x : Fin 3 → Vec F S1x1x8x128 .i32) (i : Fin 8) (l : Fin 128) :
    w2Of x (ix2 i l) = v2w (fun c => x c (ix4 0 0 i l)) := by
  unfold w2Of v2w
  simp only [mrg_at, pay36_at]
  congr 2 <;> first | (congr 2; apply Fin.ext; simp; try omega) | omega | skip

/-- The words of field `f`. -/
def fldOf (f : Fin 4) (x : Fin 3 → Vec F S1x1x8x128 .i32) : IVec S8x128 32 :=
  match f with
  | 0 => fld0 (w0Of x)
  | 1 => fld1 (w0Of x) (w1Of x)
  | 2 => fld2 (w1Of x) (w2Of x)
  | 3 => fld3 (w2Of x)

theorem fldOf_at (f : Fin 4) (x : Fin 3 → Vec F S1x1x8x128 .i32) (i : Fin 8) (l : Fin 128) :
    fldOf f x (ix2 i l) = wfld f (v0w fun c => x c (ix4 0 0 i l)) (v1w fun c => x c (ix4 0 0 i l)) (v2w fun c => x c (ix4 0 0 i l)) := by
  simp only [← w0Of_at, ← w1Of_at, ← w2Of_at]
  match f with
  | 0 => rfl
  | 1 => rfl
  | 2 => rfl
  | 3 => rfl

theorem fbyte_lt (f : Fin 4) (a b c : BitVec 8) : (fbyte f a b c).toNat < 64 := by
  match f with
  | 0 =>
    show (a &&& 0x3F#8).toNat < 64
    rw [BitVec.toNat_and]; exact lt_of_le_of_lt Nat.and_le_right (by decide)
  | 3 =>
    show (c >>> 2).toNat < 64
    rw [BitVec.toNat_ushiftRight, Nat.shiftRight_eq_div_pow]; have := c.isLt; omega
  | 1 =>
    show (((b &&& 0x0F#8) <<< 2) ||| (a >>> 6)).toNat < 2 ^ 6
    rw [BitVec.toNat_or]
    apply Nat.or_lt_two_pow
    · rw [BitVec.toNat_shiftLeft, BitVec.toNat_and, Nat.shiftLeft_eq]
      have : b.toNat &&& (0x0F#8).toNat ≤ 15 := Nat.and_le_right
      omega
    · rw [BitVec.toNat_ushiftRight, Nat.shiftRight_eq_div_pow]; have := a.isLt; omega
  | 2 =>
    show (((c &&& 0x03#8) <<< 4) ||| (b >>> 4)).toNat < 2 ^ 6
    rw [BitVec.toNat_or]
    apply Nat.or_lt_two_pow
    · rw [BitVec.toNat_shiftLeft, BitVec.toNat_and, Nat.shiftLeft_eq]
      have : c.toNat &&& (0x03#8).toNat ≤ 3 := Nat.and_le_right
      omega
    · rw [BitVec.toNat_ushiftRight, Nat.shiftRight_eq_div_pow]; have := b.isLt; omega

theorem byteOf_toNat (w : BitVec 32) (b : ℕ) : (byteOf w b).toNat = w.toNat / 2 ^ (8 * b) % 256 := by
  unfold byteOf
  rw [BitVec.extractLsb'_toNat, Nat.shiftRight_eq_div_pow]

/-- A field as the byte of an 8-bit value with the same sign and fraction, its exponent raised by twelve. -/
def dec8 (p : BitVec 8) : BitVec 8 := (p + 0x60#8) &&& 0x9F#8

theorem mask_bits : ∀ (b : Fin 4) (q : Fin 8), (2678038431#32).getLsbD (8 * b.val + q.val) = (0x9F#8).getLsbD q.val := by
  decide

/-- Adding the same byte to four bytes below 64 carries nothing. -/
theorem byteOf_dec (w : BitVec 32) (h : ∀ b : Fin 4, (byteOf w b.val).toNat < 64) (b : Fin 4) :
    byteOf ((w + 1616928864#32) &&& 2678038431#32) b.val = dec8 (byteOf w b.val) := by
  have hs : byteOf (w + 1616928864#32) b.val = byteOf w b.val + 0x60#8 := by
    apply BitVec.eq_of_toNat_eq
    have h0 := h 0; have h1 := h 1; have h2 := h 2; have h3 := h 3
    rw [byteOf_toNat, BitVec.toNat_add, BitVec.toNat_add, byteOf_toNat]
    rw [byteOf_toNat] at h0 h1 h2 h3
    have hw := w.isLt
    match b with
    | 0 => simp at *; omega
    | 1 => simp at *; omega
    | 2 => simp at *; omega
    | 3 => simp at *; omega
  unfold dec8
  rw [← hs]
  apply BitVec.eq_of_getLsbD_eq
  intro q hq
  rw [byteOf_getLsbD, BitVec.getLsbD_and, BitVec.getLsbD_and, byteOf_getLsbD]
  simp only [hq, decide_true, Bool.true_and]
  rw [mask_bits b ⟨q, hq⟩]

theorem pcOf_at (p : IVec S8x128 32) (sc : FVec F S32x128 .bf16) (r : Fin 32) (l : Fin 128) :
    pcOf p sc (ix2 r l) = FloatOps.mulf (FloatOps.extf (φ := .fp8e5m2) .bf16 bitsLt_fp8e5m2_bf16 (FloatOps.ofBits .fp8e5m2
      (byteOf ((p (ix2 ⟨r.val / 4, by omega⟩ l) + 1616928864#32) &&& 2678038431#32) (r.val % 4)))) (sc (ix2 r l)) := by
  unfold pcOf
  pointwise
  rw [bitcast_32_8_ix2 _ _ r l ⟨r.val / 4, by omega⟩ rfl]
  rfl

theorem pay35_at (s : Vec F S1x16x128 .i32) (r : Fin 32) (l : Fin 128) :
    k0_pay35 s (ix2 r l) = FloatOps.ofBits .bf16 ((s (ix3 0 ⟨r.val / 2, by omega⟩ l)).extractLsb' (16 * (r.val % 2)) 16) := by
  unfold k0_pay35
  pointwise
  rw [bitcast_32_16_ix2 _ _ r l ⟨r.val / 2, by omega⟩ rfl]
  pointwise

theorem colOf_at (x0 x1 : Fin 3 → Vec F S1x1x8x128 .i32) (s : Vec F S1x16x128 .i32) (k : Fin 256) (l : Fin 128) :
    colOf x0 x1 s (ix2 k l)
      = pcOf (fldOf ⟨k.val / 32 % 4, by omega⟩ (if k.val / 128 = 0 then x0 else x1)) (k0_pay35 s) (ix2 ⟨k.val % 32, by omega⟩ l) := by
  refine (concatenate_ofFn_apply (t := S256x128) (s₁ := S32x128) 0 (![pcOf (fldOf 0 x0) (k0_pay35 s),
      pcOf (fldOf 1 x0) (k0_pay35 s), pcOf (fldOf 2 x0) (k0_pay35 s), pcOf (fldOf 3 x0) (k0_pay35 s), pcOf (fldOf 0 x1) (k0_pay35 s),
      pcOf (fldOf 1 x1) (k0_pay35 s), pcOf (fldOf 2 x1) (k0_pay35 s), pcOf (fldOf 3 x1) (k0_pay35 s)] : Fin 8 → FVec F S32x128 .bf16)
      concatenates_S32x128_S32x128_S32x128_S32x128_S32x128_S32x128_S32x128_S32x128_S256x128_d0 rfl 32 rfl (ix2 k l)
      ⟨k.val / 32, by omega⟩ rfl (ix2 ⟨k.val % 32, by omega⟩ l) rfl ?_).trans ?_
  · intro b hb
    match b with
    | ⟨0, _⟩ => exact absurd rfl hb
    | ⟨1, _⟩ => rfl
  · have hk := k.isLt
    obtain ⟨n, hn⟩ : ∃ n : Fin 8, n.val = k.val / 32 := ⟨⟨k.val / 32, by omega⟩, rfl⟩
    have e1 : (⟨k.val / 32, by omega⟩ : Fin 8) = n := Fin.ext hn.symm
    have e2 : (⟨k.val / 32 % 4, by omega⟩ : Fin 4) = ⟨n.val % 4, by omega⟩ := Fin.ext (by simp only [hn])
    have e3 : (k.val / 128 = 0) ↔ n.val < 4 := by omega
    rw [e1, e2]
    simp only [e3]
    fin_cases n <;> rfl

theorem rhsOf_at (x : Fin 4 → Fin 2 → Fin 3 → Vec F S1x1x8x128 .i32) (s : Fin 4 → Vec F S1x16x128 .i32) (k : Fin 256) (n : Fin 512) :
    rhsOf x s (ix2 k n)
      = colOf (x ⟨n.val / 128, by omega⟩ 0) (x ⟨n.val / 128, by omega⟩ 1) (s ⟨n.val / 128, by omega⟩) (ix2 k ⟨n.val % 128, by omega⟩) := by
  refine (concatenate_ofFn_apply (t := S256x512) (s₁ := S256x128) 1 (fun c : Fin 4 => colOf (x c 0) (x c 1) (s c))
      concatenates_S256x128_S256x128_S256x128_S256x128_S256x512_d1 rfl 128 rfl (ix2 k n)
      ⟨n.val / 128, by omega⟩ rfl (ix2 k ⟨n.val % 128, by omega⟩) rfl ?_)
  intro b hb
  match b with
  | ⟨0, _⟩ => rfl
  | ⟨1, _⟩ => exact absurd rfl hb

/-- Byte `j` of the twelve of row `i`, lane `l` of three staged words. -/
abbrev cell (x : Fin 3 → Vec F S1x1x8x128 .i32) (i : Fin 8) (l : Fin 128) (j : Fin 12) : BitVec 8 :=
  lbyte (fun c => x c (ix4 0 0 i l)) j

/-- One decoded input. -/
theorem pcOf_fldOf_at (f : Fin 4) (x : Fin 3 → Vec F S1x1x8x128 .i32) (sc : FVec F S32x128 .bf16) (r : Fin 32) (l : Fin 128) :
    pcOf (fldOf f x) sc (ix2 r l) = FloatOps.mulf (FloatOps.extf (φ := .fp8e5m2) .bf16 bitsLt_fp8e5m2_bf16 (FloatOps.ofBits .fp8e5m2
      (dec8 (fbyte f (cell x ⟨r.val / 4, by omega⟩ l ⟨3 * (grp f ⟨r.val % 4, by omega⟩).val, by have := (grp f ⟨r.val % 4, by omega⟩).isLt; omega⟩)
        (cell x ⟨r.val / 4, by omega⟩ l ⟨3 * (grp f ⟨r.val % 4, by omega⟩).val + 1, by have := (grp f ⟨r.val % 4, by omega⟩).isLt; omega⟩)
        (cell x ⟨r.val / 4, by omega⟩ l ⟨3 * (grp f ⟨r.val % 4, by omega⟩).val + 2, by have := (grp f ⟨r.val % 4, by omega⟩).isLt; omega⟩))))) (sc (ix2 r l)) := by
  rw [pcOf_at, fldOf_at]
  have h := byteOf_dec (wfld f (v0w fun c => x c (ix4 0 0 ⟨r.val / 4, by omega⟩ l)) (v1w fun c => x c (ix4 0 0 ⟨r.val / 4, by omega⟩ l))
    (v2w fun c => x c (ix4 0 0 ⟨r.val / 4, by omega⟩ l))) (fun b => by rw [byteOf_wfld]; exact fbyte_lt _ _ _ _) ⟨r.val % 4, by omega⟩
  rw [byteOf_wfld] at h
  simp only at h
  rw [h]

end Cert.Proof.KernelIdeal

end
-- ==== Proof.Code.lean ====
/- The code of one number, and the value a code stands for. -/
module

public import proofs.«01_k».proof.Proof.Quant
public import proofs.«01_k».proof.Proof.PI.Decode

@[expose] public section

noncomputable section

namespace Cert.Proof.Num

open Idealize.ShloMosaic
open Cert.Proof.KernelIdeal (byteOf byteOf_toNat byteOf_getLsbD dec8)

/-! ### The reference's magnitude -/

theorem mag_tab : ∀ L : Fin 9, IntOp.maxsi (IntOp.addi (BitVec.ofInt 32 ((L.val : ℤ) - 3)) 1#32) 0#32 = BitVec.ofNat 32 (L.val - 2)
    ∧ (IntOp.subi 3#32 (IntOp.maxsi (BitVec.ofInt 32 ((L.val : ℤ) - 3)) 4294967295#32)).toInt = 3 - max ((L.val : ℤ) - 3) (-1)
    ∧ IntOp.addi (BitVec.ofInt 32 ((L.val : ℤ) - 4)) 1#32 = BitVec.ofInt 32 ((L.val : ℤ) - 3) := by
  decide

theorem rMag_pos (r : ℝ) (L : ℕ) (hL8 : L ≤ 8) (h0 : 0 < r) (hL : lg r = (L : ℤ) - 4) (n : ℕ) (hn : n ≤ 15)
    (h : r * (2 : ℝ) ^ (3 - max ((L : ℤ) - 3) (-1)) = n) :
    rMag (r : EReal) (rK (r : EReal)) = BitVec.ofNat 32 (4 * (L - 2) + n) := by
  obtain ⟨t1, t2, t3⟩ := mag_tab ⟨L, by omega⟩
  simp only at t1 t2 t3
  have hK : rK (r : EReal) = BitVec.ofInt 32 ((L : ℤ) - 3) := by
    unfold rK
    rw [if_pos (by exact_mod_cast h0), fl_eq r h0, hL, show max (-2147483648) (min 2147483647 ((L : ℤ) - 4)) = (L : ℤ) - 4 by omega, t3]
  unfold rMag
  rw [hK, t1, pow2, t2, ← EReal.coe_mul, h, decide_eq_true (show (0 : EReal) < (r : EReal) by exact_mod_cast h0)]
  have : FloatOps.fptosi (F := Ideal) (φ := .f32) 32 (((n : ℝ)) : EReal) = BitVec.ofNat 32 n := by
    show Ideal.fptosi 32 ((((n : ℕ) : ℝ)) : EReal) = _
    rw [show ((n : ℕ) : ℝ) = (((n : ℕ) : ℤ) : ℝ) by push_cast; rfl, fptosi_int]
    rw [show max (-((2 ^ (32 - 1) : ℕ) : ℤ)) (min (((2 ^ (32 - 1) : ℕ) : ℤ) - 1) (n : ℤ)) = n by norm_num; omega]
    exact BitVec.ofInt_natCast 32 n
  rw [this]
  show (BitVec.setWidth 32 (BitVec.ofBool true) * 4#32) * BitVec.ofNat 32 (L - 2) + BitVec.ofNat 32 n = _
  rw [show (BitVec.setWidth 32 (BitVec.ofBool true) * 4#32) = BitVec.ofNat 32 4 by decide, ← BitVec.ofNat_mul, ← BitVec.ofNat_add]

/-- The reference's magnitude of a rounded number is four times the binade plus the digit. -/
theorem rMag_eq (t N : ℕ) (h : Ok t N) : rMag (((N : ℝ) * (2 : ℝ) ^ ((t : ℤ) - 4) : ℝ) : EReal) (rK (((N : ℝ) * (2 : ℝ) ^ ((t : ℤ) - 4) : ℝ) : EReal))
    = BitVec.ofNat 32 (4 * t + N) := by
  obtain ⟨h1, h2, h3, h4⟩ := h
  have hpw : (0 : ℝ) < (2 : ℝ) ^ ((t : ℤ) - 4) := by positivity
  have step (k L : ℤ) : (2 : ℝ) ^ k * (2 : ℝ) ^ ((t : ℤ) - 4) = (2 : ℝ) ^ (k + ((t : ℤ) - 4)) := by rw [← zpow_add₀ (by norm_num)]
  by_cases n8 : N = 8
  · subst n8
    rw [rMag_pos _ (t + 3) (by omega) (by positivity) ?_ 4 (by norm_num) ?_]
    · congr 1
    · apply log_eq
      · rw [show (((t + 3 : ℕ) : ℤ) - 4) = 3 + ((t : ℤ) - 4) by push_cast; ring, zpow_add₀ (by norm_num)]; norm_num
      · rw [show (((t + 3 : ℕ) : ℤ) - 4 + 1) = 4 + ((t : ℤ) - 4) by push_cast; ring, zpow_add₀ (by norm_num)]; norm_num; linarith
    · rw [show 3 - max (((t + 3 : ℕ) : ℤ) - 3) (-1) = -1 - ((t : ℤ) - 4) by omega, mul_assoc, ← zpow_add₀ (by norm_num)]
      rw [show ((t : ℤ) - 4 + (-1 - ((t : ℤ) - 4))) = -1 by ring]; norm_num
  by_cases n4 : 4 ≤ N
  · have a4 : (4 : ℝ) ≤ N := by exact_mod_cast n4
    have a8 : (N : ℝ) < 8 := by exact_mod_cast (by omega : N < 8)
    rw [rMag_pos _ (t + 2) (by omega) (by positivity) ?_ N (by omega) ?_]
    · congr 1
    · apply log_eq
      · rw [show (((t + 2 : ℕ) : ℤ) - 4) = 2 + ((t : ℤ) - 4) by push_cast; ring, zpow_add₀ (by norm_num)]
        apply mul_le_mul_of_nonneg_right _ hpw.le; norm_num; exact n4
      · rw [show (((t + 2 : ℕ) : ℤ) - 4 + 1) = 3 + ((t : ℤ) - 4) by push_cast; ring, zpow_add₀ (by norm_num)]
        apply mul_lt_mul_of_pos_right _ hpw; norm_num; omega
    · rw [show 3 - max (((t + 2 : ℕ) : ℤ) - 3) (-1) = - ((t : ℤ) - 4) by omega, mul_assoc, ← zpow_add₀ (by norm_num)]
      rw [show ((t : ℤ) - 4 + (- ((t : ℤ) - 4))) = 0 by ring]; norm_num
  have t0 : t = 0 := by by_contra hc; exact n4 (h3 (by omega))
  subst t0
  by_cases n2 : 2 ≤ N
  · have a2 : (2 : ℝ) ≤ N := by exact_mod_cast n2
    have a4 : (N : ℝ) < 4 := by exact_mod_cast (by omega : N < 4)
    rw [rMag_pos _ 1 (by omega) (by positivity) ?_ N (by omega) ?_]
    · apply log_eq <;> norm_num <;> linarith
    · norm_num; ring
  by_cases n1 : N = 1
  · subst n1
    rw [rMag_pos _ 0 (by omega) (by positivity) ?_ 1 (by omega) ?_]
    · apply log_eq <;> norm_num
    · norm_num
  have n0 : N = 0 := by omega
  subst n0
  have hz : (((((0 : ℕ) : ℝ)) * (2 : ℝ) ^ (((0 : ℕ) : ℤ) - 4) : ℝ) : EReal) = ((0 : ℝ) : EReal) := by norm_num
  rw [hz]
  unfold rMag rK
  rw [pow2, ← EReal.coe_mul, zero_mul]
  have : FloatOps.fptosi (F := Ideal) (φ := .f32) 32 (((0 : ℝ)) : EReal) = 0#32 := by
    show Ideal.fptosi 32 (((0 : ℝ)) : EReal) = _
    rw [show (0 : ℝ) = ((0 : ℤ) : ℝ) by norm_num, fptosi_int]; rfl
  rw [this]
  simp
  decide

/-! ### The code -/

/-- The code of a magnitude and a sign. -/
def codeOf (m : ℕ) (s : Prop) [Decidable s] : BitVec 8 := BitVec.ofNat 8 (m + if s ∧ m ≠ 0 then 32 else 0)

/-- What the kernel makes of one byte. -/
def codeByte (v : BitVec 8) : BitVec 8 := (v &&& 0x1F#8) ||| ((v >>> 2) &&& ((v &&& 0x1F#8) + 0x1F#8) &&& 0x20#8)

theorem codeByte_tab : ∀ m : Fin 32, codeByte (BitVec.ofNat 8 m.val) = BitVec.ofNat 8 m.val
    ∧ codeByte (BitVec.ofNat 8 (m.val + 128)) = BitVec.ofNat 8 (m.val + if m.val ≠ 0 then 32 else 0) := by
  decide

theorem rcode_tab : ∀ m : Fin 32, BitVec.setWidth 8 (IntOp.ori (IntOp.shli .host (BitVec.setWidth 32 (0#1)) 5#32) (BitVec.ofNat 32 m.val)) = BitVec.ofNat 8 m.val
    ∧ BitVec.setWidth 8 (IntOp.ori (IntOp.shli .host (BitVec.setWidth 32 (1#1)) 5#32) (BitVec.ofNat 32 m.val)) = BitVec.ofNat 8 (m.val + 32) := by
  decide

/-- The scaled, clipped number. -/
theorem kY_eq (x : ℝ) (e : BitVec 32) (q : ℕ) (h1 : 1 ≤ q) (h2 : q ≤ 250) (h : kInv e = BitVec.ofNat 32 (254 - q)) :
    kY (x : EReal) e = ((min 28 (max (-28) (x * (2 : ℝ) ^ (127 - (q : ℤ)))) * (2 : ℝ) ^ (-12 : ℤ) : ℝ) : EReal) := by
  unfold kY
  rw [h, shli23, lit28, lit28', litm12]
  show min _ (max _ (_ * F32 (254 - q))) * _ = _
  rw [F32_pow _ (by omega) (by omega), show (((254 - q : ℕ) : ℤ) - 127) = 127 - (q : ℤ) by omega, ← EReal.coe_mul]
  rw [← (EReal.coe_strictMono.monotone).map_max, ← (EReal.coe_strictMono.monotone).map_min, ← EReal.coe_mul]

theorem kA_eq (y : ℝ) : kA ((min 28 (max (-28) y) * (2 : ℝ) ^ (-12 : ℤ) : ℝ) : EReal) = ((16 * min |y| 28 : ℝ) : EReal) := by
  have habs : |min 28 (max (-28) y)| = min |y| 28 := by
    rcases le_total 0 y with h | h
    · rw [abs_of_nonneg h, max_eq_right (by linarith), min_comm, abs_of_nonneg (le_min h (by norm_num))]
    · rw [abs_of_nonpos h, min_eq_right (max_le (by norm_num) (by linarith)), abs_of_nonpos (max_le (by norm_num) h)]
      rcases le_total (-28) y with h2 | h2
      · rw [max_eq_right h2, min_eq_left (by linarith)]
      · rw [max_eq_left h2, min_eq_right (by linarith)]; norm_num
  unfold kA
  rw [← EReal.coe_neg, ← (EReal.coe_strictMono.monotone).map_max]
  have h47 : Ideal.ofBits .f32 0x47800000#32 = ((65536 : ℝ) : EReal) := by
    rw [show Ideal.ofBits .f32 0x47800000#32 = F32 143 from rfl, F32_pow 143 (by norm_num) (by norm_num)]; norm_num
  rw [h47, ← EReal.coe_mul]
  congr 1
  show |_| * 65536 = _
  rw [abs_mul, habs, abs_of_pos (show (0 : ℝ) < (2 : ℝ) ^ (-12 : ℤ) by positivity)]
  norm_num
  ring

theorem sgn_eq (y : ℝ) : (min 28 (max (-28) y) * (2 : ℝ) ^ (-12 : ℤ) < 0) ↔ y < 0 := by
  have hp : (0 : ℝ) < (2 : ℝ) ^ (-12 : ℤ) := by positivity
  constructor
  · intro h
    by_contra hc
    have : 0 ≤ min 28 (max (-28) y) := le_min (by norm_num) (le_trans (not_lt.1 hc) (le_max_right _ _))
    have := mul_nonneg this hp.le
    linarith
  · intro h
    have : min 28 (max (-28) y) < 0 := lt_of_le_of_lt (min_le_right _ _) (max_lt (by norm_num) h)
    exact mul_neg_of_neg_of_pos this hp

/-- The quantiser on one number of a block: the kernel's byte and the reference's code. -/
theorem quant_eq (M : ℝ) (hM : InR M) (x : ℝ) (hx : |x| ≤ M) : ∃ m : ℕ, ∃ y : ℝ, m < 32
    ∧ kByte (kY (x : EReal) (kE (M : EReal))) = BitVec.ofNat 8 (m + if y < 0 then 128 else 0)
    ∧ rY (x : EReal) (rX (M : EReal)) = (y : EReal)
    ∧ rCode (y : EReal) (rR ((|y| : ℝ) : EReal) (rT ((|y| : ℝ) : EReal))) (rK (rR ((|y| : ℝ) : EReal) (rT ((|y| : ℝ) : EReal))))
        = codeOf m (y < 0) := by
  obtain ⟨q, q1, q2, hS, hI, hX, hy⟩ := scale_eq M hM
  set y := x * (2 : ℝ) ^ (127 - (q : ℤ)) with hyd
  obtain ⟨t, N, ok, hT, hN, hR⟩ := mag_eq |y| (abs_nonneg y) (hy x hx)
  have hi := ok.hi
  refine ⟨4 * t + N, y, by omega, ?_, ?_, ?_⟩
  · rw [kY_eq x _ q q1 q2 hI, ← hyd]
    unfold kByte
    rw [kA_eq, hT, hN]
    have hs : FloatOps.cmpf (F := Ideal) (φ := .f32) .olt ((min 28 (max (-28) y) * (2 : ℝ) ^ (-12 : ℤ) : ℝ) : EReal) (Ideal.ofBits .f32 0x00000000#32)
        = BitVec.ofBool (decide (y < 0)) := by
      show BitVec.ofBool (decide (_ < _)) = _
      rw [Ideal.ofBits_zero_f32]
      congr 1
      apply decide_eq_decide.2
      rw [← EReal.coe_zero, EReal.coe_lt_coe_iff, sgn_eq]
    rw [hs]
    show BitVec.setWidth 8 (4#32 * BitVec.ofNat 32 t + BitVec.ofNat 32 N + _) = _
    rw [show (4#32 * BitVec.ofNat 32 t + BitVec.ofNat 32 N) = BitVec.ofNat 32 (4 * t + N) by
      rw [show (4#32) = BitVec.ofNat 32 4 from rfl, ← BitVec.ofNat_mul, ← BitVec.ofNat_add]]
    by_cases hn : y < 0
    · rw [decide_eq_true hn, if_pos hn]
      show BitVec.setWidth 8 (BitVec.ofNat 32 (4 * t + N) + BitVec.ofNat 32 128) = _
      rw [← BitVec.ofNat_add, BitVec.setWidth_ofNat_of_le (by norm_num)]
    · rw [decide_eq_false hn, if_neg hn]
      show BitVec.setWidth 8 (BitVec.ofNat 32 (4 * t + N) + BitVec.ofNat 32 0) = _
      rw [← BitVec.ofNat_add, BitVec.setWidth_ofNat_of_le (by norm_num)]
  · unfold rY
    have tI : (-(BitVec.ofInt 32 ((q : ℤ) - 127))).toInt = 127 - (q : ℤ) := by
      rw [← BitVec.ofInt_neg, BitVec.toInt_ofInt, Int.bmod_eq_of_le (by norm_num; omega) (by norm_num; omega)]; ring
    rw [hX, pow2, tI, ← EReal.coe_mul]
  · rw [hR]
    unfold rCode
    rw [rMag_eq t N ok]
    have hpos : ((0 : EReal) < (((N : ℝ) * (2 : ℝ) ^ ((t : ℤ) - 4) : ℝ) : EReal)) ↔ 4 * t + N ≠ 0 := by
      rw [← EReal.coe_zero, EReal.coe_lt_coe_iff, mul_pos_iff_of_pos_right (by positivity), Nat.cast_pos]
      have := ok.lo
      omega
    have hneg : ((y : EReal) < 0) ↔ y < 0 := by rw [← EReal.coe_zero, EReal.coe_lt_coe_iff]
    obtain ⟨c1, c2⟩ := rcode_tab ⟨4 * t + N, by omega⟩
    simp only at c1 c2
    unfold codeOf
    by_cases hn : y < 0
    · by_cases hp : 4 * t + N ≠ 0
      · rw [decide_eq_true (hneg.2 hn), decide_eq_true (hpos.2 hp), if_pos ⟨hn, hp⟩]; exact c2
      · rw [decide_eq_true (hneg.2 hn), decide_eq_false (fun h => hp (hpos.1 h)), if_neg (fun h => hp h.2)]; exact c1
    · rw [decide_eq_false (fun h => hn (hneg.1 h)), if_neg (fun h => hn h.1)]
      refine Eq.trans ?_ c1
      congr 4
      cases decide ((0 : EReal) < (((N : ℝ) * (2 : ℝ) ^ ((t : ℤ) - 4) : ℝ) : EReal)) <;> rfl

/-- The kernel's code of the byte. -/
theorem codeByte_eq (m : ℕ) (hm : m < 32) (s : Prop) [Decidable s] : codeByte (BitVec.ofNat 8 (m + if s then 128 else 0)) = codeOf m s := by
  obtain ⟨c1, c2⟩ := codeByte_tab ⟨m, hm⟩
  simp only at c1 c2
  unfold codeOf
  by_cases hs : s
  · simp only [hs, if_true, true_and]; exact c2
  · simp only [hs, if_false, false_and]; exact c1

theorem m1F : ∀ (b : Fin 4) (q : Fin 8), (522133279#32).getLsbD (8 * b.val + q.val) = (0x1F#8).getLsbD q.val := by decide
theorem m20 : ∀ (b : Fin 4) (q : Fin 8), (538976288#32).getLsbD (8 * b.val + q.val) = (0x20#8).getLsbD q.val := by decide
theorem m20_hi : ∀ q : Fin 8, (0x20#8).getLsbD q.val = true → q.val = 5 := by decide

theorem byteOf_and1F (w : BitVec 32) (b : Fin 4) : byteOf (w &&& 522133279#32) b.val = byteOf w b.val &&& 0x1F#8 := by
  apply BitVec.eq_of_getLsbD_eq
  intro q hq
  rw [byteOf_getLsbD, BitVec.getLsbD_and, BitVec.getLsbD_and, byteOf_getLsbD]
  simp only [hq, decide_true, Bool.true_and]
  rw [m1F b ⟨q, hq⟩]

/-- The kernel's words of codes, bytewise. -/
theorem byteOf_code (w : BitVec 32) (b : Fin 4) :
    byteOf ((w &&& 522133279#32) ||| (((w >>> 2) &&& ((w &&& 522133279#32) + 522133279#32)) &&& 538976288#32)) b.val = codeByte (byteOf w b.val) := by
  have hs : byteOf ((w &&& 522133279#32) + 522133279#32) b.val = (byteOf w b.val &&& 0x1F#8) + 0x1F#8 := by
    rw [← byteOf_and1F]
    have hl (b : Fin 4) : (byteOf (w &&& 522133279#32) b.val).toNat < 32 := by
      rw [byteOf_and1F, BitVec.toNat_and]
      exact lt_of_le_of_lt Nat.and_le_right (by decide)
    generalize (w &&& 522133279#32) = v at hl
    apply BitVec.eq_of_toNat_eq
    have h0 := hl 0; have h1 := hl 1; have h2 := hl 2; have h3 := hl 3
    rw [byteOf_toNat, BitVec.toNat_add, BitVec.toNat_add, byteOf_toNat]
    rw [byteOf_toNat] at h0 h1 h2 h3
    have hw := v.isLt
    match b with
    | 0 => simp at *; omega
    | 1 => simp at *; omega
    | 2 => simp at *; omega
    | 3 => simp at *; omega
  unfold codeByte
  rw [← hs]
  apply BitVec.eq_of_getLsbD_eq
  intro q hq
  rw [byteOf_getLsbD]
  simp only [BitVec.getLsbD_or, BitVec.getLsbD_and, byteOf_getLsbD, hq, decide_true, Bool.true_and, BitVec.getLsbD_ushiftRight]
  rw [m1F b ⟨q, hq⟩, m20 b ⟨q, hq⟩]
  congr 1
  by_cases h5 : (0x20#8).getLsbD q = true
  · have : q = 5 := m20_hi ⟨q, hq⟩ h5
    subst this
    have hb := b.isLt
    rw [show 2 + (8 * b.val + 5) = 8 * b.val + (2 + 5) by omega]
    simp
  · rw [Bool.not_eq_true] at h5
    rw [h5, Bool.and_false, Bool.and_false]

/-! ### Values of codes -/

/-- The value of a 5-bit magnitude: two fraction bits, three exponent bits. -/
def val5 (m : ℕ) : ℝ := (if m / 4 = 0 then ((m % 4 : ℕ) : ℝ) else ((4 + m % 4 : ℕ) : ℝ)) * (2 : ℝ) ^ (max ((m / 4 : ℕ) : ℤ) 1 - 5)

def sg (s : Prop) [Decidable s] : ℝ := if s then -1 else 1

theorem e5_fields : ∀ m : Fin 32, ((BitVec.ofNat 8 m.val).extractLsb' 7 1 = 0#1 ∧ ((BitVec.ofNat 8 m.val).extractLsb' 2 5).toNat = m.val / 4
      ∧ ((BitVec.ofNat 8 m.val).extractLsb' 0 2).toNat = m.val % 4)
    ∧ ((BitVec.ofNat 8 (m.val + 128)).extractLsb' 7 1 = 1#1 ∧ ((BitVec.ofNat 8 (m.val + 128)).extractLsb' 2 5).toNat = m.val / 4
      ∧ ((BitVec.ofNat 8 (m.val + 128)).extractLsb' 0 2).toNat = m.val % 4) := by
  decide

/-- The float byte's value. -/
theorem e5_eq (m : ℕ) (hm : m < 32) (s : Prop) [Decidable s] :
    Ideal.ofBits .fp8e5m2 (BitVec.ofNat 8 (m + if s then 128 else 0)) = ((sg s * val5 m * (2 : ℝ) ^ (-12 : ℤ) : ℝ) : EReal) := by
  have key (b : BitVec 8) (g : BitVec 1) (ex fr : ℕ) (h0 : b.extractLsb' 7 1 = g) (h1 : (b.extractLsb' 2 5).toNat = ex) (h2 : (b.extractLsb' 0 2).toNat = fr)
      (h3 : ex < 8) : Ideal.ofBits .fp8e5m2 b = (((if (g == 1#1) = true then (-1 : ℝ) else 1) * (if ex = 0 then (fr : ℝ) else ((4 + fr : ℕ) : ℝ))
        * (2 : ℝ) ^ (max (ex : ℤ) 1 - 5) * (2 : ℝ) ^ (-12 : ℤ) : ℝ) : EReal) := by
    show Ideal.ieee 5 2 b = _
    unfold Ideal.ieee
    simp only
    rw [h0, h1, h2, if_neg (by norm_num; omega)]
    by_cases h4 : ex = 0
    · rw [if_pos h4, if_pos h4]
      congr 1
      rw [mul_assoc _ _ ((2 : ℝ) ^ (-12 : ℤ)), ← zpow_add₀ (by norm_num)]
      subst h4
      congr 2
    · rw [if_neg h4, if_neg h4]
      congr 1
      rw [mul_assoc _ _ ((2 : ℝ) ^ (-12 : ℤ)), ← zpow_add₀ (by norm_num)]
      congr 2
      push_cast; rw [max_eq_left (by omega)]; norm_num; ring
  obtain ⟨⟨a1, a2, a3⟩, b1, b2, b3⟩ := e5_fields ⟨m, hm⟩
  simp only at a1 a2 a3 b1 b2 b3
  unfold sg val5
  by_cases hs : s
  · rw [if_pos hs, if_pos hs, key _ _ _ _ b1 b2 b3 (by omega), if_pos (by decide)]
    congr 1
    ring
  · rw [if_neg hs, if_neg hs, Nat.add_zero, key _ _ _ _ a1 a2 a3 (by omega), if_neg (by decide)]
    congr 1
    ring

theorem dec8_tab : ∀ p : Fin 64, dec8 (BitVec.ofNat 8 p.val) = BitVec.ofNat 8 (p.val % 32 + if 32 ≤ p.val then 128 else 0) := by
  decide

/-- The weight byte's value. -/
theorem w5_eq (p : BitVec 8) (hp : p.toNat < 64) :
    Ideal.ofBits .fp8e5m2 (dec8 p) = ((sg (32 ≤ p.toNat) * val5 (p.toNat % 32) * (2 : ℝ) ^ (-12 : ℤ) : ℝ) : EReal) := by
  have := dec8_tab ⟨p.toNat, hp⟩
  simp only [BitVec.ofNat_toNat, BitVec.setWidth_eq] at this
  rw [this, e5_eq _ (by omega)]

end Cert.Proof.Num

end
-- ==== Proof.PI.Trip1.lean ====
/- One unit of 256 inputs of the quantiser: what it stores, written once over the block of `x` it reads, and the
   generated trip opened to it. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-- The exponent field of the largest magnitude of each block of 32, and whether it is zero. -/
def qE (x : Vec F S128x256 .bf16) : IVec S8x128 32 := k0_pay19 (k0_pay16 x) (k0_pay17 x) (k0_pay18 x)
def qZ (x : Vec F S128x256 .bf16) : IVec S8x128 1 := k0_pay20 (k0_pay16 x) (k0_pay17 x) (k0_pay18 x)
def qI (x : Vec F S128x256 .bf16) : IVec S8x128 32 := k0_pay21 (k0_pay16 x) (k0_pay17 x) (k0_pay18 x)

/-- The scaled, clipped inputs. -/
def qY (x : Vec F S128x256 .bf16) : FVec F S256x128 .f32 := k0_pay26 (k0_pay15 x) (qZ x) (qI x) k0_pay22
def qA (x : Vec F S128x256 .bf16) : FVec F S256x128 .f32 := k0_pay27 (k0_pay15 x) (qZ x) (qI x) k0_pay22
def qT (x : Vec F S128x256 .bf16) : IVec S256x128 32 := k0_pay28 (k0_pay15 x) (qZ x) (qI x) k0_pay22

/-- The stored codes, scales and decoded inputs of the unit. -/
def qCodes (x : Vec F S128x256 .bf16) : IVec S128x256 8 :=
  k0_pay1 (k0_pay33 (qY x) (qA x) (qT x) k0_pay29) (k0_pay34 (qY x) (qA x) (qT x) k0_pay29)
def qExp (x : Vec F S128x256 .bf16) : IVec S8x128 32 := k0_pay24 (qE x) (qZ x)
def qXp (x : Vec F S128x256 .bf16) (p : Vec F S256x256 .bf16) : FVec F S128x256 .bf16 :=
  k0_pay2 (k0_pay25 (qE x) (qZ x)) (k0_pay31 (qY x) (qA x) (qT x) k0_pay29) p

/-- The trip of the quantiser's loop, opened. -/
theorem trip_t1_eq (𝒱 : Variants) (c : Dev nD) (bd : Option 𝒱.V) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (h1 : k0_cond1 i = 1#1) (X1 : BufTy.Contents (Elt F) arg1.view.ty) (X2 : BufTy.Contents (Elt F) arg2.view.ty)
    (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 h1 X1 X2 k
      = ([⟨Rect.unit (s := S128x7168) (k0_off1 k) S128x256.size (k0_off1_inb i k h1),
            qCodes (arg1.view.readAt (Elt F) (Rect.unit (s := S128x7168) (k0_off1 k) S128x256.size (k0_off1_inb i k h1)).toLoadRect X1)⟩],
         [⟨Rect.unit (s := S128x7168) (k0_off1 k) S128x256.size (k0_off1_inb i k h1),
            qXp (arg1.view.readAt (Elt F) (Rect.unit (s := S128x7168) (k0_off1 k) S128x256.size (k0_off1_inb i k h1)).toLoadRect X1)
              (arg2.view.readAt (Elt F) (Rect.unit (s := S256x256) ![0, 0] S256x256.size inb_S256x256_S256x256_0_0).toLoadRect X2)⟩],
         [⟨Rect.unit (s := S256x128) (k0_off2 k) S8x128.size (k0_off2_inb i k h1),
            qExp (arg1.view.readAt (Elt F) (Rect.unit (s := S128x7168) (k0_off1 k) S128x256.size (k0_off1_inb i k h1)).toLoadRect X1)⟩]) := by
  unfold tripL_k0_t1 trip_k0_t1
  sl_kernel_rfl

end Cert.Proof.KernelIdeal

end
-- ==== Proof.PI.Vals.lean ====
/- What a run of the body computes, as functions of the contents of the windows: the words staged for a chunk, the scale
   words, the product summed over the units. -/
module

public import proofs.«01_k».proof.Proof.PI.Trip
public import proofs.«01_k».proof.Proof.PI.Trip1
public import proofs.«01_k».proof.Proof.PI.Decode

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-- The word staged at row `row`, lane `l` of quarter `q` for chunk `c` of the half `r0` of the block: four bytes of one
    output. -/
def stg (w : S1024x5376.Idx → BitVec 8) (r0 : Fin 2) (c : Fin 14) (q : Fin 4) (row : Fin 96) (l : Fin 128) : BitVec 32 :=
  word4 (w (ix2 ⟨512 * r0.val + (128 * q.val + l.val), by omega⟩ ⟨384 * c.val + 4 * row.val, by omega⟩))
    (w (ix2 ⟨512 * r0.val + (128 * q.val + l.val), by omega⟩ ⟨384 * c.val + (4 * row.val + 1), by omega⟩))
    (w (ix2 ⟨512 * r0.val + (128 * q.val + l.val), by omega⟩ ⟨384 * c.val + (4 * row.val + 2), by omega⟩))
    (w (ix2 ⟨512 * r0.val + (128 * q.val + l.val), by omega⟩ ⟨384 * c.val + (4 * row.val + 3), by omega⟩))

/-- The words one unit reads: quarter, half of the unit, word of the three. -/
def xOf (w : S1024x5376.Idx → BitVec 8) (r0 : Fin 2) (c : Fin 14) (h : Fin 2) : Fin 4 → Fin 2 → Fin 3 → Vec F S1x1x8x128 .i32 :=
  fun q t j y => stg w r0 c q ⟨48 * h.val + 3 * t.val + j.val + 6 * (y 2).val, by have : (y 2).val < 8 := (y 2).isLt; omega⟩ (y 3)

/-- The scale words one unit reads. -/
def sOf (sc : S4x448x128.Idx → BitVec 32) (c : Fin 14) (h : Fin 2) : Fin 4 → Vec F S1x16x128 .i32 :=
  fun q y => sc (ix3 q ⟨32 * c.val + 16 * h.val + (y 1).val, by have : (y 1).val < 16 := (y 1).isLt; omega⟩ (y 2))

/-- The inputs one unit reads. -/
def lhsOf (xp : S128x7168.Idx → F .bf16) (c : Fin 14) (h : Fin 2) : FVec F S128x256 .bf16 :=
  fun y => xp (ix2 (y 0) ⟨512 * c.val + 256 * h.val + (y 1).val, by have : (y 1).val < 256 := (y 1).isLt; omega⟩)

/-- One unit added. -/
def unitOf (xp : S128x7168.Idx → F .bf16) (w : S1024x5376.Idx → BitVec 8) (sc : S4x448x128.Idx → BitVec 32) (r0 : Fin 2)
    (c : Fin 14) (h : Fin 2) (acc : FVec F S128x512 .f32) : FVec F S128x512 .f32 :=
  tripOf acc (lhsOf xp c h) (rhsOf (xOf w r0 c h) (sOf sc c h))

/-- The first `n` chunks added to `init`. -/
def accOf (xp : S128x7168.Idx → F .bf16) (w : S1024x5376.Idx → BitVec 8) (sc : S4x448x128.Idx → BitVec 32) (r0 : Fin 2)
    (init : FVec F S128x512 .f32) : ℕ → FVec F S128x512 .f32
  | 0 => init
  | n + 1 => if hn : n < 14 then unitOf xp w sc r0 ⟨n, hn⟩ 1 (unitOf xp w sc r0 ⟨n, hn⟩ 0 (accOf xp w sc r0 init n)) else accOf xp w sc r0 init n

theorem accOf_succ (xp : S128x7168.Idx → F .bf16) (w : S1024x5376.Idx → BitVec 8) (sc : S4x448x128.Idx → BitVec 32) (r0 : Fin 2)
    (init : FVec F S128x512 .f32) (n : ℕ) (hn : n < 14) :
    accOf xp w sc r0 init (n + 1) = unitOf xp w sc r0 ⟨n, hn⟩ 1 (unitOf xp w sc r0 ⟨n, hn⟩ 0 (accOf xp w sc r0 init n)) := by
  rw [accOf, dif_pos hn]

/-- A word of four scale bytes spread to four words: word `b` holds byte `b` as the exponent of two equal halves. -/
def spread (b : ℕ) (v : BitVec 32) : BitVec 32 :=
  (if b = 3 then v >>> 1 else v <<< (23 - 8 * b)) &&& 2139095040#32 |||
    ((if b = 3 then v >>> 1 else v <<< (23 - 8 * b)) &&& 2139095040#32) >>> 16

/-- The scale word at row `row`, lane `l` of quarter `q` for half `r0` of the block. -/
def scl (s : S1024x224.Idx → BitVec 8) (r0 : Fin 2) (q : Fin 4) (row : Fin 448) (l : Fin 128) : BitVec 32 :=
  spread (row.val % 8 / 2) (word4 (s (ix2 ⟨512 * r0.val + (128 * q.val + l.val), by omega⟩ ⟨4 * (row.val / 8), by omega⟩))
    (s (ix2 ⟨512 * r0.val + (128 * q.val + l.val), by omega⟩ ⟨4 * (row.val / 8) + 1, by omega⟩))
    (s (ix2 ⟨512 * r0.val + (128 * q.val + l.val), by omega⟩ ⟨4 * (row.val / 8) + 2, by omega⟩))
    (s (ix2 ⟨512 * r0.val + (128 * q.val + l.val), by omega⟩ ⟨4 * (row.val / 8) + 3, by omega⟩)))

def sclA (s : S1024x224.Idx → BitVec 8) (r0 : Fin 2) : S4x448x128.Idx → BitVec 32 := fun y => scl s r0 (y 0) (y 1) (y 2)

/-- What the body leaves in the block of the first result. -/
def yOf (xp : S128x7168.Idx → F .bf16) (w : S1024x5376.Idx → BitVec 8) (s : S1024x224.Idx → BitVec 8) : S128x1024.Idx → F .bf16 :=
  fun y => k0_pay14 (accOf xp w (sclA s ⟨(y 1).val / 512, by have : (y 1).val < 1024 := (y 1).isLt; omega⟩)
      ⟨(y 1).val / 512, by have : (y 1).val < 1024 := (y 1).isLt; omega⟩ k0_pay7 14)
    (ix2 (y 0) ⟨(y 1).val % 512, by omega⟩)

theorem ix4_of {n0 n1 n2 n3 : ℕ} (y : (⟨4, ![n0, n1, n2, n3]⟩ : Shape).Idx) (a : Fin n0) (b : Fin n1) (c : Fin n2) (e : Fin n3)
    (h0 : (y 0).val = a.val) (h1 : (y 1).val = b.val) (h2 : (y 2).val = c.val) (h3 : (y 3).val = e.val) : y = ix4 a b c e := by
  rw [ix4_eq_valueIdx]
  funext k
  match k with
  | ⟨0, _⟩ => exact Fin.ext h0
  | ⟨1, _⟩ => exact Fin.ext h1
  | ⟨2, _⟩ => exact Fin.ext h2
  | ⟨3, _⟩ => exact Fin.ext h3

theorem ix3_of {n0 n1 n2 : ℕ} (y : (⟨3, ![n0, n1, n2]⟩ : Shape).Idx) (a : Fin n0) (b : Fin n1) (c : Fin n2)
    (h0 : (y 0).val = a.val) (h1 : (y 1).val = b.val) (h2 : (y 2).val = c.val) : y = ix3 a b c := by
  rw [ix3_eq_valueIdx]
  funext k
  match k with
  | ⟨0, _⟩ => exact Fin.ext h0
  | ⟨1, _⟩ => exact Fin.ext h1
  | ⟨2, _⟩ => exact Fin.ext h2

theorem ix2_of {n0 n1 : ℕ} (y : (⟨2, ![n0, n1]⟩ : Shape).Idx) (a : Fin n0) (b : Fin n1)
    (h0 : (y 0).val = a.val) (h1 : (y 1).val = b.val) : y = ix2 a b := by
  rw [ix2_eq_valueIdx]
  funext k
  match k with
  | ⟨0, _⟩ => exact Fin.ext h0
  | ⟨1, _⟩ => exact Fin.ext h1

theorem ld8 (arg8 : Memref sig .tc .vmem S14x4x96x128 .i32) (X8 : BufTy.Contents (Elt F) arg8.view.ty) (off : Fin 4 → ℕ)
    (inb : ∀ a, S1x1x8x128.size a = 0 ∨ off a + (![1, 1, 6, 1] : Fin 4 → ℕ) a * (S1x1x8x128.size a - 1) < S14x4x96x128.size a)
    (w : S1024x5376.Idx → BitVec 8) (r0 : Fin 2) (c : Fin 14) (q : Fin 4) (row : ℕ) (hrow : row < 54) (hoff : off = ![c.val, q.val, row, 0])
    (hX : ∀ (q : Fin 4) (row : Fin 96) (l : Fin 128), arg8.view.read (Elt F) X8 (ix4 c q row l) = stg w r0 c q row l) :
    arg8.view.readAt (Elt F) (⟨off, S1x1x8x128.size, ![1, 1, 6, 1], inb⟩ : LoadRect S14x4x96x128) X8
      = (fun y => stg w r0 c q ⟨row + 6 * (y 2).val, by have : (y 2).val < 8 := (y 2).isLt; omega⟩ (y 3) : Vec F S1x1x8x128 .i32) := by
  subst hoff
  funext y
  have hy0 : (y 0).val < 1 := (y 0).isLt
  have hy1 : (y 1).val < 1 := (y 1).isLt
  have hy2 : (y 2).val < 8 := (y 2).isLt
  rw [View.readAt_apply, ix4_of (LoadRect.idx _ y) c q ⟨row + 6 * (y 2).val, by omega⟩ (y 3)
    (by show c.val + 1 * (y 0).val = c.val; omega) (by show q.val + 1 * (y 1).val = q.val; omega)
    (by show row + 6 * (y 2).val = row + 6 * (y 2).val; omega) (by show 0 + 1 * (y 3).val = (y 3).val; omega)]
  exact hX q _ _

theorem ld9 (arg9 : Memref sig .tc .vmem S4x448x128 .i32) (X9 : BufTy.Contents (Elt F) arg9.view.ty) (off : Fin 3 → ℕ) (inb)
    (c : Fin 14) (h : Fin 2) (q : Fin 4) (hoff : off = ![q.val, 32 * c.val + 16 * h.val, 0]) :
    arg9.view.readAt (Elt F) (Rect.unit (s := S4x448x128) off S1x16x128.size inb).toLoadRect X9
      = sOf (F := F) (fun y => arg9.view.read (Elt F) X9 y) c h q := by
  subst hoff
  funext y
  have hy0 : (y 0).val < 1 := (y 0).isLt
  have hy1 : (y 1).val < 16 := (y 1).isLt
  rw [View.readAt_apply]
  unfold sOf
  exact congrArg (arg9.view.read (Elt F) X9) (ix3_of _ _ _ _ (by show q.val + 1 * (y 0).val = q.val; omega)
    (by show 32 * c.val + 16 * h.val + 1 * (y 1).val = 32 * c.val + 16 * h.val + (y 1).val; omega) (by show 0 + 1 * (y 2).val = (y 2).val; omega))

theorem ld10 (arg10 : Memref sig .tc .vmem S128x7168 .bf16) (X10 : BufTy.Contents (Elt F) arg10.view.ty) (off : Fin 2 → ℕ) (inb)
    (c : Fin 14) (h : Fin 2) (hoff : off = ![0, 512 * c.val + 256 * h.val]) :
    arg10.view.readAt (Elt F) (Rect.unit (s := S128x7168) off S128x256.size inb).toLoadRect X10
      = lhsOf (F := F) (fun y => arg10.view.read (Elt F) X10 y) c h := by
  subst hoff
  funext y
  have hy1 : (y 1).val < 256 := (y 1).isLt
  rw [View.readAt_apply]
  unfold lhsOf
  exact congrArg (arg10.view.read (Elt F) X10) (ix2_of _ _ _ (by show 0 + 1 * (y 0).val = (y 0).val; omega)
    (by show 512 * c.val + 256 * h.val + 1 * (y 1).val = 512 * c.val + 256 * h.val + (y 1).val; omega))

theorem fn423 {α : Type} (A : Fin 4 → Fin 2 → Fin 3 → α) (a000 a001 a002 a010 a011 a012 a100 a101 a102 a110 a111 a112 a200 a201 a202 a210 a211 a212 a300 a301 a302 a310 a311 a312 : α)
    (h : a000 = A 0 0 0 ∧ a001 = A 0 0 1 ∧ a002 = A 0 0 2 ∧ a010 = A 0 1 0 ∧ a011 = A 0 1 1 ∧ a012 = A 0 1 2 ∧ a100 = A 1 0 0 ∧ a101 = A 1 0 1 ∧ a102 = A 1 0 2 ∧ a110 = A 1 1 0 ∧ a111 = A 1 1 1 ∧ a112 = A 1 1 2 ∧ a200 = A 2 0 0 ∧ a201 = A 2 0 1 ∧ a202 = A 2 0 2 ∧ a210 = A 2 1 0 ∧ a211 = A 2 1 1 ∧ a212 = A 2 1 2 ∧ a300 = A 3 0 0 ∧ a301 = A 3 0 1 ∧ a302 = A 3 0 2 ∧ a310 = A 3 1 0 ∧ a311 = A 3 1 1 ∧ a312 = A 3 1 2) : ![![![a000, a001, a002], ![a010, a011, a012]], ![![a100, a101, a102], ![a110, a111, a112]], ![![a200, a201, a202], ![a210, a211, a212]], ![![a300, a301, a302], ![a310, a311, a312]]] = A := by
  obtain ⟨rfl, rfl, rfl, rfl, rfl, rfl, rfl, rfl, rfl, rfl, rfl, rfl, rfl, rfl, rfl, rfl, rfl, rfl, rfl, rfl, rfl, rfl, rfl, rfl⟩ := h
  funext q t j
  fin_cases q <;> fin_cases t <;> fin_cases j <;> rfl

theorem fn4 {α : Type} (A : Fin 4 → α) (a0 a1 a2 a3 : α) (h : a0 = A 0 ∧ a1 = A 1 ∧ a2 = A 2 ∧ a3 = A 3) : ![a0, a1, a2, a3] = A := by
  obtain ⟨rfl, rfl, rfl, rfl⟩ := h
  funext q
  fin_cases q <;> rfl

/-- The trip of the innermost loop, over the staged words. -/
theorem trip_t4_unit (𝒱 : Variants) (c : Dev nD) (bd : Option 𝒱.V) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (t3 : Fin k0_t3_loop.trips) (arg13 : BitVec 32) (X8 : BufTy.Contents (Elt F) arg8.view.ty)
    (X9 : BufTy.Contents (Elt F) arg9.view.ty) (X10 : BufTy.Contents (Elt F) arg10.view.ty) (k : Fin k0_t4_loop.trips)
    (acc : FVec F S128x512 .f32) (w : S1024x5376.Idx → BitVec 8) (r0 : Fin 2) (t3' : Fin 14) (k' : Fin 2) (ht3 : t3'.val = t3.val) (hk : k'.val = k.val)
    (hX : ∀ (q : Fin 4) (row : Fin 96) (l : Fin 128), arg8.view.read (Elt F) X8 (ix4 t3' q row l) = stg w r0 t3' q row l) :
    tripR_k0_t4 (F := F) 𝒱 c bd i arg1 harg1 arg2 harg2 arg3 harg3 arg4 harg4 arg5 harg5 arg6 harg6 arg7 harg7 arg8 harg8 arg9 harg9 arg10 harg10 arg11 harg11 t3 arg13 X8 X9 X10 k acc
      = unitOf (fun y => arg10.view.read (Elt F) X10 y) w (fun y => arg9.view.read (Elt F) X9 y) r0 t3' k' acc := by
  rw [trip_t4_eq]
  unfold unitOf
  have hk' := k'.isLt
  rw [ld10 arg10 X10 _ _ t3' k' (by rw [k0_off17_eq, ht3, hk])]
  refine congrArg₂ (tripOf acc) rfl (congrArg₂ rhsOf (fn423 _ _ _ _ _ _ _ _ _ _ _ _ _ _ _ _ _ _ _ _ _ _ _ _ _ ⟨?_, ?_, ?_, ?_, ?_, ?_, ?_, ?_, ?_, ?_, ?_, ?_, ?_, ?_, ?_, ?_, ?_, ?_, ?_, ?_, ?_, ?_, ?_, ?_⟩) (fn4 _ _ _ _ _ ⟨?_, ?_, ?_, ?_⟩))
  · exact ld8 arg8 X8 _ _ w r0 t3' 0 (48 * k'.val + 3 * 0 + 0) (by omega) ((k0_off10_eq t3 k 0 0).trans (by rw [ht3, hk]; rfl)) hX
  · exact ld8 arg8 X8 _ _ w r0 t3' 0 (48 * k'.val + 3 * 0 + 1) (by omega) ((k0_off10_eq t3 k 0 1).trans (by rw [ht3, hk]; rfl)) hX
  · exact ld8 arg8 X8 _ _ w r0 t3' 0 (48 * k'.val + 3 * 0 + 2) (by omega) ((k0_off10_eq t3 k 0 2).trans (by rw [ht3, hk]; rfl)) hX
  · exact ld8 arg8 X8 _ _ w r0 t3' 0 (48 * k'.val + 3 * 1 + 0) (by omega) ((k0_off10_eq t3 k 1 0).trans (by rw [ht3, hk]; rfl)) hX
  · exact ld8 arg8 X8 _ _ w r0 t3' 0 (48 * k'.val + 3 * 1 + 1) (by omega) ((k0_off10_eq t3 k 1 1).trans (by rw [ht3, hk]; rfl)) hX
  · exact ld8 arg8 X8 _ _ w r0 t3' 0 (48 * k'.val + 3 * 1 + 2) (by omega) ((k0_off10_eq t3 k 1 2).trans (by rw [ht3, hk]; rfl)) hX
  · exact ld8 arg8 X8 _ _ w r0 t3' 1 (48 * k'.val + 3 * 0 + 0) (by omega) ((k0_off12_eq t3 k 0 0).trans (by rw [ht3, hk]; rfl)) hX
  · exact ld8 arg8 X8 _ _ w r0 t3' 1 (48 * k'.val + 3 * 0 + 1) (by omega) ((k0_off12_eq t3 k 0 1).trans (by rw [ht3, hk]; rfl)) hX
  · exact ld8 arg8 X8 _ _ w r0 t3' 1 (48 * k'.val + 3 * 0 + 2) (by omega) ((k0_off12_eq t3 k 0 2).trans (by rw [ht3, hk]; rfl)) hX
  · exact ld8 arg8 X8 _ _ w r0 t3' 1 (48 * k'.val + 3 * 1 + 0) (by omega) ((k0_off12_eq t3 k 1 0).trans (by rw [ht3, hk]; rfl)) hX
  · exact ld8 arg8 X8 _ _ w r0 t3' 1 (48 * k'.val + 3 * 1 + 1) (by omega) ((k0_off12_eq t3 k 1 1).trans (by rw [ht3, hk]; rfl)) hX
  · exact ld8 arg8 X8 _ _ w r0 t3' 1 (48 * k'.val + 3 * 1 + 2) (by omega) ((k0_off12_eq t3 k 1 2).trans (by rw [ht3, hk]; rfl)) hX
  · exact ld8 arg8 X8 _ _ w r0 t3' 2 (48 * k'.val + 3 * 0 + 0) (by omega) ((k0_off14_eq t3 k 0 0).trans (by rw [ht3, hk]; rfl)) hX
  · exact ld8 arg8 X8 _ _ w r0 t3' 2 (48 * k'.val + 3 * 0 + 1) (by omega) ((k0_off14_eq t3 k 0 1).trans (by rw [ht3, hk]; rfl)) hX
  · exact ld8 arg8 X8 _ _ w r0 t3' 2 (48 * k'.val + 3 * 0 + 2) (by omega) ((k0_off14_eq t3 k 0 2).trans (by rw [ht3, hk]; rfl)) hX
  · exact ld8 arg8 X8 _ _ w r0 t3' 2 (48 * k'.val + 3 * 1 + 0) (by omega) ((k0_off14_eq t3 k 1 0).trans (by rw [ht3, hk]; rfl)) hX
  · exact ld8 arg8 X8 _ _ w r0 t3' 2 (48 * k'.val + 3 * 1 + 1) (by omega) ((k0_off14_eq t3 k 1 1).trans (by rw [ht3, hk]; rfl)) hX
  · exact ld8 arg8 X8 _ _ w r0 t3' 2 (48 * k'.val + 3 * 1 + 2) (by omega) ((k0_off14_eq t3 k 1 2).trans (by rw [ht3, hk]; rfl)) hX
  · exact ld8 arg8 X8 _ _ w r0 t3' 3 (48 * k'.val + 3 * 0 + 0) (by omega) ((k0_off16_eq t3 k 0 0).trans (by rw [ht3, hk]; rfl)) hX
  · exact ld8 arg8 X8 _ _ w r0 t3' 3 (48 * k'.val + 3 * 0 + 1) (by omega) ((k0_off16_eq t3 k 0 1).trans (by rw [ht3, hk]; rfl)) hX
  · exact ld8 arg8 X8 _ _ w r0 t3' 3 (48 * k'.val + 3 * 0 + 2) (by omega) ((k0_off16_eq t3 k 0 2).trans (by rw [ht3, hk]; rfl)) hX
  · exact ld8 arg8 X8 _ _ w r0 t3' 3 (48 * k'.val + 3 * 1 + 0) (by omega) ((k0_off16_eq t3 k 1 0).trans (by rw [ht3, hk]; rfl)) hX
  · exact ld8 arg8 X8 _ _ w r0 t3' 3 (48 * k'.val + 3 * 1 + 1) (by omega) ((k0_off16_eq t3 k 1 1).trans (by rw [ht3, hk]; rfl)) hX
  · exact ld8 arg8 X8 _ _ w r0 t3' 3 (48 * k'.val + 3 * 1 + 2) (by omega) ((k0_off16_eq t3 k 1 2).trans (by rw [ht3, hk]; rfl)) hX
  · exact ld9 arg9 X9 _ _ t3' k' 0 ((k0_off9_eq t3 k).trans (by rw [ht3, hk]; rfl))
  · exact ld9 arg9 X9 _ _ t3' k' 1 ((k0_off11_eq t3 k).trans (by rw [ht3, hk]; rfl))
  · exact ld9 arg9 X9 _ _ t3' k' 2 ((k0_off13_eq t3 k).trans (by rw [ht3, hk]; rfl))
  · exact ld9 arg9 X9 _ _ t3' k' 3 ((k0_off15_eq t3 k).trans (by rw [ht3, hk]; rfl))

end Cert.Proof.KernelIdeal

end
-- ==== Proof.Block.lean ====
/- The largest magnitude of a block of 32, and what the precondition says of it. -/
module

public import proofs.«01_k».proof.Proof.Code
public import proofs.«01_k».proof.Proof.PI.Vals
public import proofs.«01_k».proof.Pre_in_range
public import Idealize.ShloMosaic.Lib.Pointwise
public import Idealize.ShloMosaic.Lib.Pointwise.IndexBridge

@[expose] public section

set_option maxRecDepth 16384

noncomputable section

namespace Cert.Proof.Num

open Idealize.ShloMosaic Idealize.ShloMosaic.TcCoe Idealize.ShloMosaic.Tactic
open Cert.Proof.KernelIdeal (ix4_of ix3_of ix2_of)

/-- The largest magnitude of a block. -/
def bmax (v : Fin 32 → EReal) : EReal :=
  (Finset.univ : Finset (Fin 32)).fold max (Ideal.ofBits .f32 0xFF800000#32) (fun e => max (v e) (-(v e)))

theorem le_bmax (v : Fin 32 → EReal) (e : Fin 32) : max (v e) (-(v e)) ≤ bmax v :=
  (Finset.le_fold_max _).2 (.inr ⟨e, Finset.mem_univ _, le_rfl⟩)

/-- Zero, or between the two ends of the range. -/
def Tame (M : EReal) : Prop := M = 0 ∨ (F32 5 ≤ M ∧ M ≤ Ideal.ofBits .f32 0x7F7F0000#32)

theorem litmax : ∃ r : ℝ, Ideal.ofBits .f32 0x7F7F0000#32 = (r : EReal) ∧ r < (2 : ℝ) ^ (128 : ℤ) := by
  refine ⟨(1 * (2 ^ 23 + 8323072 : ℕ) * (2 : ℝ) ^ ((254 : ℤ) - (2 ^ (8 - 1) - 1) - (23 : ℕ)) : ℝ), rfl, ?_⟩
  norm_num

theorem tame_real (M : EReal) (h : Tame M) : ∃ r : ℝ, M = (r : EReal) ∧ InR r := by
  rcases h with rfl | ⟨h1, h2⟩
  · exact ⟨0, rfl, .inl rfl⟩
  · obtain ⟨u, hu, hlt⟩ := litmax
    rw [hu] at h2
    rw [F32_pow 5 (by norm_num) (by norm_num)] at h1
    have hb : M ≠ ⊥ := ne_of_gt (lt_of_lt_of_le (EReal.bot_lt_coe _) h1)
    have ht : M ≠ ⊤ := ne_of_lt (lt_of_le_of_lt h2 (EReal.coe_lt_top _))
    lift M to ℝ using ⟨ht, hb⟩
    rw [EReal.coe_le_coe_iff] at h1 h2
    refine ⟨M, rfl, .inr ?_⟩
    have hp : 0 < M := lt_of_lt_of_le (by positivity) h1
    have g1 : (-122 : ℤ) ≤ lg M := (lg_ge M hp _).2 (by norm_num at h1 ⊢; exact h1)
    have g2 : lg M < 128 := (lg_lt M hp _).2 (lt_of_le_of_lt h2 hlt)
    refine ⟨(lg M + 127).toNat, by omega, by omega, ?_, ?_⟩
    · exact (lg_ge M hp _).1 (by omega)
    · exact (lg_lt M hp _).1 (by omega)

theorem block_real (v : Fin 32 → EReal) (h : Tame (bmax v)) :
    ∃ M : ℝ, InR M ∧ bmax v = (M : EReal) ∧ ∀ e, ∃ r : ℝ, v e = (r : EReal) ∧ |r| ≤ M := by
  obtain ⟨M, hM, hr⟩ := tame_real _ h
  refine ⟨M, hr, hM, fun e => ?_⟩
  have hle := le_bmax v e
  rw [hM] at hle
  generalize v e = w at hle
  have h1 : w ≤ (M : EReal) := le_trans (le_max_left _ _) hle
  have h2 : -w ≤ (M : EReal) := le_trans (le_max_right _ _) hle
  have ht : w ≠ ⊤ := ne_of_lt (lt_of_le_of_lt h1 (EReal.coe_lt_top _))
  have hb : w ≠ ⊥ := by
    rintro rfl
    rw [EReal.neg_bot] at h2
    exact absurd h2 (not_le.2 (EReal.coe_lt_top _))
  lift w to ℝ using ⟨ht, hb⟩
  refine ⟨w, rfl, abs_le.2 ⟨?_, ?_⟩⟩
  · rw [← EReal.coe_neg, EReal.coe_le_coe_iff] at h2; linarith
  · exact_mod_cast h1

/-- Block `b` of row `s`. -/
abbrev hblk (x : (⟨3, ![1, 128, 7168]⟩ : Shape).Idx → EReal) (s : Fin 128) (b : Fin 224) : Fin 32 → EReal :=
  fun e => x (ix3 (0 : Fin 1) s (⟨b.val * 32 + e.val, by omega⟩ : Fin 7168))

theorem red4 : (⟨4, ![1, 128, 224, 32]⟩ : Shape).Reduces [3] ⟨3, ![1, 128, 224]⟩ := by decide

/-- The host's largest magnitude of a block. -/
theorem amax_host (x : FVec Ideal (⟨3, ![1, 128, 7168]⟩ : Shape) .f32) (hc : (⟨3, ![1, 128, 7168]⟩ : Shape).ShapeCasts ⟨4, ![1, 128, 224, 32]⟩)
    (hr : (⟨4, ![1, 128, 224, 32]⟩ : Shape).ReducesTo [3] ⟨3, ![1, 128, 224]⟩) (hu : 0 < (⟨0, ![]⟩ : Shape).numel) (s : Fin 128) (b : Fin 224) :
    Host.reduce (FloatOps.maximumf (F := Ideal) (φ := .f32)) (Host.absf (shapeCast ⟨4, ![1, 128, 224, 32]⟩ x hc)) (constant (⟨0, ![]⟩ : Shape) .f32 0xFF800000#32) hr hu
      (ix3 (0 : Fin 1) s b) = bmax (hblk x s b) := by
  refine (Host.reduce_eq_fold_single _ _ _ hr red4 hu _).trans ?_
  unfold bmax
  congr 1
  funext e
  show FloatOps.absf (shapeCast _ x hc (red4.lift (ix3 (0 : Fin 1) s b) e)) = _
  rw [ix4_of (red4.lift (ix3 (0 : Fin 1) s b) e) (0 : Fin 1) s b (⟨e.val, e.isLt⟩ : Fin 32) rfl rfl rfl rfl]
  pointwise []
  rfl

instance factsPre : Cert.Pre_in_range.Facts where
  bitsLt_bf16_f32 := by decide
  shapeCasts_S1x128x7168_S1x128x224x32 := by decide
  reducesTo_S1x128x224x32_S1x128x224_d3 := by decide
  h_S_ := by decide
  natLt_8_32 := by decide
  bcast_S_S1x128x224 := by decide
  bcast_S_S18432x224 := by decide

theorem or_and_one (a b c : Bool) (h : IntOp.ori (BitVec.ofBool a) (IntOp.andi (BitVec.ofBool b) (BitVec.ofBool c)) = 1#1) : a = true ∨ (b = true ∧ c = true) := by
  revert h; cases a <;> cases b <;> cases c <;> decide

theorem and_one (b c : Bool) (h : IntOp.andi (BitVec.ofBool b) (BitVec.ofBool c) = 1#1) : b = true ∧ c = true := by
  revert h; cases b <;> cases c <;> decide

theorem sc_dec : ∀ v : BitVec 8, (1#32).sle (v.setWidth 32) = true → (v.setWidth 32).sle 254#32 = true → 1 ≤ v.toNat ∧ v.toNat ≤ 254 := by
  decide +kernel

/-- What the precondition says. -/
theorem pre_facts (x : FVec Ideal Cert.Pre_in_range.S1x128x7168 .bf16) (w : IVec Cert.Pre_in_range.S18432x5376 8) (sc : IVec Cert.Pre_in_range.S18432x224 8)
    (h1 : (Cert.Pre_in_range.fn x w sc).1 = fun _ => 1#1) (h2 : (Cert.Pre_in_range.fn x w sc).2 = fun _ => 1#1) :
    (∀ (s : Fin 128) (b : Fin 224), Tame (bmax (hblk x s b))) ∧ ∀ (n : Fin 18432) (b : Fin 224), 1 ≤ (sc (ix2 n b)).toNat ∧ (sc (ix2 n b)).toNat ≤ 254 := by
  constructor
  · intro s b
    have h := congrFun h1 (ix3 (0 : Fin 1) s b)
    have hm := amax_host (extf .f32 x Cert.Pre_in_range.Facts.bitsLt_bf16_f32) Cert.Pre_in_range.Facts.shapeCasts_S1x128x7168_S1x128x224x32 Cert.Pre_in_range.Facts.reducesTo_S1x128x224x32_S1x128x224_d3
      Cert.Pre_in_range.Facts.h_S_ s b
    have e : (Cert.Pre_in_range.fn x w sc).1 (ix3 (0 : Fin 1) s b)
        = IntOp.ori (BitVec.ofBool (decide (bmax (hblk x s b) = Ideal.ofBits .f32 0x00000000#32)))
            (IntOp.andi (BitVec.ofBool (decide (Ideal.ofBits .f32 0x02800000#32 ≤ bmax (hblk x s b)))) (BitVec.ofBool (decide (bmax (hblk x s b) ≤ Ideal.ofBits .f32 0x7F7F0000#32)))) := by
      refine Eq.trans ?_ (congrArg (fun M => IntOp.ori (BitVec.ofBool (decide (M = Ideal.ofBits .f32 0x00000000#32)))
            (IntOp.andi (BitVec.ofBool (decide (Ideal.ofBits .f32 0x02800000#32 ≤ M))) (BitVec.ofBool (decide (M ≤ Ideal.ofBits .f32 0x7F7F0000#32))))) hm)
      unfold Cert.Pre_in_range.fn
      dsimp only
      generalize Host.reduce _ _ _ _ _ = R
      rfl
    rw [e] at h
    rcases or_and_one _ _ _ h with h | ⟨ha, hb⟩
    · exact .inl (by have := of_decide_eq_true h; rwa [Ideal.ofBits_zero_f32] at this)
    · exact .inr ⟨of_decide_eq_true ha, of_decide_eq_true hb⟩
  · intro n b
    have h := congrFun h2 (ix2 n b)
    have e : (Cert.Pre_in_range.fn x w sc).2 (ix2 n b)
        = IntOp.andi (BitVec.ofBool ((1#32).sle ((sc (ix2 n b)).setWidth 32))) (BitVec.ofBool (((sc (ix2 n b)).setWidth 32).sle 254#32)) := rfl
    rw [e] at h
    obtain ⟨ha, hb⟩ := and_one _ _ h
    exact sc_dec _ ha hb

end Cert.Proof.Num

end
-- ==== Proof.RefVal.lean ====
/- The reference's results at one index: the scalar arithmetic of `Quant` and `Code`. -/
module

public import proofs.«01_k».proof.Proof.Gen.ReferenceIdeal.Run
public import proofs.«01_k».proof.Proof.Block
public import Idealize.ShloMosaic.Lib.Pointwise
public import Idealize.ShloMosaic.Lib.Pointwise.IndexBridge

@[expose] public section

set_option maxRecDepth 16384

noncomputable section

namespace Cert.ReferenceIdeal.Value

open Idealize.ShloMosaic Idealize.ShloMosaic.TcCoe Idealize.ShloMosaic.Tactic
open Cert.ReferenceIdeal
open Cert.Proof.Num
open Cert.Proof.KernelIdeal (fbyte)

variable (V0 : Valuation τ sig (Elt Ideal))

/-- The arguments. -/
abbrev A0 : (⟨3, ![1, 128, 7168]⟩ : Shape).Idx → EReal := V0 (Proc.devRef .tc main_arg0)
abbrev A1 : (⟨2, ![18432, 5376]⟩ : Shape).Idx → BitVec 8 := V0 (Proc.devRef .tc main_arg1)
abbrev A2 : (⟨2, ![18432, 224]⟩ : Shape).Idx → BitVec 8 := V0 (Proc.devRef .tc main_arg2)

theorem v3_at (s : Fin 128) (b : Fin 224) : res_main_v3 V0 (ix3 (0 : Fin 1) s b) = bmax (hblk (A0 V0) s b) := by
  unfold res_main_v3 res_main_v1
  exact amax_host _ _ _ _ s b

theorem v15_at (s : Fin 128) (b : Fin 224) : res_main_v15 V0 (ix3 (0 : Fin 1) s b) = rX (bmax (hblk (A0 V0) s b)) := by
  rw [← v3_at]
  unfold res_main_v15
  generalize res_main_v3 V0 = M
  pointwise []
  rfl

theorem v24_at (s : Fin 128) (b : Fin 224) (e : Fin 32) :
    res_main_v24 V0 (ix4 (0 : Fin 1) s b e) = rY (hblk (A0 V0) s b e) (rX (bmax (hblk (A0 V0) s b))) := by
  rw [← v15_at]
  unfold res_main_v24 res_main_v1
  generalize res_main_v15 V0 = X
  pointwise []
  rfl

theorem v25_at (s : Fin 128) (b : Fin 224) (e : Fin 32) :
    res_main_v25 V0 (ix4 (0 : Fin 1) s b e) = (fun z : EReal => max z (-z)) (res_main_v24 V0 (ix4 (0 : Fin 1) s b e)) := by
  unfold res_main_v25
  rfl

theorem v39_at (s : Fin 128) (b : Fin 224) (e : Fin 32) :
    res_main_v39 V0 (ix4 (0 : Fin 1) s b e) = rT (res_main_v25 V0 (ix4 (0 : Fin 1) s b e)) := by
  unfold res_main_v39
  generalize res_main_v25 V0 = A
  pointwise []
  rfl

theorem v51_at (s : Fin 128) (b : Fin 224) (e : Fin 32) :
    res_main_v51 V0 (ix4 (0 : Fin 1) s b e) = rR (res_main_v25 V0 (ix4 (0 : Fin 1) s b e)) (rT (res_main_v25 V0 (ix4 (0 : Fin 1) s b e))) := by
  rw [← v39_at]
  unfold res_main_v51
  generalize res_main_v25 V0 = A
  generalize res_main_v39 V0 = T
  pointwise []
  rfl

theorem v63_at (s : Fin 128) (b : Fin 224) (e : Fin 32) :
    res_main_v63 V0 (ix4 (0 : Fin 1) s b e) = rK (res_main_v51 V0 (ix4 (0 : Fin 1) s b e)) := by
  unfold res_main_v63
  generalize res_main_v51 V0 = A
  pointwise []
  rfl

/-- The code of element `e` of block `b` of row `s`. -/
def cd (x : (⟨3, ![1, 128, 7168]⟩ : Shape).Idx → EReal) (s : Fin 128) (b : Fin 224) (e : Fin 32) : BitVec 8 :=
  let y := rY (hblk x s b e) (rX (bmax (hblk x s b)))
  let r := rR (max y (-y)) (rT (max y (-y)))
  rCode y r (rK r)

theorem code_at (s : Fin 128) (b : Fin 224) (e : Fin 32) :
    rCode (res_main_v24 V0 (ix4 (0 : Fin 1) s b e)) (res_main_v51 V0 (ix4 (0 : Fin 1) s b e)) (res_main_v63 V0 (ix4 (0 : Fin 1) s b e)) = cd (A0 V0) s b e := by
  rw [v63_at, v51_at, v25_at, v24_at]
  rfl

theorem v96_at (s : Fin 128) (d : Fin 7168) :
    res_main_v96 V0 (ix3 (0 : Fin 1) s d) = (cd (A0 V0) s (⟨d.val / 32, by omega⟩ : Fin 224) (⟨d.val % 32, by omega⟩ : Fin 32)).setWidth 32 := by
  rw [← code_at]
  unfold res_main_v96
  generalize res_main_v24 V0 = Y
  generalize res_main_v51 V0 = R
  generalize res_main_v63 V0 = K
  pointwise []
  rfl

/-- The decoded value of a code, as the reference computes it. -/
def rVal (c : BitVec 32) : EReal :=
  (1 - Ideal.ofBits FTy.f32 1073741824#32 * FloatOps.sitofp (F := Ideal) FTy.f32 (IntOp.andi (IntOp.shrsi ArithUnit.host c 5#32) 1#32)) *
    (FloatOps.sitofp (F := Ideal) FTy.f32
        (Scalar.select (IntOp.cmpi CmpIPredicate.eq (IntOp.andi (IntOp.shrsi ArithUnit.host c 2#32) 7#32) 0#32) (IntOp.andi c 3#32)
          (IntOp.addi (4#32) (IntOp.andi c 3#32))) *
      Ideal.pow (Ideal.ofBits FTy.f32 1073741824#32)
        (FloatOps.sitofp (F := Ideal) FTy.f32 (IntOp.subi (IntOp.maxsi (IntOp.andi (IntOp.shrsi ArithUnit.host c 2#32) 7#32) 1#32) 5#32)))

theorem val_tab : ∀ n : Fin 64, (IntOp.andi (IntOp.shrsi ArithUnit.host (BitVec.ofNat 32 n.val) 5#32) 1#32).toInt = (if 32 ≤ n.val then 1 else 0)
    ∧ (Scalar.select (IntOp.cmpi CmpIPredicate.eq (IntOp.andi (IntOp.shrsi ArithUnit.host (BitVec.ofNat 32 n.val) 2#32) 7#32) 0#32) (IntOp.andi (BitVec.ofNat 32 n.val) 3#32)
          (IntOp.addi (4#32) (IntOp.andi (BitVec.ofNat 32 n.val) 3#32))).toInt = (if n.val % 32 / 4 = 0 then ((n.val % 32 % 4 : ℕ) : ℤ) else ((4 + n.val % 32 % 4 : ℕ) : ℤ))
    ∧ (IntOp.subi (IntOp.maxsi (IntOp.andi (IntOp.shrsi ArithUnit.host (BitVec.ofNat 32 n.val) 2#32) 7#32) 1#32) 5#32).toInt = max ((n.val % 32 / 4 : ℕ) : ℤ) 1 - 5 := by
  decide

theorem rVal_eq (n : ℕ) (hn : n < 64) : rVal (BitVec.ofNat 32 n) = ((sg (32 ≤ n) * Cert.Proof.Num.val5 (n % 32) : ℝ) : EReal) := by
  obtain ⟨t1, t2, t3⟩ := val_tab ⟨n, hn⟩
  simp only at t1 t2 t3
  unfold rVal
  rw [pow2, t3, two_eq]
  show ((1 : EReal) - ((2 : ℝ) : EReal) * (((BitVec.toInt _ : ℤ) : ℝ) : EReal)) * ((((BitVec.toInt _ : ℤ) : ℝ) : EReal) * _) = _
  rw [t1, t2]
  unfold sg Cert.Proof.Num.val5
  rw [← EReal.coe_one, ← EReal.coe_mul, ← EReal.coe_sub, ← EReal.coe_mul, ← EReal.coe_mul]
  congr 1
  by_cases h : 32 ≤ n <;> by_cases h2 : n % 32 / 4 = 0 <;> simp only [h, h2, if_true, if_false] <;> simp only [Int.cast_natCast, Int.cast_one, Int.cast_zero] <;> ring

/-- The decoded input. -/
theorem v139_at (s : Fin 128) (j : Fin 1792) (f : Fin 4) :
    res_main_v139 V0 (ix4 (0 : Fin 1) s j f)
      = rVal (res_main_v96 V0 (ix3 (0 : Fin 1) s (⟨j.val / 8 * 32 + (j.val % 8 * 4 + f.val), by omega⟩ : Fin 7168)))
        * Ideal.pow (Ideal.ofBits FTy.f32 1073741824#32) (FloatOps.sitofp (F := Ideal) FTy.f32
            (IntOp.subi (BitVec.setWidth 32 (BitVec.setWidth 8 (IntOp.addi (res_main_v15 V0 (ix3 (0 : Fin 1) s (⟨j.val / 8, by omega⟩ : Fin 224))) 127#32))) 127#32)) := by
  unfold res_main_v139 res_main_v104 res_main_v106
  generalize res_main_v96 V0 = C
  generalize res_main_v15 V0 = X
  pointwise []
  rfl

end Cert.ReferenceIdeal.Value

end
-- ==== Proof.Elem.lean ====
/- One element of a block and one weight, on both sides: equal codes, equal scales, equal decoded values. -/
module

public import proofs.«01_k».proof.Proof.RefVal

@[expose] public section

set_option maxRecDepth 16384

noncomputable section

namespace Cert.Proof.Num

open Idealize.ShloMosaic Idealize.ShloMosaic.TcCoe Idealize.ShloMosaic.Tactic
open Cert.ReferenceIdeal.Value (rVal rVal_eq)
open Cert.Proof.KernelIdeal (dec8)

/-- The reference's code of `x` in a block of largest magnitude `M`. -/
def rC (x M : EReal) : BitVec 8 :=
  let y := rY x (rX M)
  let r := rR (max y (-y)) (rT (max y (-y)))
  rCode y r (rK r)

/-- The reference's stored scale of such a block. -/
def rS (M : EReal) : BitVec 8 := BitVec.setWidth 8 (IntOp.addi (rX M) 127#32)

/-- The power of two a stored scale stands for. -/
def p2 (E : BitVec 8) : EReal :=
  Ideal.pow (Ideal.ofBits FTy.f32 1073741824#32) (FloatOps.sitofp (F := Ideal) FTy.f32 (IntOp.subi (BitVec.setWidth 32 E) 127#32))

theorem max_neg (y : ℝ) : max (y : EReal) (-(y : EReal)) = ((|y| : ℝ) : EReal) := by
  rw [← EReal.coe_neg]
  exact ((EReal.coe_strictMono.monotone).map_max (a := y) (b := -y)).symm

theorem p2_tab : ∀ E : Fin 256, (IntOp.subi (BitVec.setWidth 32 (BitVec.ofNat 8 E.val)) 127#32).toInt = (E.val : ℤ) - 127 := by
  decide +kernel

theorem p2_eq (E : BitVec 8) : p2 E = (((2 : ℝ) ^ ((E.toNat : ℤ) - 127) : ℝ) : EReal) := by
  have h := p2_tab ⟨E.toNat, E.isLt⟩
  simp only [BitVec.ofNat_toNat, BitVec.setWidth_eq] at h
  unfold p2
  rw [pow2, h]

theorem sc_byte : ∀ q : Fin 251, BitVec.setWidth 8 (IntOp.addi (BitVec.ofInt 32 ((q.val : ℤ) - 127)) 127#32) = BitVec.ofNat 8 q.val
    ∧ BitVec.setWidth 8 (BitVec.ofNat 32 q.val) = BitVec.ofNat 8 q.val := by
  decide +kernel

theorem scale_same (v : Fin 32 → EReal) (h : Tame (bmax v)) : BitVec.setWidth 8 (kSc (kE (bmax v))) = rS (bmax v) := by
  obtain ⟨M, hM, e, -⟩ := block_real v h
  rw [e]
  obtain ⟨q, q1, q2, hS, hI, hX, hy⟩ := scale_eq M hM
  unfold rS
  rw [hS, hX, (sc_byte ⟨q, by omega⟩).1, (sc_byte ⟨q, by omega⟩).2]

theorem code_same (v : Fin 32 → EReal) (h : Tame (bmax v)) (e : Fin 32) :
    codeByte (kByte (kY (v e) (kE (bmax v)))) = rC (v e) (bmax v) := by
  obtain ⟨M, hM, em, hv⟩ := block_real v h
  obtain ⟨x, ex, hx⟩ := hv e
  obtain ⟨m, y, hm, h1, h2, h3⟩ := quant_eq M hM x hx
  unfold rC
  rw [em, ex, h1, h2, codeByte_eq m hm]
  simp only [max_neg]
  exact h3.symm

theorem code_val (m : ℕ) (hm : m < 32) (s : Prop) [Decidable s] :
    rVal (BitVec.setWidth 32 (codeOf m s)) = ((sg s * val5 m : ℝ) : EReal) := by
  unfold codeOf
  have hc : BitVec.setWidth 32 (BitVec.ofNat 8 (m + if s ∧ m ≠ 0 then 32 else 0)) = BitVec.ofNat 32 (m + if s ∧ m ≠ 0 then 32 else 0) := by
    apply BitVec.eq_of_toNat_eq
    simp only [BitVec.toNat_setWidth, BitVec.toNat_ofNat]
    split_ifs <;> omega
  rw [hc, rVal_eq _ (by split_ifs <;> omega)]
  by_cases h0 : m = 0
  · subst h0
    have : val5 0 = 0 := by unfold val5; norm_num
    simp only [ne_eq, not_true, and_false, if_false, Nat.add_zero, Nat.zero_mod, this, mul_zero]
  · by_cases hs : s
    · rw [if_pos ⟨hs, h0⟩]
      have e : (m + 32) % 32 = m := by omega
      rw [e]
      unfold sg
      rw [if_pos (by omega : 32 ≤ m + 32), if_pos hs]
    · rw [if_neg (by tauto), Nat.add_zero, Nat.mod_eq_of_lt hm]
      unfold sg
      rw [if_neg (by omega : ¬ 32 ≤ m), if_neg hs]

theorem val_same (v : Fin 32 → EReal) (h : Tame (bmax v)) (e : Fin 32) : ∃ z : ℝ,
    Ideal.ofBits .fp8e5m2 (kByte (kY (v e) (kE (bmax v)))) * Ideal.ofBits .bf16 17792#16
        * Ideal.ofBits .f32 (IntOp.shli .vector (kSc (kE (bmax v))) 23#32) = (z : EReal)
      ∧ rVal (BitVec.setWidth 32 (rC (v e) (bmax v))) * p2 (rS (bmax v)) = (z : EReal) := by
  rw [← code_same v h e, ← scale_same v h]
  obtain ⟨M, hM, em, hv⟩ := block_real v h
  obtain ⟨x, ex, hx⟩ := hv e
  obtain ⟨m, y, hm, h1, h2, h3⟩ := quant_eq M hM x hx
  obtain ⟨q, q1, q2, hS, hI, hX, hy⟩ := scale_eq M hM
  refine ⟨sg (y < 0) * val5 m * (2 : ℝ) ^ ((q : ℤ) - 127), ?_, ?_⟩
  · rw [em, ex, h1, hS, shli23, e5_eq m hm, lit12]
    show _ * _ * F32 q = _
    rw [F32_pow q q1 (by omega), ← EReal.coe_mul, ← EReal.coe_mul]
    congr 2
    rw [mul_assoc _ ((2 : ℝ) ^ (-12 : ℤ)), ← zpow_add₀ (by norm_num)]
    norm_num
  · rw [em, ex, h1, hS, codeByte_eq m hm, code_val m hm, (sc_byte ⟨q, by omega⟩).2, p2_eq, ← EReal.coe_mul]
    congr 3
    simp only [BitVec.toNat_ofNat]
    omega

/-! ### Weights -/

theorem bf_fields : ∀ n : Fin 256, ((BitVec.ofNat 8 n.val).setWidth 16 <<< 7).extractLsb' 15 1 = 0#1
    ∧ (((BitVec.ofNat 8 n.val).setWidth 16 <<< 7).extractLsb' 7 8).toNat = n.val ∧ (((BitVec.ofNat 8 n.val).setWidth 16 <<< 7).extractLsb' 0 7).toNat = 0 := by
  decide +kernel

theorem bf_pow (E : BitVec 8) (h1 : 1 ≤ E.toNat) (h2 : E.toNat ≤ 254) :
    Ideal.ofBits .bf16 (E.setWidth 16 <<< 7) = (((2 : ℝ) ^ ((E.toNat : ℤ) - 127) : ℝ) : EReal) := by
  have H := bf_fields ⟨E.toNat, E.isLt⟩
  simp only [BitVec.ofNat_toNat, BitVec.setWidth_eq] at H
  have g : Ideal.ofBits .bf16 (E.setWidth 16 <<< 7) = ((1 * (2 ^ 7 + 0 : ℕ) * (2 : ℝ) ^ ((E.toNat : ℤ) - (2 ^ (8 - 1) - 1) - (7 : ℕ)) : ℝ) : EReal) := by
    show Ideal.ieee 8 7 _ = _
    unfold Ideal.ieee
    simp only
    rw [H.1, H.2.1, H.2.2, if_neg (by norm_num; omega), if_neg (by omega)]
    rfl
  rw [g]
  congr 1
  have m7 (k : ℤ) : (128 : ℝ) * 2 ^ (k - 7) = 2 ^ k := by
    rw [zpow_sub₀ (by norm_num : (2 : ℝ) ≠ 0), show ((2 : ℝ) ^ (7 : ℤ)) = 128 by norm_num]
    field_simp
  rw [← m7 ((E.toNat : ℤ) - 127)]
  norm_num

theorem weight_same (p E : BitVec 8) (hp : p.toNat < 64) (h1 : 1 ≤ E.toNat) (h2 : E.toNat ≤ 254) : ∃ z : ℝ,
    Ideal.ofBits .fp8e5m2 (dec8 p) * Ideal.ofBits .bf16 (E.setWidth 16 <<< 7) = ((z * (2 : ℝ) ^ (-12 : ℤ) : ℝ) : EReal)
      ∧ rVal (BitVec.setWidth 32 p) * p2 E = (z : EReal) := by
  refine ⟨sg (32 ≤ p.toNat) * val5 (p.toNat % 32) * (2 : ℝ) ^ ((E.toNat : ℤ) - 127), ?_, ?_⟩
  · rw [w5_eq p hp, bf_pow E h1 h2, ← EReal.coe_mul]
    congr 1
    ring
  · have : BitVec.setWidth 32 p = BitVec.ofNat 32 p.toNat := by
      apply BitVec.eq_of_toNat_eq
      simp only [BitVec.toNat_setWidth, BitVec.toNat_ofNat]
    rw [this, rVal_eq _ hp, p2_eq, ← EReal.coe_mul]

end Cert.Proof.Num

end
-- ==== Proof.RefW.lean ====
/- The reference's contraction at one index: decoded inputs, weights and scales. -/
module

public import proofs.«01_k».proof.Proof.RefVal
public import proofs.«01_k».proof.Proof.Block
public import Idealize.ShloMosaic.Lib.Pointwise
public import Idealize.ShloMosaic.Lib.Pointwise.IndexBridge

@[expose] public section

set_option maxRecDepth 16384

noncomputable section

namespace Cert.ReferenceIdeal.Value

open Idealize.ShloMosaic Idealize.ShloMosaic.TcCoe Idealize.ShloMosaic.Tactic
open Cert.ReferenceIdeal
open Cert.Proof.Num
open Cert.Proof.KernelIdeal (fbyte)

variable (V0 : Valuation τ sig (Elt Ideal))

/-- A decoded input and a weight's scale, as numbers. -/
def xd (s : Fin 128) (j : Fin 1792) (f : Fin 4) : EReal := res_main_v139 V0 (ix4 (0 : Fin 1) s j f)
def ws (n : Fin 18432) (j : Fin 1792) : EReal := res_main_v175 V0 (ix2 n j)

/-- The reference's sum of four contractions. -/
theorem v318_at (s : Fin 128) (n : Fin 18432) : res_main_v318 V0 (ix3 (0 : Fin 1) s n)
    = ((∑ j : Fin 1792, xd V0 s j 0 * (rVal (res_main_v149 V0 (ix2 n j)) * ws V0 n j)
      + ∑ j : Fin 1792, xd V0 s j 1 * (rVal (res_main_v156 V0 (ix2 n j)) * ws V0 n j))
      + ∑ j : Fin 1792, xd V0 s j 2 * (rVal (res_main_v163 V0 (ix2 n j)) * ws V0 n j))
      + ∑ j : Fin 1792, xd V0 s j 3 * (rVal (res_main_v165 V0 (ix2 n j)) * ws V0 n j) := by
  unfold xd ws
  unfold res_main_v318 res_main_v183 res_main_v185 res_main_v218 res_main_v220 res_main_v254 res_main_v256 res_main_v290 res_main_v292
  generalize res_main_v139 V0 = X
  generalize res_main_v149 V0 = F0
  generalize res_main_v156 V0 = F1
  generalize res_main_v163 V0 = F2
  generalize res_main_v165 V0 = F3
  generalize res_main_v175 V0 = W
  pointwise []
  rfl

theorem v175_at (n : Fin 18432) (j : Fin 1792) : res_main_v175 V0 (ix2 n j)
    = Ideal.pow (Ideal.ofBits FTy.f32 1073741824#32) (FloatOps.sitofp (F := Ideal) FTy.f32
        (IntOp.subi (BitVec.setWidth 32 (A2 V0 (ix2 n (⟨j.val / 8, by omega⟩ : Fin 224)))) 127#32)) := by
  unfold res_main_v175
  pointwise []

/-- Byte `b` of the three holding group `j` of row `n`. -/
abbrev wb (w : (⟨2, ![18432, 5376]⟩ : Shape).Idx → BitVec 8) (n : Fin 18432) (j : Fin 1792) (b : Fin 3) : BitVec 8 :=
  w (ix2 n (⟨j.val * 3 + b.val, by omega⟩ : Fin 5376))

theorem v143_at (n : Fin 18432) (j : Fin 1792) : res_main_v143 V0 (ix2 n j) = BitVec.setWidth 32 (wb (A1 V0) n j 0) := by
  unfold res_main_v143 res_main_v141
  pointwise []
  rfl
theorem v145_at (n : Fin 18432) (j : Fin 1792) : res_main_v145 V0 (ix2 n j) = BitVec.setWidth 32 (wb (A1 V0) n j 1) := by
  unfold res_main_v145 res_main_v141
  pointwise []
  rfl
theorem v147_at (n : Fin 18432) (j : Fin 1792) : res_main_v147 V0 (ix2 n j) = BitVec.setWidth 32 (wb (A1 V0) n j 2) := by
  unfold res_main_v147 res_main_v141
  pointwise []
  rfl

theorem f_tab : ∀ n : Fin 256, IntOp.andi ((BitVec.ofNat 8 n.val).setWidth 32) 63#32 = BitVec.setWidth 32 (BitVec.ofNat 8 n.val &&& 0x3F#8)
    ∧ IntOp.shrsi ArithUnit.host ((BitVec.ofNat 8 n.val).setWidth 32) 6#32 = BitVec.setWidth 32 (BitVec.ofNat 8 n.val >>> 6)
    ∧ IntOp.shrsi ArithUnit.host ((BitVec.ofNat 8 n.val).setWidth 32) 4#32 = BitVec.setWidth 32 (BitVec.ofNat 8 n.val >>> 4)
    ∧ IntOp.shrsi ArithUnit.host ((BitVec.ofNat 8 n.val).setWidth 32) 2#32 = BitVec.setWidth 32 (BitVec.ofNat 8 n.val >>> 2)
    ∧ IntOp.shli ArithUnit.host (IntOp.andi ((BitVec.ofNat 8 n.val).setWidth 32) 15#32) 2#32 = BitVec.setWidth 32 ((BitVec.ofNat 8 n.val &&& 0x0F#8) <<< 2)
    ∧ IntOp.shli ArithUnit.host (IntOp.andi ((BitVec.ofNat 8 n.val).setWidth 32) 3#32) 4#32 = BitVec.setWidth 32 ((BitVec.ofNat 8 n.val &&& 0x03#8) <<< 4) := by
  decide +kernel

theorem f_byte (b : BitVec 8) : IntOp.andi (b.setWidth 32) 63#32 = BitVec.setWidth 32 (b &&& 0x3F#8)
    ∧ IntOp.shrsi ArithUnit.host (b.setWidth 32) 6#32 = BitVec.setWidth 32 (b >>> 6)
    ∧ IntOp.shrsi ArithUnit.host (b.setWidth 32) 4#32 = BitVec.setWidth 32 (b >>> 4)
    ∧ IntOp.shrsi ArithUnit.host (b.setWidth 32) 2#32 = BitVec.setWidth 32 (b >>> 2)
    ∧ IntOp.shli ArithUnit.host (IntOp.andi (b.setWidth 32) 15#32) 2#32 = BitVec.setWidth 32 ((b &&& 0x0F#8) <<< 2)
    ∧ IntOp.shli ArithUnit.host (IntOp.andi (b.setWidth 32) 3#32) 4#32 = BitVec.setWidth 32 ((b &&& 0x03#8) <<< 4) := by
  have h := f_tab ⟨b.toNat, b.isLt⟩
  have e : BitVec.ofNat 8 b.toNat = b := by simp
  simp only [e] at h
  exact h

theorem v149_at (n : Fin 18432) (j : Fin 1792) : res_main_v149 V0 (ix2 n j) = BitVec.setWidth 32 (fbyte 0 (wb (A1 V0) n j 0) (wb (A1 V0) n j 1) (wb (A1 V0) n j 2)) := by
  refine Eq.trans ?_ (f_byte (wb (A1 V0) n j 0)).1
  rw [← v143_at]
  unfold res_main_v149
  generalize res_main_v143 V0 = X
  pointwise []
theorem v156_at (n : Fin 18432) (j : Fin 1792) : res_main_v156 V0 (ix2 n j) = BitVec.setWidth 32 (fbyte 1 (wb (A1 V0) n j 0) (wb (A1 V0) n j 1) (wb (A1 V0) n j 2)) := by
  show _ = BitVec.setWidth 32 (((wb (A1 V0) n j 1 &&& 0x0F#8) <<< 2) ||| (wb (A1 V0) n j 0 >>> 6))
  rw [BitVec.setWidth_or, ← (f_byte (wb (A1 V0) n j 0)).2.1, ← (f_byte (wb (A1 V0) n j 1)).2.2.2.2.1, ← v143_at, ← v145_at, BitVec.or_comm]
  unfold res_main_v156
  generalize res_main_v143 V0 = X
  generalize res_main_v145 V0 = Y
  pointwise []
  rfl
theorem v163_at (n : Fin 18432) (j : Fin 1792) : res_main_v163 V0 (ix2 n j) = BitVec.setWidth 32 (fbyte 2 (wb (A1 V0) n j 0) (wb (A1 V0) n j 1) (wb (A1 V0) n j 2)) := by
  show _ = BitVec.setWidth 32 (((wb (A1 V0) n j 2 &&& 0x03#8) <<< 4) ||| (wb (A1 V0) n j 1 >>> 4))
  rw [BitVec.setWidth_or, ← (f_byte (wb (A1 V0) n j 1)).2.2.1, ← (f_byte (wb (A1 V0) n j 2)).2.2.2.2.2, ← v145_at, ← v147_at, BitVec.or_comm]
  unfold res_main_v163
  generalize res_main_v145 V0 = X
  generalize res_main_v147 V0 = Y
  pointwise []
  rfl
theorem v165_at (n : Fin 18432) (j : Fin 1792) : res_main_v165 V0 (ix2 n j) = BitVec.setWidth 32 (fbyte 3 (wb (A1 V0) n j 0) (wb (A1 V0) n j 1) (wb (A1 V0) n j 2)) := by
  refine Eq.trans ?_ (f_byte (wb (A1 V0) n j 2)).2.2.2.1
  rw [← v147_at]
  unfold res_main_v165
  generalize res_main_v147 V0 = X
  pointwise []

end Cert.ReferenceIdeal.Value

end
-- ==== Proof.RefEnd.lean ====
/- The reference's run, its results element by element. -/
module

public import proofs.«01_k».proof.Proof.Elem
public import proofs.«01_k».proof.Proof.RefW

@[expose] public section

set_option maxRecDepth 16384

noncomputable section

namespace Cert.ReferenceIdeal.Value

open Idealize.ShloMosaic Idealize.ShloMosaic.TcCoe Idealize.ShloMosaic.Tactic Idealize.SL Idealize.SL.Sem Idealize.ShloMosaic.StableHlo
open Cert.Proof.Num

/-- What the reference's results are, given its arguments. -/
structure Ends (V0 : Valuation τ sig (Elt Ideal)) (y : S1x128x18432.Idx → EReal) (q : S1x128x7168.Idx → BitVec 8) (e : S1x128x224.Idx → BitVec 8) : Prop where
  y_at : ∀ (s : Fin 128) (n : Fin 18432), y (ix3 (0 : Fin 1) s n) = res_main_v318 V0 (ix3 (0 : Fin 1) s n)
  q_at : ∀ (s : Fin 128) (d : Fin 7168), q (ix3 (0 : Fin 1) s d) = cd (A0 V0) s (⟨d.val / 32, by omega⟩ : Fin 224) (⟨d.val % 32, by omega⟩ : Fin 32)
  e_at : ∀ (s : Fin 128) (b : Fin 224), e (ix3 (0 : Fin 1) s b) = rS (bmax (hblk (A0 V0) s b))

theorem run_ends (m : (ℓ : Loc nD τ sig) → Buf (Elt Ideal) ℓ) (ρ : Dev nD → PrngReg) :
    θ_run defs (onTc (τ := τ) (main (F := Ideal))) ⟨m, fun _ => 0, ρ⟩ fun r => ∀ c : Dev nD,
      Ends (launchContents m c) (r.2.mem ((c.tc : Thread nD τ).loc main_v319)) (r.2.mem ((c.tc : Thread nD τ).loc main_v94)) (r.2.mem ((c.tc : Thread nD τ).loc main_v95))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨?_, (h c).2.2.2⟩) (run m ρ)
  obtain ⟨h1, h2, h3, -⟩ := h c
  rw [h1, h2, h3]
  generalize launchContents m c = V0
  refine ⟨fun s n => ?_, fun s d => ?_, fun s b => ?_⟩
  · generalize res_main_v318 V0 = Y
    rfl
  · rw [← code_at]
    generalize res_main_v24 V0 = Y
    generalize res_main_v51 V0 = R
    generalize res_main_v63 V0 = K
    pointwise []
    rfl
  · have h := v15_at V0 s b
    revert h
    generalize res_main_v15 V0 = X
    intro h
    unfold rS
    rw [← h]
    pointwise [] <;> rfl

end Cert.ReferenceIdeal.Value

end
-- ==== Proof.PI.Quantised.lean ====
/- The quantiser's stores at one index: the scalar arithmetic of `Quant`. -/
module

public import proofs.«01_k».proof.Proof.Block
public import proofs.«01_k».proof.Proof.PI.Decode
public import proofs.«01_k».proof.Proof.PI.Trip1
public import Idealize.ShloMosaic.Lib.Pointwise
public import Idealize.ShloMosaic.Lib.Pointwise.IndexBridge

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Num

/-- Block `g` of row `s` of a unit. -/
abbrev ublk (x : Vec Ideal S128x256 .bf16) (g : Fin 8) (s : Fin 128) : Fin 32 → EReal :=
  fun e => x (ix2 s (⟨32 * g.val + e.val, by omega⟩ : Fin 256))

theorem pay15_at (x : Vec Ideal S128x256 .bf16) (r : Fin 256) (s : Fin 128) : k0_pay15 x (ix2 r s) = x (ix2 s r) := by
  unfold k0_pay15
  pointwise []

theorem pay16_at (x : Vec Ideal S128x256 .bf16) (g : Fin 8) (s : Fin 128) : k0_pay16 x (ix2 g s) = bmax (ublk x g s) := by
  unfold k0_pay16
  refine (Ideal.multiReduction_maximumf_single _ _ reduces_S8x32x128_S8x128 (.inl rfl) rfl (ix2 g s)).trans ?_
  unfold bmax
  congr 1
  funext e
  show shapeCast S8x32x128 (absf (extf .f32 (k0_pay15 x) bitsLt_bf16_f32)) shapeCasts_S256x128_S8x32x128 (reduces_S8x32x128_S8x128.lift (ix2 g s) e) = _
  rw [ix3_of (reduces_S8x32x128_S8x128.lift (ix2 g s) e) g (⟨e.val, e.isLt⟩ : Fin 32) s rfl rfl rfl]
  have hp := pay15_at x
  pointwise [hp]
  have he : (⟨g.val * 32 + e.val, by have := g.isLt; have : e.val < 32 := e.isLt; omega⟩ : Fin 256)
      = ⟨32 * g.val + e.val, by have := g.isLt; have : e.val < 32 := e.isLt; omega⟩ := Fin.ext (by show g.val * 32 + e.val = 32 * g.val + e.val; omega)
  rw [he]
  rfl

/-- One step of the bisection on a vector. -/
def vStep (M : FVec Ideal S8x128 .f32) (e : IVec S8x128 32) (st : BitVec 32) : IVec S8x128 32 :=
  select (cmpf .oge M (bitcastToFloat .f32 (shli (addi e (broadcast S8x128 st)) (broadcast S8x128 23#32)))) (addi e (broadcast S8x128 st)) e

theorem vStep_at (M : FVec Ideal S8x128 .f32) (e : IVec S8x128 32) (st : BitVec 32) (i : S8x128.Idx) : vStep M e st i = kStep (M i) (e i) st := rfl

theorem pay17_eq (x : Vec Ideal S128x256 .bf16) :
    k0_pay17 x = vStep (k0_pay16 x) (vStep (k0_pay16 x) (vStep (k0_pay16 x) (broadcast S8x128 0#32) 128#32) 64#32) 32#32 := by
  unfold k0_pay17
  generalize k0_pay16 x = M
  extract_lets
  rfl

theorem pay19_eq (M : FVec Ideal S8x128 .f32) (e : IVec S8x128 32) (c : IVec S8x128 1)
    (hc : c = cmpf .oge M (bitcastToFloat .f32 (shli (addi e (broadcast S8x128 16#32)) (broadcast S8x128 23#32)))) :
    k0_pay19 M e c = vStep M (vStep M (vStep M (vStep M (vStep M e 16#32) 8#32) 4#32) 2#32) 1#32 := by
  unfold k0_pay19
  subst hc
  rfl

theorem qE_at (x : Vec Ideal S128x256 .bf16) (g : Fin 8) (s : Fin 128) : qE x (ix2 g s) = kE (bmax (ublk x g s)) := by
  rw [← pay16_at]
  unfold qE kE
  rw [pay19_eq _ _ _ (by unfold k0_pay18; rfl), pay17_eq]
  simp only [vStep_at]
  rfl

theorem qExp_at (x : Vec Ideal S128x256 .bf16) (g : Fin 8) (s : Fin 128) : qExp x (ix2 g s) = kSc (kE (bmax (ublk x g s))) := by
  rw [← qE_at]
  unfold qExp k0_pay24
  pointwise []
  rfl

theorem pay25_at (x : Vec Ideal S128x256 .bf16) (g : Fin 8) (s : Fin 128) :
    (k0_pay25 (F := Ideal) (qE x) (qZ x) (ix2 g s) : EReal) = Ideal.ofBits .f32 (IntOp.shli .vector (kSc (kE (bmax (ublk x g s)))) 23#32) := by
  rw [← qE_at]
  rfl

theorem qY_at (x : Vec Ideal S128x256 .bf16) (r : Fin 256) (s : Fin 128) :
    qY x (ix2 r s) = kY (x (ix2 s r)) (kE (bmax (ublk x (⟨r.val / 32, by omega⟩ : Fin 8) s))) := by
  rw [← qE_at, ← pay15_at x r s]
  unfold qY k0_pay26
  generalize hZ : qZ x = z
  generalize hI : qI x = i
  generalize k0_pay15 x = x15
  pointwise []
  subst hZ hI
  rfl

theorem byte_at (x : Vec Ideal S128x256 .bf16) (r : Fin 256) (s : Fin 128) :
    k0_pay30 (qY x) (qA x) (qT x) k0_pay29 (ix2 r s) = kByte (qY x (ix2 r s)) := by
  rfl

theorem byteOf_word4 (B : Fin 4 → BitVec 8) (b : Fin 4) : byteOf (word4 (B 0) (B 1) (B 2) (B 3)) b.val = B b := by
  apply BitVec.eq_of_getLsbD_eq
  intro q hq
  rw [byteOf_getLsbD, word4_getLsbD]
  simp only [hq, decide_true, Bool.true_and]
  match b with
  | 0 => (show (if 8 * 0 + q < 8 then _ else _) = _); split_ifs <;> first | omega | (congr 1; omega)
  | 1 => (show (if 8 * 1 + q < 8 then _ else _) = _); split_ifs <;> first | omega | (congr 1; omega)
  | 2 => (show (if 8 * 2 + q < 8 then _ else _) = _); split_ifs <;> first | omega | (congr 1; omega)
  | 3 => (show (if 8 * 3 + q < 8 then _ else _) = _); split_ifs <;> first | omega | (congr 1; omega)

theorem qCodes_at (x : Vec Ideal S128x256 .bf16) (s : Fin 128) (r : Fin 256) :
    qCodes x (ix2 s r) = codeByte (k0_pay30 (qY x) (qA x) (qT x) k0_pay29 (ix2 r s)) := by
  unfold qCodes k0_pay1 k0_pay33 k0_pay34 k0_pay32
  generalize k0_pay30 (qY x) (qA x) (qT x) k0_pay29 = B
  pointwise []
  rw [bitcast_32_8_ix2 _ _ r s (⟨r.val / 4, by omega⟩ : Fin 64) rfl]
  generalize hw : bitcast S64x128 32 B bitcasts_S256x128_w8_S64x128_w32 = W
  have hb : byteOf (W (ix2 (⟨r.val / 4, by omega⟩ : Fin 64) s)) (r.val % 4) = B (ix2 r s) := by
    rw [← hw, bitcast_8_32_ix2 B _ (⟨r.val / 4, by omega⟩ : Fin 64) s (fun b => ⟨4 * (r.val / 4) + b.val, by omega⟩) (fun _ => rfl)]
    have hq := byteOf_word4 (fun b : Fin 4 => B (ix2 (⟨4 * (r.val / 4) + b.val, by omega⟩ : Fin 256) s)) (⟨r.val % 4, by omega⟩ : Fin 4)
    refine hq.trans ?_
    have hr : (⟨4 * (r.val / 4) + r.val % 4, by omega⟩ : Fin 256) = r := Fin.ext (by simp only; omega)
    simp only [hr]
  rw [← hb]
  exact byteOf_code (W (ix2 (⟨r.val / 4, by omega⟩ : Fin 64) s)) (⟨r.val % 4, by omega⟩ : Fin 4)

theorem qXp_at (x : Vec Ideal S128x256 .bf16) (p : Vec Ideal S256x256 .bf16) (s : Fin 128) (k : Fin 256) :
    (qXp x p (ix2 s k) : EReal) = ∑ r : Fin 256, Ideal.ofBits .fp8e5m2 (k0_pay30 (qY x) (qA x) (qT x) k0_pay29 (ix2 r s)) * Ideal.ofBits .bf16 17792#16
      * k0_pay25 (F := Ideal) (qE x) (qZ x) (ix2 (⟨r.val / 32, by omega⟩ : Fin 8) s) * p (ix2 r k) := by
  unfold qXp k0_pay2 k0_pay31
  generalize k0_pay30 (qY x) (qA x) (qT x) k0_pay29 = B
  generalize hC : k0_pay25 (F := Ideal) (qE x) (qZ x) = C
  pointwise []

end Cert.Proof.KernelIdeal

end
-- ==== Proof.PI.Weight.lean ====
/- A weight of the kernel's contraction at one index, and the contraction as one sum over the units. -/
module

public import proofs.«01_k».proof.Proof.PI.Vals
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

theorem byteOf_w4 (T : Fin 4 → BitVec 8) (b : ℕ) (hb : b < 4) : byteOf (word4 (T 0) (T 1) (T 2) (T 3)) b = T ⟨b, hb⟩ := by
  apply BitVec.eq_of_getLsbD_eq
  intro q hq
  rw [byteOf_getLsbD, word4_getLsbD]
  interval_cases b
  · rw [if_pos (by omega)]; simp [hq]
  · rw [if_neg (by omega), if_pos (by omega), show 8 * 1 + q - 8 = q by omega]; simp [hq]
  · rw [if_neg (by omega), if_neg (by omega), if_pos (by omega), show 8 * 2 + q - 16 = q by omega]; simp [hq]
  · rw [if_neg (by omega), if_neg (by omega), if_neg (by omega), show 8 * 3 + q - 24 = q by omega]; simp [hq]

theorem mask_exp : ∀ q : Fin 32, (2139095040#32).getLsbD q.val = decide (23 ≤ q.val ∧ q.val < 31) := by decide

/-- Either half of a spread word is the scale byte as the exponent of a 16-bit float. -/
theorem spread_half (T : Fin 4 → BitVec 8) (b : Fin 4) (p : Fin 2) :
    (spread b.val (word4 (T 0) (T 1) (T 2) (T 3))).extractLsb' (16 * p.val) 16 = (T b).setWidth 16 <<< 7 := by
  have key : ∀ i : ℕ, 23 ≤ i → i < 31 →
      (if b.val = 3 then (word4 (T 0) (T 1) (T 2) (T 3)) >>> 1 else (word4 (T 0) (T 1) (T 2) (T 3)) <<< (23 - 8 * b.val)).getLsbD i = (T b).getLsbD (i - 23) := by
    intro i h1 h2
    have hT := byteOf_w4 T b.val b.isLt
    have hq : (byteOf (word4 (T 0) (T 1) (T 2) (T 3)) b.val).getLsbD (i - 23) = (T b).getLsbD (i - 23) := by rw [hT]
    rw [byteOf_getLsbD, decide_eq_true (by omega : i - 23 < 8), Bool.true_and] at hq
    rw [← hq]
    have hb := b.isLt
    split_ifs with h3
    · rw [BitVec.getLsbD_ushiftRight]
      congr 1
      omega
    · rw [BitVec.getLsbD_shiftLeft]
      rw [decide_eq_true (by omega : i < 32), decide_eq_false (by omega : ¬ i < 23 - 8 * b.val)]
      simp only [Bool.true_and, Bool.not_false]
      congr 1
      omega
  unfold spread
  generalize (if b.val = 3 then (word4 (T 0) (T 1) (T 2) (T 3)) >>> 1 else (word4 (T 0) (T 1) (T 2) (T 3)) <<< (23 - 8 * b.val)) = W at key ⊢
  have kw : ∀ i : ℕ, i < 32 → (W &&& 2139095040#32).getLsbD i = (decide (23 ≤ i ∧ i < 31) && (T b).getLsbD (i - 23)) := by
    intro i hi
    rw [BitVec.getLsbD_and, mask_exp ⟨i, hi⟩]
    by_cases h : 23 ≤ i ∧ i < 31
    · rw [key i h.1 h.2, Bool.and_comm]
    · simp only [decide_eq_false h, Bool.and_false, Bool.false_and]
  apply BitVec.eq_of_getLsbD_eq
  intro q hq
  rw [BitVec.getLsbD_extractLsb', BitVec.getLsbD_or, BitVec.getLsbD_ushiftRight, BitVec.getLsbD_shiftLeft, BitVec.getLsbD_setWidth,
    decide_eq_true hq, Bool.true_and, Bool.true_and]
  have hp := p.isLt
  have hT : ∀ i, 8 ≤ i → (T b).getLsbD i = false := fun i hi => BitVec.getLsbD_of_ge _ _ hi
  rw [kw _ (by omega)]
  interval_cases h : p.val
  · rw [kw _ (by omega)]
    rw [decide_eq_false (by omega : ¬ (23 ≤ 16 * 0 + q ∧ 16 * 0 + q < 31)), Bool.false_and, Bool.false_or]
    by_cases h7 : q < 7
    · rw [decide_eq_false (by omega), decide_eq_true h7]; simp
    · rw [decide_eq_false h7]
      by_cases h15 : q < 15
      · rw [decide_eq_true (by omega), decide_eq_true (by omega), show 16 + (16 * 0 + q) - 23 = q - 7 by omega]; simp
      · rw [hT (q - 7) (by omega), decide_eq_false (by omega)]; simp
  · rw [BitVec.getLsbD_of_ge _ _ (by omega : 32 ≤ 16 + (16 * 1 + q)), Bool.or_false]
    by_cases h7 : q < 7
    · rw [decide_eq_false (by omega), decide_eq_true h7]; simp
    · rw [decide_eq_false h7]
      by_cases h15 : q < 15
      · rw [decide_eq_true (by omega), decide_eq_true (by omega), show 16 * 1 + q - 23 = q - 7 by omega]; simp
      · rw [hT (q - 7) (by omega), decide_eq_false (by omega)]; simp

/-- The group of bytes behind row `k` of unit `u`. -/
def gOf (u : Fin 28) (k : Fin 256) : Fin 1792 :=
  ⟨64 * u.val + 8 * (k.val / 4 % 8) + 4 * (k.val / 128) + (grp ⟨k.val / 32 % 4, by omega⟩ ⟨k.val % 4, by omega⟩).val, by
    have := (grp ⟨k.val / 32 % 4, by omega⟩ ⟨k.val % 4, by omega⟩).isLt; omega⟩

/-- The weight at output `n` of the block, row `k` of unit `u`. -/
def wk (w : S1024x5376.Idx → BitVec 8) (s : S1024x224.Idx → BitVec 8) (n : Fin 1024) (u : Fin 28) (k : Fin 256) : EReal :=
  Ideal.ofBits .fp8e5m2 (dec8 (fbyte ⟨k.val / 32 % 4, by omega⟩ (w (ix2 n ⟨3 * (gOf u k).val, by omega⟩))
      (w (ix2 n ⟨3 * (gOf u k).val + 1, by omega⟩)) (w (ix2 n ⟨3 * (gOf u k).val + 2, by omega⟩))))
    * Ideal.ofBits .bf16 ((s (ix2 n ⟨(gOf u k).val / 8, by omega⟩)).setWidth 16 <<< 7)

theorem cell_stg (w : S1024x5376.Idx → BitVec 8) (r0 : Fin 2) (c : Fin 14) (h : Fin 2) (q : Fin 4) (t : Fin 2) (i : Fin 8) (l : Fin 128) (j : Fin 12)
    (n : Fin 1024) (d : Fin 5376) (hn : n.val = 512 * r0.val + (128 * q.val + l.val))
    (hd : d.val = 384 * c.val + 192 * h.val + 12 * t.val + 24 * i.val + j.val) :
    cell (F := Ideal) (xOf (F := Ideal) w r0 c h q t) i l j = w (ix2 n d) := by
  unfold cell lbyte xOf
  show byteOf (stg w r0 c q ⟨48 * h.val + 3 * t.val + j.val / 4 + 6 * i.val, by omega⟩ l) (j.val % 4) = _
  unfold stg
  refine (byteOf_w4 (fun b : Fin 4 => w (ix2 ⟨512 * r0.val + (128 * q.val + l.val), by omega⟩
    ⟨384 * c.val + (4 * (48 * h.val + 3 * t.val + j.val / 4 + 6 * i.val) + b.val), by omega⟩)) (j.val % 4) (by omega)).trans ?_
  exact congrArg w (ix2_of _ _ _ (by show 512 * r0.val + (128 * q.val + l.val) = n.val; omega)
    (by show 384 * c.val + (4 * (48 * h.val + 3 * t.val + j.val / 4 + 6 * i.val) + j.val % 4) = d.val; omega))

theorem scale_stg (s : S1024x224.Idx → BitVec 8) (r0 : Fin 2) (c : Fin 14) (h : Fin 2) (q : Fin 4) (r : Fin 32) (l : Fin 128)
    (n : Fin 1024) (d : Fin 224) (hn : n.val = 512 * r0.val + (128 * q.val + l.val)) (hd : d.val = 16 * c.val + 8 * h.val + r.val / 4) :
    k0_pay35 (F := Ideal) (sOf (F := Ideal) (sclA s r0) c h q) (ix2 r l) = Ideal.ofBits .bf16 ((s (ix2 n d)).setWidth 16 <<< 7) := by
  rw [pay35_at]
  show Ideal.ofBits .bf16 ((scl s r0 q ⟨32 * c.val + 16 * h.val + r.val / 2, by omega⟩ l).extractLsb' (16 * (r.val % 2)) 16) = _
  congr 1
  unfold scl
  refine (spread_half (fun b : Fin 4 => s (ix2 ⟨512 * r0.val + (128 * q.val + l.val), by omega⟩
    ⟨4 * ((32 * c.val + 16 * h.val + r.val / 2) / 8) + b.val, by omega⟩)) ⟨(32 * c.val + 16 * h.val + r.val / 2) % 8 / 2, by omega⟩ ⟨r.val % 2, by omega⟩).trans ?_
  congr 2
  exact congrArg s (ix2_of _ _ _ (by show 512 * r0.val + (128 * q.val + l.val) = n.val; omega)
    (by show 4 * ((32 * c.val + 16 * h.val + r.val / 2) / 8) + (32 * c.val + 16 * h.val + r.val / 2) % 8 / 2 = d.val; omega))

theorem rhs_at (w : S1024x5376.Idx → BitVec 8) (s : S1024x224.Idx → BitVec 8) (r0 : Fin 2) (c : Fin 14) (h : Fin 2) (k : Fin 256) (n : Fin 512) :
    rhsOf (F := Ideal) (xOf w r0 c h) (sOf (sclA s r0) c h) (ix2 k n)
      = wk w s ⟨512 * r0.val + n.val, by omega⟩ ⟨2 * c.val + h.val, by omega⟩ k := by
  rw [rhsOf_at, colOf_at]
  obtain ⟨t, ht⟩ : ∃ t : Fin 2, t.val = k.val / 128 := ⟨⟨k.val / 128, by omega⟩, rfl⟩
  have hx : (if k.val / 128 = 0 then xOf (F := Ideal) w r0 c h ⟨n.val / 128, by omega⟩ 0 else xOf (F := Ideal) w r0 c h ⟨n.val / 128, by omega⟩ 1)
      = xOf (F := Ideal) w r0 c h ⟨n.val / 128, by omega⟩ t := by
    rw [← ht]
    fin_cases t <;> rfl
  rw [hx, pcOf_fldOf_at]
  have hG := (grp ⟨k.val / 32 % 4, by omega⟩ ⟨k.val % 32 % 4, by omega⟩).isLt
  have e4 : (⟨k.val % 32 % 4, by omega⟩ : Fin 4) = ⟨k.val % 4, by omega⟩ := Fin.ext (by show k.val % 32 % 4 = k.val % 4; omega)
  rw [e4] at hG
  simp only [e4]
  have hg : (gOf ⟨2 * c.val + h.val, by omega⟩ k).val = 64 * (2 * c.val + h.val) + 8 * (k.val / 4 % 8) + 4 * (k.val / 128) + (grp ⟨k.val / 32 % 4, by omega⟩ ⟨k.val % 4, by omega⟩).val := rfl
  have e5 : k.val % 32 / 4 = k.val / 4 % 8 := by omega
  have e6 : (gOf ⟨2 * c.val + h.val, by omega⟩ k).val / 8 = 8 * (2 * c.val + h.val) + k.val / 4 % 8 := by omega
  unfold wk
  rw [cell_stg w r0 c h ⟨n.val / 128, by omega⟩ t _ _ _ ⟨512 * r0.val + n.val, by omega⟩ ⟨3 * (gOf ⟨2 * c.val + h.val, by omega⟩ k).val, by omega⟩
      (by simp only; omega) (by simp only; omega),
    cell_stg w r0 c h ⟨n.val / 128, by omega⟩ t _ _ _ ⟨512 * r0.val + n.val, by omega⟩ ⟨3 * (gOf ⟨2 * c.val + h.val, by omega⟩ k).val + 1, by omega⟩
      (by simp only; omega) (by simp only; omega),
    cell_stg w r0 c h ⟨n.val / 128, by omega⟩ t _ _ _ ⟨512 * r0.val + n.val, by omega⟩ ⟨3 * (gOf ⟨2 * c.val + h.val, by omega⟩ k).val + 2, by omega⟩
      (by simp only; omega) (by simp only; omega),
    scale_stg s r0 c h ⟨n.val / 128, by omega⟩ _ _ ⟨512 * r0.val + n.val, by omega⟩ ⟨(gOf ⟨2 * c.val + h.val, by omega⟩ k).val / 8, by omega⟩
      (by simp only; omega) (by simp only; rw [e6, e5]; ring)]
  rfl

theorem zero_f32 : Ideal.ofBits FTy.f32 0x00000000#32 = 0 := by simp [Ideal.ofBits, Ideal.ieee]

/-- One unit adds its contraction. -/
theorem unit_at (xp : S128x7168.Idx → EReal) (w : S1024x5376.Idx → BitVec 8) (s : S1024x224.Idx → BitVec 8) (r0 : Fin 2)
    (c : Fin 14) (h : Fin 2) (acc : FVec Ideal S128x512 .f32) (i : Fin 128) (n : Fin 512) (A : EReal) (hA : acc (ix2 i n) = A) :
    unitOf (F := Ideal) xp w (sclA s r0) r0 c h acc (ix2 i n)
      = A + ∑ k : Fin 256, xp (ix2 i ⟨256 * (2 * c.val + h.val) + k.val, by omega⟩)
          * wk w s ⟨512 * r0.val + n.val, by omega⟩ ⟨2 * c.val + h.val, by omega⟩ k := by
  unfold unitOf
  have hR : ∀ k : Fin 256, rhsOf (F := Ideal) (xOf w r0 c h) (sOf (sclA s r0) c h) (ix2 k n) = wk w s ⟨512 * r0.val + n.val, by omega⟩ ⟨2 * c.val + h.val, by omega⟩ k :=
    fun k => rhs_at w s r0 c h k n
  generalize rhsOf (F := Ideal) (xOf w r0 c h) (sOf (sclA s r0) c h) = R at hR ⊢
  have hL : ∀ k : Fin 256, lhsOf (F := Ideal) xp c h (ix2 i k) = xp (ix2 i ⟨256 * (2 * c.val + h.val) + k.val, by omega⟩) := by
    intro k
    unfold lhsOf
    exact congrArg xp (ix2_of _ _ _ rfl (by show 512 * c.val + 256 * h.val + k.val = 256 * (2 * c.val + h.val) + k.val; omega))
  generalize lhsOf (F := Ideal) xp c h = L at hL ⊢
  unfold tripOf
  subst hA
  simp only [← hR, ← hL]
  pointwise []

end Cert.Proof.KernelIdeal

end
-- ==== Proof.PI.Chan.lean ====
/- Which channel of a unit a row of the contraction takes. -/
module

public import proofs.«01_k».proof.KernelIdeal
public import proofs.«01_k».proof.Proof.PI.Weight

@[expose] public section

set_option maxRecDepth 16384

noncomputable section

namespace Cert.Proof.KernelIdeal

open Cert.KernelIdeal Cert.KernelIdeal.Gen
open Idealize.ShloMosaic

/-- The channel, within its unit, that row `k` of the contraction takes. -/
def chN (k : ℕ) : ℕ := 4 * (8 * (k / 4 % 8) + 4 * (k / 128) + (grp ⟨k / 32 % 4, by omega⟩ ⟨k % 4, by omega⟩).val) + k / 32 % 4

/-- Every channel of a unit stands at one row, and the rows are as many. -/
theorem chN_lt (k : Fin 256) : chN k.val < 256 := by
  unfold chN
  have := (grp ⟨k.val / 32 % 4, by omega⟩ ⟨k.val % 4, by omega⟩).isLt
  omega

end Cert.Proof.KernelIdeal

end
-- ==== Proof.PI.Loop3.lean ====
/- The staging of a chunk and the loop over the chunks, with the values. -/
module

public import proofs.«01_k».proof.Proof.PI.Vals
public import proofs.«01_k».proof.Proof.Gen.KernelIdeal.Loops
public import Idealize.ShloMosaic.Lib.Pointwise
public import Idealize.ShloMosaic.Lib.Pointwise.IndexBridge

@[expose] public section

noncomputable section

namespace Cert.Proof.KernelIdealV

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the run: the frame kit's. -/
abbrev UU (nD : Nat) (τ : Topo) : Type := UR sig nD τ
abbrev 𝒱₀ : Variants := Variants.none
local notation "𝕄" => MT nD τ sig Unit (Elt F) ℕ (UU nD τ) ℕ

theorem pay9_at (v : Vec F S512x384 .i8) (row : Fin 96) (l : Fin 128) :
    k0_pay9 v (ix4 0 0 row l) = word4 (v (ix2 ⟨0 + l.val, by omega⟩ ⟨4 * row.val, by omega⟩)) (v (ix2 ⟨0 + l.val, by omega⟩ ⟨4 * row.val + 1, by omega⟩))
      (v (ix2 ⟨0 + l.val, by omega⟩ ⟨4 * row.val + 2, by omega⟩)) (v (ix2 ⟨0 + l.val, by omega⟩ ⟨4 * row.val + 3, by omega⟩)) := by
  pointwise [k0_pay9, k0_pay8]
  refine (bitcast_8_32_ix2 _ _ row _ (fun b => ⟨4 * row.val + b.val, by omega⟩) (fun b => rfl)).trans ?_
  pointwise

theorem pay10_at (v : Vec F S512x384 .i8) (row : Fin 96) (l : Fin 128) :
    k0_pay10 v (ix4 0 0 row l) = word4 (v (ix2 ⟨128 + l.val, by omega⟩ ⟨4 * row.val, by omega⟩)) (v (ix2 ⟨128 + l.val, by omega⟩ ⟨4 * row.val + 1, by omega⟩))
      (v (ix2 ⟨128 + l.val, by omega⟩ ⟨4 * row.val + 2, by omega⟩)) (v (ix2 ⟨128 + l.val, by omega⟩ ⟨4 * row.val + 3, by omega⟩)) := by
  pointwise [k0_pay10, k0_pay8]
  refine (bitcast_8_32_ix2 _ _ row _ (fun b => ⟨4 * row.val + b.val, by omega⟩) (fun b => rfl)).trans ?_
  pointwise

theorem pay11_at (v : Vec F S512x384 .i8) (row : Fin 96) (l : Fin 128) :
    k0_pay11 v (ix4 0 0 row l) = word4 (v (ix2 ⟨256 + l.val, by omega⟩ ⟨4 * row.val, by omega⟩)) (v (ix2 ⟨256 + l.val, by omega⟩ ⟨4 * row.val + 1, by omega⟩))
      (v (ix2 ⟨256 + l.val, by omega⟩ ⟨4 * row.val + 2, by omega⟩)) (v (ix2 ⟨256 + l.val, by omega⟩ ⟨4 * row.val + 3, by omega⟩)) := by
  pointwise [k0_pay11, k0_pay8]
  refine (bitcast_8_32_ix2 _ _ row _ (fun b => ⟨4 * row.val + b.val, by omega⟩) (fun b => rfl)).trans ?_
  pointwise

theorem pay12_at (v : Vec F S512x384 .i8) (row : Fin 96) (l : Fin 128) :
    k0_pay12 v (ix4 0 0 row l) = word4 (v (ix2 ⟨384 + l.val, by omega⟩ ⟨4 * row.val, by omega⟩)) (v (ix2 ⟨384 + l.val, by omega⟩ ⟨4 * row.val + 1, by omega⟩))
      (v (ix2 ⟨384 + l.val, by omega⟩ ⟨4 * row.val + 2, by omega⟩)) (v (ix2 ⟨384 + l.val, by omega⟩ ⟨4 * row.val + 3, by omega⟩)) := by
  pointwise [k0_pay12, k0_pay8]
  refine (bitcast_8_32_ix2 _ _ row _ (fun b => ⟨4 * row.val + b.val, by omega⟩) (fun b => rfl)).trans ?_
  pointwise

/-- The words of the whole staging buffer for one half of the block. -/
def stgA (w : S1024x5376.Idx → BitVec 8) (r0 : Fin 2) : S14x4x96x128.Idx → BitVec 32 := fun y => stg w r0 (y 0) (y 1) (y 2) (y 3)

theorem ld3 (arg3 : Memref sig .tc .vmem S1024x5376 .i8) (X3 : BufTy.Contents (Elt F) arg3.view.ty) (off : Fin 2 → ℕ) (inb)
    (r0 : Fin 2) (c : Fin 14) (hoff : off = ![512 * r0.val, 384 * c.val]) (n : Fin 512) (j : Fin 384) :
    arg3.view.readAt (Elt F) (Rect.unit (s := S1024x5376) off S512x384.size inb).toLoadRect X3 (ix2 n j)
      = arg3.view.read (Elt F) X3 (ix2 ⟨512 * r0.val + n.val, by omega⟩ ⟨384 * c.val + j.val, by omega⟩) := by
  subst hoff
  rw [View.readAt_apply]
  refine congrArg (arg3.view.read (Elt F) X3) (ix2_of _ _ _ ?_ ?_)
  · rw [ix2_eq_valueIdx]; show 512 * r0.val + 1 * n.val = 512 * r0.val + n.val; omega
  · rw [ix2_eq_valueIdx]; show 384 * c.val + 1 * j.val = 384 * c.val + j.val; omega

theorem pay_stg (v : Vec F S512x384 .i8) (w : S1024x5376.Idx → BitVec 8) (r0 : Fin 2) (c : Fin 14) (q : Fin 4) (pay : IVec S1x1x96x128 32) (off : Fin 4 → ℕ) (inb)
    (hoff : off = ![c.val, q.val, 0, 0])
    (hv : ∀ (n : Fin 512) (j : Fin 384), v (ix2 n j) = w (ix2 ⟨512 * r0.val + n.val, by omega⟩ ⟨384 * c.val + j.val, by omega⟩))
    (hp : ∀ (row : Fin 96) (l : Fin 128), pay (ix4 0 0 row l) = word4 (v (ix2 ⟨128 * q.val + l.val, by omega⟩ ⟨4 * row.val, by omega⟩)) (v (ix2 ⟨128 * q.val + l.val, by omega⟩ ⟨4 * row.val + 1, by omega⟩))
      (v (ix2 ⟨128 * q.val + l.val, by omega⟩ ⟨4 * row.val + 2, by omega⟩)) (v (ix2 ⟨128 * q.val + l.val, by omega⟩ ⟨4 * row.val + 3, by omega⟩)))
    (x : S1x1x96x128.Idx) : pay x = stgA w r0 ((Rect.unit (s := S14x4x96x128) off S1x1x96x128.size inb).emb x) := by
  subst hoff
  have h0 : (x 0).val < 1 := (x 0).isLt
  have h1 : (x 1).val < 1 := (x 1).isLt
  have e : x = ix4 0 0 (x 2) (x 3) := ix4_of x 0 0 (x 2) (x 3) (by show (x 0).val = 0; omega) (by show (x 1).val = 0; omega) rfl rfl
  have ee : (Rect.unit (s := S14x4x96x128) ![c.val, q.val, 0, 0] S1x1x96x128.size inb).emb x = ix4 c q (x 2) (x 3) :=
    ix4_of _ c q (x 2) (x 3) (by show c.val + 1 * (x 0).val = c.val; omega) (by show q.val + 1 * (x 1).val = q.val; omega)
      (by show 0 + 1 * (x 2).val = (x 2).val; omega) (by show 0 + 1 * (x 3).val = (x 3).val; omega)
  rw [ee]
  refine (congrArg pay e).trans ((hp (x 2) (x 3)).trans ?_)
  simp only [hv]
  unfold stgA
  rw [ix4_eq_valueIdx]
  rfl

/-- After the four stores of a chunk its staged words are those of the block. -/
theorem staged (arg8 : Memref sig .tc .vmem S14x4x96x128 .i32) (f8 : BufTy.Contents (Elt F) arg8.view.ty) (v : Vec F S512x384 .i8)
    (w : S1024x5376.Idx → BitVec 8) (r0 : Fin 2) (k : Fin k0_t3_loop.trips) (c : Fin 14) (hc : c.val = k.val)
    (hv : ∀ (n : Fin 512) (j : Fin 384), v (ix2 n j) = w (ix2 ⟨512 * r0.val + n.val, by omega⟩ ⟨384 * c.val + j.val, by omega⟩))
    (q : Fin 4) (row : Fin 96) (l : Fin 128) :
    arg8.view.read (Elt F) (arg8.view.writes (Elt F) f8
        [⟨Rect.unit (k0_off8 k) S1x1x96x128.size (k0_off8_inb k), k0_pay12 v⟩,
          ⟨Rect.unit (k0_off7 k) S1x1x96x128.size (k0_off7_inb k), k0_pay11 v⟩,
          ⟨Rect.unit (k0_off6 k) S1x1x96x128.size (k0_off6_inb k), k0_pay10 v⟩,
          ⟨Rect.unit (k0_off5 k) S1x1x96x128.size (k0_off5_inb k), k0_pay9 v⟩]) (ix4 c q row l) = stg w r0 c q row l := by
  refine (View.read_writes_apply_of_pieces arg8.view f8 (stgA w r0) _ ?_ _ ?_).trans (by unfold stgA; rw [ix4_eq_valueIdx])
  · intro p hp
    simp only [List.mem_cons, List.not_mem_nil, _root_.or_false] at hp
    rcases hp with rfl | rfl | rfl | rfl
    · exact pay_stg v w r0 c 3 _ _ (k0_off8_inb k) ((k0_off8_eq k).trans (by rw [hc]; rfl)) hv (pay12_at v)
    · exact pay_stg v w r0 c 2 _ _ (k0_off7_inb k) ((k0_off7_eq k).trans (by rw [hc]; rfl)) hv (pay11_at v)
    · exact pay_stg v w r0 c 1 _ _ (k0_off6_inb k) ((k0_off6_eq k).trans (by rw [hc]; rfl)) hv (pay10_at v)
    · exact pay_stg v w r0 c 0 _ _ (k0_off5_inb k) ((k0_off5_eq k).trans (by rw [hc]; rfl)) hv (pay9_at v)
  · have key : ∀ (off : Fin 4 → ℕ) (inb), off = ![c.val, q.val, 0, 0] → ix4 c q row l ∈ (Rect.unit (s := S14x4x96x128) off S1x1x96x128.size inb).set := by
      rintro off inb rfl
      rw [Rect.mem_set_unit, ix4_eq_valueIdx]
      intro a
      match a with
      | ⟨0, _⟩ => exact ⟨le_refl _, Nat.lt_succ_self _⟩
      | ⟨1, _⟩ => exact ⟨le_refl _, Nat.lt_succ_self _⟩
      | ⟨2, _⟩ => exact ⟨Nat.zero_le _, by show row.val < 0 + 96; omega⟩
      | ⟨3, _⟩ => exact ⟨Nat.zero_le _, by show l.val < 0 + 128; omega⟩
    match q with
    | 0 => exact ⟨_, List.mem_cons_of_mem _ (List.mem_cons_of_mem _ (List.mem_cons_of_mem _ List.mem_cons_self)), key _ (k0_off5_inb k) ((k0_off5_eq k).trans (by rw [hc]; rfl))⟩
    | 1 => exact ⟨_, List.mem_cons_of_mem _ (List.mem_cons_of_mem _ List.mem_cons_self), key _ (k0_off6_inb k) ((k0_off6_eq k).trans (by rw [hc]; rfl))⟩
    | 2 => exact ⟨_, List.mem_cons_of_mem _ List.mem_cons_self, key _ (k0_off7_inb k) ((k0_off7_eq k).trans (by rw [hc]; rfl))⟩
    | 3 => exact ⟨_, List.mem_cons_self, key _ (k0_off8_inb k) ((k0_off8_eq k).trans (by rw [hc]; rfl))⟩

/-- The chunk loop: the packed block, the scales and the permuted activations stay, the value carried is the chunks added. -/
@[sl_loop] def loopInv_k0_t3 (c : Dev nD) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole) (k0_t2 : Fin k0_t2_loop.trips) (init : FVec F S128x512 .f32)
    (X3 : BufTy.Contents (Elt F) arg3.view.ty) (X9 : BufTy.Contents (Elt F) arg9.view.ty) (X10 : BufTy.Contents (Elt F) arg10.view.ty) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 k0_t2 init where
  inv := fun k acc => iprop((arg3.view.loc (c : Thread nD τ) ↦[arg3.view.set]{fullShare} X3) ∗ (∃ f, (arg8.view.loc (c : Thread nD τ) ↦[arg8.view.set]{fullShare} f)) ∗ (arg9.view.loc (c : Thread nD τ) ↦[arg9.view.set]{fullShare} X9) ∗ (arg10.view.loc (c : Thread nD τ) ↦[arg10.view.set]{fullShare} X10)
    ∗ ⌜acc = accOf (fun y => arg10.view.read (Elt F) X10 y) (fun y => arg3.view.read (Elt F) X3 y) (fun y => arg9.view.read (Elt F) X9 y) ⟨k0_t2.val, Nat.lt_of_lt_of_le k0_t2.isLt (by decide)⟩ init k⌝)
  step k acc := by
    have hk : k.val < 14 := Nat.lt_of_lt_of_le k.isLt (by decide)
    have hk2 : k0_t2.val < 2 := Nat.lt_of_lt_of_le k0_t2.isLt (by decide)
    unfold k0_t3_body
    iintro ⟨H3, ⟨%f8, H8⟩, H9, H10, %hacc⟩
    sl_exec
    sl_step
    isplitl [H3]; · iexact H3
    isplitl [H8]; · iexists _; iexact H8
    isplitl [H9]; · iexact H9
    isplitl [H10]; · iexact H10
    ipureintro
    set X8 := arg8.view.writes (Elt F) f8 _ with hX8
    have hst : ∀ (q : Fin 4) (row : Fin 96) (l : Fin 128), arg8.view.read (Elt F) X8 (ix4 ⟨k.val, hk⟩ q row l)
        = stg (fun y => arg3.view.read (Elt F) X3 y) ⟨k0_t2.val, hk2⟩ ⟨k.val, hk⟩ q row l :=
      fun q row l => staged arg8 f8 _ (fun y => arg3.view.read (Elt F) X3 y) ⟨k0_t2.val, hk2⟩ k ⟨k.val, hk⟩ rfl
        (fun n j => ld3 arg3 X3 _ _ ⟨k0_t2.val, hk2⟩ ⟨k.val, hk⟩ (k0_off4_eq k0_t2 k) n j) q row l
    clear_value X8
    have s1 := st_k0_t4_succ (F := F) 𝒱₀ c none i arg1 harg1 arg2 harg2 arg3 harg3 arg4 harg4 arg5 harg5 arg6 harg6 arg7 harg7 arg8 harg8 arg9 harg9 arg10 harg10 arg11 harg11 k (loopInv_k0_t3.sl.arg13 k) X8 X9 X10 acc ⟨1, by decide⟩
    have s0 := st_k0_t4_succ (F := F) 𝒱₀ c none i arg1 harg1 arg2 harg2 arg3 harg3 arg4 harg4 arg5 harg5 arg6 harg6 arg7 harg7 arg8 harg8 arg9 harg9 arg10 harg10 arg11 harg11 k (loopInv_k0_t3.sl.arg13 k) X8 X9 X10 acc ⟨0, by decide⟩
    refine Eq.trans s1 ?_
    rw [trip_t4_unit 𝒱₀ c none i arg1 harg1 arg2 harg2 arg3 harg3 arg4 harg4 arg5 harg5 arg6 harg6 arg7 harg7 arg8 harg8 arg9 harg9 arg10 harg10 arg11 harg11 k _ X8 X9 X10 ⟨1, by decide⟩ _ (fun y => arg3.view.read (Elt F) X3 y) ⟨k0_t2.val, hk2⟩ ⟨k.val, hk⟩ 1 rfl rfl hst]
    refine Eq.trans (congrArg (unitOf _ _ _ _ _ _) s0) ?_
    rw [trip_t4_unit 𝒱₀ c none i arg1 harg1 arg2 harg2 arg3 harg3 arg4 harg4 arg5 harg5 arg6 harg6 arg7 harg7 arg8 harg8 arg9 harg9 arg10 harg10 arg11 harg11 k _ X8 X9 X10 ⟨0, by decide⟩ _ (fun y => arg3.view.read (Elt F) X3 y) ⟨k0_t2.val, hk2⟩ ⟨k.val, hk⟩ 0 rfl rfl hst,
      st_k0_t4_zero, hacc]
    exact (accOf_succ _ _ _ _ _ _ hk).symm

end Cert.Proof.KernelIdealV

end
-- ==== Proof.PI.Loop2.lean ====
/- The loop over the two halves of a weight block, with the values. -/
module

public import proofs.«01_k».proof.Proof.PI.Loop3
public import proofs.«01_k».proof.Proof.Gen.KernelIdeal.Loops
public import Idealize.ShloMosaic.Lib.Pointwise
public import Idealize.ShloMosaic.Lib.Pointwise.IndexBridge

@[expose] public section

noncomputable section

namespace Cert.Proof.KernelIdealV

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- A slice of scale words spread for byte `b`: the operations of the kernel. -/
def spA (b : ℕ) (v : IVec S8x128 32) : IVec S8x128 32 :=
  match b with
  | 0 => ori (andi (shli v (broadcast S8x128 23#32)) (broadcast S8x128 2139095040#32)) (shrui (andi (shli v (broadcast S8x128 23#32)) (broadcast S8x128 2139095040#32)) (broadcast S8x128 16#32))
  | 1 => ori (andi (shli v (broadcast S8x128 15#32)) (broadcast S8x128 2139095040#32)) (shrui (andi (shli v (broadcast S8x128 15#32)) (broadcast S8x128 2139095040#32)) (broadcast S8x128 16#32))
  | 2 => ori (andi (shli v (broadcast S8x128 7#32)) (broadcast S8x128 2139095040#32)) (shrui (andi (shli v (broadcast S8x128 7#32)) (broadcast S8x128 2139095040#32)) (broadcast S8x128 16#32))
  | _ => ori (andi (shrui v (broadcast S8x128 1#32)) (broadcast S8x128 2139095040#32)) (shrui (andi (shrui v (broadcast S8x128 1#32)) (broadcast S8x128 2139095040#32)) (broadcast S8x128 16#32))

theorem spA_at (b : ℕ) (hb : b < 4) (v : IVec S8x128 32) (j : Fin 8) (l : Fin 128) : spA b v (ix2 j l) = spread b (v (ix2 j l)) := by
  match b, hb with
  | 0, _ => rfl
  | 1, _ => rfl
  | 2, _ => rfl
  | 3, _ => rfl

theorem inbS (q o : ℕ) (hq : q < 4) (ho : o < 392) : ∀ a, S1x8x128.size a = 0 ∨ (![q, o, 0] : Fin 3 → ℕ) a + (![1, 8, 1] : Fin 3 → ℕ) a * (S1x8x128.size a - 1) < S4x448x128.size a
  | ⟨0, _⟩ => Or.inr (by show q + 1 * (1 - 1) < 4; omega)
  | ⟨1, _⟩ => Or.inr (by show o + 8 * (8 - 1) < 448; omega)
  | ⟨2, _⟩ => Or.inr (by show 0 + 1 * (128 - 1) < 128; omega)

theorem slcS (g q : ℕ) (hg : g < 7) (hq : q < 4) : S56x512.Slices ![8 * g, 128 * q] S8x128 := by
  have h : ∀ (g : Fin 7) (q : Fin 4), S56x512.Slices ![8 * g.val, 128 * q.val] S8x128 := by decide
  exact h ⟨g, hg⟩ ⟨q, hq⟩

/-- The piece the `n`-th store of a half block leaves in the scale buffer. -/
def scPiece (v9 : IVec S56x512 32) (n : ℕ) (hn : n < 224) : View.Piece (Elt F) S4x448x128 .i32 :=
  ⟨⟨(⟨![n / 56, 64 * (n / 8 % 7) + 2 * (n / 2 % 4) + n % 2, 0], S1x8x128.size, ![1, 8, 1], inbS _ _ (by omega) (by omega)⟩ : LoadRect S4x448x128), spos_1_8_1⟩,
    shapeCast S1x8x128 (spA (n / 2 % 4) (extractStridedSlice S8x128 ![8 * (n / 8 % 7), 128 * (n / 56)] v9 (slcS _ _ (by omega) (by omega)))) shapeCasts_S8x128_S1x8x128⟩

/-- The pieces of the first `n` stores, newest first. -/
def scPieces (v9 : IVec S56x512 32) : (n : ℕ) → n ≤ 224 → List (View.Piece (Elt F) S4x448x128 .i32)
  | 0, _ => []
  | n + 1, h => scPiece v9 n h :: scPieces v9 n (Nat.le_of_succ_le h)

theorem mem_scPieces (v9 : IVec S56x512 32) (p : View.Piece (Elt F) S4x448x128 .i32) :
    ∀ (n : ℕ) (h : n ≤ 224), p ∈ scPieces v9 n h ↔ ∃ (m : ℕ) (hm : m < n), p = scPiece v9 m (Nat.lt_of_lt_of_le hm h)
  | 0, _ => by
      constructor
      · intro hp; exact absurd hp List.not_mem_nil
      · rintro ⟨m, hm, _⟩; exact absurd hm (Nat.not_lt_zero _)
  | n + 1, h => by
      unfold scPieces
      rw [List.mem_cons, mem_scPieces v9 p n]
      constructor
      · rintro (rfl | ⟨m, hm, rfl⟩)
        · exact ⟨n, Nat.lt_succ_self _, rfl⟩
        · exact ⟨m, Nat.lt_succ_of_lt hm, rfl⟩
      · rintro ⟨m, hm, rfl⟩
        rcases Nat.lt_succ_iff_lt_or_eq.1 hm with h' | rfl
        · exact Or.inr ⟨m, h', rfl⟩
        · exact Or.inl rfl

theorem pay140_at (v : Vec F S512x224 .i8) (p : Fin 56) (n : Fin 512) :
    k0_pay140 v (ix2 p n) = word4 (v (ix2 n ⟨4 * p.val, by omega⟩)) (v (ix2 n ⟨4 * p.val + 1, by omega⟩))
      (v (ix2 n ⟨4 * p.val + 2, by omega⟩)) (v (ix2 n ⟨4 * p.val + 3, by omega⟩)) := by
  pointwise [k0_pay140]
  refine (bitcast_8_32_ix2 _ _ p _ (fun b => ⟨4 * p.val + b.val, by omega⟩) (fun b => rfl)).trans ?_
  pointwise

theorem shc_at (v : IVec S8x128 32) (j : Fin 8) (l : Fin 128) : shapeCast S1x8x128 v shapeCasts_S8x128_S1x8x128 (ix3 0 j l) = v (ix2 j l) := by
  pointwise

theorem slc_at (v : IVec S56x512 32) (g q : ℕ) (hg : g < 7) (hq : q < 4) (h : S56x512.Slices ![8 * g, 128 * q] S8x128) (j : Fin 8) (l : Fin 128) :
    extractStridedSlice S8x128 ![8 * g, 128 * q] v h (ix2 j l) = v (ix2 ⟨8 * g + j.val, by omega⟩ ⟨128 * q + l.val, by omega⟩) := by
  pointwise

theorem scVal (v : Vec F S512x224 .i8) (s : S1024x224.Idx → BitVec 8) (r0 : Fin 2)
    (hv : ∀ (n : Fin 512) (j : Fin 224), v (ix2 n j) = s (ix2 ⟨512 * r0.val + n.val, by omega⟩ j)) (n : ℕ) (hn : n < 224) (h) (j : Fin 8) (l : Fin 128) :
    shapeCast S1x8x128 (spA (n / 2 % 4) (extractStridedSlice S8x128 ![8 * (n / 8 % 7), 128 * (n / 56)] (k0_pay140 v) h)) shapeCasts_S8x128_S1x8x128 (ix3 0 j l)
      = sclA s r0 (ix3 ⟨n / 56, by omega⟩ ⟨64 * (n / 8 % 7) + 2 * (n / 2 % 4) + n % 2 + 8 * j.val, by omega⟩ l) := by
  rw [shc_at, spA_at _ (by omega), slc_at _ _ _ (by omega) (by omega), pay140_at]
  simp only [hv]
  unfold sclA
  rw [ix3_eq_valueIdx]
  show _ = scl s r0 ⟨n / 56, by omega⟩ ⟨64 * (n / 8 % 7) + 2 * (n / 2 % 4) + n % 2 + 8 * j.val, by omega⟩ l
  unfold scl
  have e1 : (64 * (n / 8 % 7) + 2 * (n / 2 % 4) + n % 2 + 8 * j.val) % 8 / 2 = n / 2 % 4 := by omega
  have e2 : (64 * (n / 8 % 7) + 2 * (n / 2 % 4) + n % 2 + 8 * j.val) / 8 = 8 * (n / 8 % 7) + j.val := by omega
  simp only [e1, e2]

/-- Every store leaves the scale words of the block. -/
theorem scPiece_agree (v : Vec F S512x224 .i8) (s : S1024x224.Idx → BitVec 8) (r0 : Fin 2)
    (hv : ∀ (n : Fin 512) (j : Fin 224), v (ix2 n j) = s (ix2 ⟨512 * r0.val + n.val, by omega⟩ j)) (n : ℕ) (hn : n < 224)
    (x : (scPiece (F := F) (k0_pay140 v) n hn).1.shape.Idx) :
    (scPiece (F := F) (k0_pay140 v) n hn).2 x = sclA s r0 ((scPiece (F := F) (k0_pay140 v) n hn).1.emb x) := by
  have h0 : (x 0).val < 1 := (x 0).isLt
  have h1 : (x 1).val < 8 := (x 1).isLt
  have e : x = ix3 (n0 := 1) (n1 := 8) (n2 := 128) 0 (x 1) (x 2) := ix3_of (n0 := 1) (n1 := 8) (n2 := 128) x 0 (x 1) (x 2) (by show (x 0).val = 0; omega) rfl rfl
  have ee : (scPiece (F := F) (k0_pay140 v) n hn).1.emb x
      = ix3 (n0 := 4) (n1 := 448) (n2 := 128) ⟨n / 56, by omega⟩ ⟨64 * (n / 8 % 7) + 2 * (n / 2 % 4) + n % 2 + 8 * (x 1).val, by omega⟩ (x 2) :=
    ix3_of _ _ _ _ (by show n / 56 + 1 * (x 0).val = n / 56; omega) rfl (by show 0 + 1 * (x 2).val = (x 2).val; omega)
  exact (congrArg (scPiece (F := F) (k0_pay140 v) n hn).2 e).trans ((scVal v s r0 hv n hn _ (x 1) (x 2)).trans (congrArg (sclA s r0) ee.symm))

theorem ld4 (arg4 : Memref sig .tc .vmem S1024x224 .i8) (X4 : BufTy.Contents (Elt F) arg4.view.ty) (off : Fin 2 → ℕ) (inb)
    (r0 : Fin 2) (hoff : off = ![512 * r0.val, 0]) (n : Fin 512) (j : Fin 224) :
    arg4.view.readAt (Elt F) (Rect.unit (s := S1024x224) off S512x224.size inb).toLoadRect X4 (ix2 n j)
      = arg4.view.read (Elt F) X4 (ix2 ⟨512 * r0.val + n.val, by omega⟩ j) := by
  subst hoff
  rw [View.readAt_apply]
  refine congrArg (arg4.view.read (Elt F) X4) (ix2_of _ _ _ ?_ ?_)
  · rw [ix2_eq_valueIdx]; show 512 * r0.val + 1 * n.val = 512 * r0.val + n.val; omega
  · rw [ix2_eq_valueIdx]; show 0 + 1 * j.val = j.val; omega

/-- After the stores of a half block the scale buffer holds its scale words. -/
theorem scaled (arg9 : Memref sig .tc .vmem S4x448x128 .i32) (f9 : BufTy.Contents (Elt F) arg9.view.ty) (v : Vec F S512x224 .i8)
    (s : S1024x224.Idx → BitVec 8) (r0 : Fin 2)
    (hv : ∀ (n : Fin 512) (j : Fin 224), v (ix2 n j) = s (ix2 ⟨512 * r0.val + n.val, by omega⟩ j)) :
    (fun y => arg9.view.read (Elt F) (arg9.view.writes (Elt F) f9 (scPieces (k0_pay140 v) 224 (le_refl _))) y) = sclA s r0 := by
  funext y
  refine View.read_writes_apply_of_pieces arg9.view f9 (sclA s r0) _ ?_ _ ?_
  · intro p hp x
    obtain ⟨m, hm, rfl⟩ := (mem_scPieces _ _ _ _).1 hp
    exact scPiece_agree v s r0 hv m hm x
  · have h0 : (y 0).val < 4 := (y 0).isLt
    have h1 : (y 1).val < 448 := (y 1).isLt
    have hm : 56 * (y 0).val + 8 * ((y 1).val / 64) + (y 1).val % 8 < 224 := by omega
    refine ⟨_, (mem_scPieces _ _ _ _).2 ⟨_, hm, rfl⟩, ?_⟩
    show y ∈ LoadRect.set _
    rw [LoadRect.mem_set]
    intro a
    match a with
    | ⟨0, _⟩ => exact ⟨0, by show 0 < 1; omega, by show (y 0).val = (56 * (y 0).val + 8 * ((y 1).val / 64) + (y 1).val % 8) / 56 + 1 * 0; omega⟩
    | ⟨1, _⟩ => exact ⟨(y 1).val / 8 % 8, by show (y 1).val / 8 % 8 < 8; omega, by
        show (y 1).val = 64 * ((56 * (y 0).val + 8 * ((y 1).val / 64) + (y 1).val % 8) / 8 % 7) + 2 * ((56 * (y 0).val + 8 * ((y 1).val / 64) + (y 1).val % 8) / 2 % 4)
          + (56 * (y 0).val + 8 * ((y 1).val / 64) + (y 1).val % 8) % 2 + 8 * ((y 1).val / 8 % 8)
        omega⟩
    | ⟨2, _⟩ => exact ⟨(y 2).val, (y 2).isLt, by show (y 2).val = 0 + 1 * (y 2).val; omega⟩

/-- One half stored. -/
theorem stored5 (arg5 : Memref sig .tc .vmem S128x1024 .bf16) (f5 : BufTy.Contents (Elt F) arg5.view.ty) (xp : S128x7168.Idx → F .bf16)
    (w : S1024x5376.Idx → BitVec 8) (s : S1024x224.Idx → BitVec 8) (k : Fin k0_t2_loop.trips) (hk : k.val < 2) (inb)
    (hf : ∀ y : S128x1024.Idx, (y 1).val < 512 * k.val → arg5.view.read (Elt F) f5 y = yOf xp w s y) (y : S128x1024.Idx) (hy : (y 1).val < 512 * (k.val + 1)) :
    arg5.view.read (Elt F) (arg5.view.writes (Elt F) f5 [⟨Rect.unit (s := S128x1024) (k0_off18 k) S128x512.size inb,
      k0_pay14 (accOf xp w (sclA s ⟨k.val, hk⟩) ⟨k.val, hk⟩ k0_pay7 14)⟩]) y = yOf xp w s y := by
  have hmem : y ∈ (Rect.unit (s := S128x1024) (k0_off18 k) S128x512.size inb).set ↔ 512 * k.val ≤ (y 1).val := by
    rw [Rect.mem_set_unit, k0_off18_eq]
    constructor
    · intro h; exact (h 1).1
    · intro h a
      match a with
      | ⟨0, _⟩ => exact ⟨Nat.zero_le _, by have : (y 0).val < 128 := (y 0).isLt; show (y 0).val < 0 + 128; omega⟩
      | ⟨1, _⟩ => exact ⟨h, by show (y 1).val < 512 * k.val + 512; omega⟩
  by_cases h : 512 * k.val ≤ (y 1).val
  · refine View.read_writes_apply_of_pieces arg5.view f5 (yOf xp w s) _ ?_ y ⟨_, List.mem_cons_self, hmem.2 h⟩
    intro p hp x
    rw [List.mem_singleton] at hp
    subst hp
    show k0_pay14 _ x = yOf xp w s ((Rect.unit (s := S128x1024) (k0_off18 k) S128x512.size inb).emb x)
    have hx : (x 1).val < 512 := (x 1).isLt
    have e1 : (((Rect.unit (s := S128x1024) (k0_off18 k) S128x512.size inb).emb x) 1).val = 512 * k.val + (x 1).val := by
      have ho : k0_off18 k 1 = 512 * k.val := congrFun (k0_off18_eq k) 1
      show k0_off18 k 1 + 1 * (x 1).val = _
      omega
    have e0 : (((Rect.unit (s := S128x1024) (k0_off18 k) S128x512.size inb).emb x) 0).val = (x 0).val := by
      have ho : k0_off18 k 0 = 0 := congrFun (k0_off18_eq k) 0
      show k0_off18 k 0 + 1 * (x 0).val = _
      omega
    generalize (Rect.unit (s := S128x1024) (k0_off18 k) S128x512.size inb).emb x = z at e1 e0
    unfold yOf
    have ed : (⟨(z 1).val / 512, by have : (z 1).val < 1024 := (z 1).isLt; omega⟩ : Fin 2) = ⟨k.val, hk⟩ := Fin.ext (by show (z 1).val / 512 = k.val; omega)
    rw [ed]
    refine congrArg (k0_pay14 _) (ix2_of x _ _ e0.symm ?_)
    show (x 1).val = (z 1).val % 512
    omega
  · rw [View.read_writes_apply_of_forall_not_mem]
    · exact hf y (by omega)
    · intro p hp
      rw [List.mem_singleton] at hp
      subst hp
      rw [hmem]; exact h

/-- The loop over the two halves of a weight block: the columns stored so far are the block's. -/
@[sl_loop] def loopInv_k0_t2 (c : Dev nD) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (X3 : BufTy.Contents (Elt F) arg3.view.ty) (X4 : BufTy.Contents (Elt F) arg4.view.ty) (X10 : BufTy.Contents (Elt F) arg10.view.ty) :
    LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 where
  inv := fun k _ => iprop((arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f) ∗ ⌜∀ y : S128x1024.Idx, (y 1).val < 512 * k → arg5.view.read (Elt F) f y = yOf (fun y => arg10.view.read (Elt F) X10 y) (fun y => arg3.view.read (Elt F) X3 y) (fun y => arg4.view.read (Elt F) X4 y) y⌝)
    ∗ (∃ f, (arg8.view.loc (c : Thread nD τ) ↦[arg8.view.set]{fullShare} f)) ∗ (∃ f, (arg9.view.loc (c : Thread nD τ) ↦[arg9.view.set]{fullShare} f)) ∗ (arg10.view.loc (c : Thread nD τ) ↦[arg10.view.set]{fullShare} X10))
  step k acc := by
    have hk : k.val < 2 := Nat.lt_of_lt_of_le k.isLt (by decide)
    unfold k0_t2_body
    iintro ⟨H3, H4, ⟨%f5, H5, %hf5⟩, ⟨%f8, H8⟩, ⟨%f9, H9⟩, H10⟩
    sl_exec
    sl_step
    isplitl [H3]; · iexact H3
    isplitl [H4]; · iexact H4
    isplitl [H5]
    · iexists _
      isplitl [H5]; · iexact H5
      ipureintro
      rw [show (arg9.view.writes (Elt F) f9 _) = arg9.view.writes (Elt F) f9 (scPieces (k0_pay140 (arg4.view.readAt (Elt F) (Rect.unit (s := S1024x224) (k0_off3 k) S512x224.size (k0_off3_inb k)).toLoadRect X4)) 224 (le_refl _))
        from congrArg (arg9.view.writes (Elt F) f9) (by sl_kernel_rfl)]
      rw [scaled arg9 f9 _ (fun y => arg4.view.read (Elt F) X4 y) ⟨k.val, hk⟩ (fun n j => ld4 arg4 X4 _ _ ⟨k.val, hk⟩ (k0_off3_eq k) n j)]
      exact stored5 arg5 f5 _ _ _ k hk _ hf5
    isplitl [H8]; · iexists _; iexact H8
    isplitl [H9]; · iexists _; iexact H9
    iexact H10

end Cert.Proof.KernelIdealV

end
-- ==== Proof.PI.Loop1.lean ====
/- What the quantiser loop leaves: the codes, the inputs in the order of the products, the exponents. -/
module

public import proofs.«01_k».proof.Proof.PI.Vals
public import proofs.«01_k».proof.Proof.Gen.KernelIdeal.Loops
public import Idealize.ShloMosaic.Lib.Pointwise
public import Idealize.ShloMosaic.Lib.Pointwise.IndexBridge

@[expose] public section

noncomputable section

namespace Cert.Proof.KernelIdealV

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The `k`-th 256 columns. -/
def xb (x : S128x7168.Idx → F .bf16) (k : Fin 28) : Vec F S128x256 .bf16 :=
  fun z => x (ix2 (z 0) ⟨256 * k.val + (z 1).val, by have : (z 1).val < 256 := (z 1).isLt; omega⟩)

/-- The codes of the inputs. -/
def codesOf (x : S128x7168.Idx → F .bf16) : S128x7168.Idx → BitVec 8 :=
  fun y => qCodes (xb x ⟨(y 1).val / 256, by have : (y 1).val < 7168 := (y 1).isLt; omega⟩) (ix2 (y 0) ⟨(y 1).val % 256, by omega⟩)

/-- The quantised inputs in the order the products take them. -/
def xpOf (x : S128x7168.Idx → F .bf16) (p : S256x256.Idx → F .bf16) : S128x7168.Idx → F .bf16 :=
  fun y => qXp (xb x ⟨(y 1).val / 256, by have : (y 1).val < 7168 := (y 1).isLt; omega⟩) p (ix2 (y 0) ⟨(y 1).val % 256, by omega⟩)

/-- The biased exponents, one row of blocks each; the rows past the last block are not written. -/
def expOf (x : S128x7168.Idx → F .bf16) (j : Fin 224) (l : Fin 128) : BitVec 32 :=
  qExp (xb x ⟨j.val / 8, by omega⟩) (ix2 ⟨j.val % 8, by omega⟩ l)

/-- The scales of the inputs. -/
def scalesOf (x : S128x7168.Idx → F .bf16) : S128x224.Idx → BitVec 8 := fun y => (expOf x (y 1) (y 0)).setWidth 8

theorem pay3_at (v : Vec F S256x128 .i32) (l : Fin 128) (j : Fin 224) : k0_pay3 v (ix2 l j) = (v (ix2 ⟨j.val, by omega⟩ l)).setWidth 8 := by
  pointwise [k0_pay3]

def expA (x : S128x7168.Idx → F .bf16) : S256x128.Idx → BitVec 32 :=
  fun y => if h : (y 0).val < 224 then expOf x ⟨(y 0).val, h⟩ (y 1) else 0

theorem ld1 (arg1 : Memref sig .tc .vmem S128x7168 .bf16) (X1 : BufTy.Contents (Elt F) arg1.view.ty) (off : Fin 2 → ℕ) (inb)
    (k : Fin 28) (hoff : off = ![0, 256 * k.val]) :
    arg1.view.readAt (Elt F) (Rect.unit (s := S128x7168) off S128x256.size inb).toLoadRect X1 = xb (fun y => arg1.view.read (Elt F) X1 y) k := by
  subst hoff
  funext y
  rw [View.readAt_apply]
  unfold xb
  exact congrArg (arg1.view.read (Elt F) X1) (ix2_of _ _ _ (by show 0 + 1 * (y 0).val = (y 0).val; omega)
    (by show 256 * k.val + 1 * (y 1).val = 256 * k.val + (y 1).val; omega))

theorem ld2 (arg2 : Memref sig .tc .vmem S256x256 .bf16) (X2 : BufTy.Contents (Elt F) arg2.view.ty) (inb) :
    arg2.view.readAt (Elt F) (Rect.unit (s := S256x256) ![0, 0] S256x256.size inb).toLoadRect X2 = (fun y => arg2.view.read (Elt F) X2 y) := by
  funext y
  rw [View.readAt_apply]
  refine congrArg (arg2.view.read (Elt F) X2) (funext fun a => ?_)
  match a with
  | ⟨0, _⟩ => exact Fin.ext (by show 0 + 1 * (y 0).val = (y 0).val; omega)
  | ⟨1, _⟩ => exact Fin.ext (by show 0 + 1 * (y 1).val = (y 1).val; omega)

theorem emb_cols (off : Fin 2 → ℕ) (inb) (k : Fin 28) (hoff : off = ![0, 256 * k.val]) (x : S128x256.Idx) :
    (((Rect.unit (s := S128x7168) off S128x256.size inb).emb x) 0).val = (x 0).val ∧ (((Rect.unit (s := S128x7168) off S128x256.size inb).emb x) 1).val = 256 * k.val + (x 1).val := by
  subst hoff
  exact ⟨by show 0 + 1 * (x 0).val = (x 0).val; omega, by show 256 * k.val + 1 * (x 1).val = 256 * k.val + (x 1).val; omega⟩

theorem mem_cols (off : Fin 2 → ℕ) (inb) (k : ℕ) (hoff : off = ![0, 256 * k]) (y : S128x7168.Idx) (h : (y 1).val / 256 = k) :
    y ∈ (Rect.unit (s := S128x7168) off S128x256.size inb).set := by
  subst hoff
  rw [Rect.mem_set_unit]
  intro a
  match a with
  | ⟨0, _⟩ => exact ⟨Nat.zero_le _, by have : (y 0).val < 128 := (y 0).isLt; show (y 0).val < 0 + 128; omega⟩
  | ⟨1, _⟩ => exact ⟨by show 256 * k ≤ (y 1).val; omega, by show (y 1).val < 256 * k + 256; omega⟩

theorem codes_agree (x : S128x7168.Idx → F .bf16) (k : Fin 28) (off : Fin 2 → ℕ) (inb) (hoff : off = ![0, 256 * k.val]) (z : S128x256.Idx) :
    qCodes (xb x k) z = codesOf x ((Rect.unit (s := S128x7168) off S128x256.size inb).emb z) := by
  obtain ⟨h0, h1⟩ := emb_cols off inb k hoff z
  generalize (Rect.unit (s := S128x7168) off S128x256.size inb).emb z = y at h0 h1
  have hz : (z 1).val < 256 := (z 1).isLt
  unfold codesOf
  have ek : (⟨(y 1).val / 256, by have : (y 1).val < 7168 := (y 1).isLt; omega⟩ : Fin 28) = k := Fin.ext (by show (y 1).val / 256 = k.val; omega)
  rw [ek]
  exact congrArg (qCodes (xb x k)) (ix2_of z _ _ h0.symm (by show (z 1).val = (y 1).val % 256; omega))

theorem xp_agree (x : S128x7168.Idx → F .bf16) (p : S256x256.Idx → F .bf16) (k : Fin 28) (off : Fin 2 → ℕ) (inb) (hoff : off = ![0, 256 * k.val]) (z : S128x256.Idx) :
    qXp (xb x k) p z = xpOf x p ((Rect.unit (s := S128x7168) off S128x256.size inb).emb z) := by
  obtain ⟨h0, h1⟩ := emb_cols off inb k hoff z
  generalize (Rect.unit (s := S128x7168) off S128x256.size inb).emb z = y at h0 h1
  have hz : (z 1).val < 256 := (z 1).isLt
  unfold xpOf
  have ek : (⟨(y 1).val / 256, by have : (y 1).val < 7168 := (y 1).isLt; omega⟩ : Fin 28) = k := Fin.ext (by show (y 1).val / 256 = k.val; omega)
  rw [ek]
  exact congrArg (qXp (xb x k) p) (ix2_of z _ _ h0.symm (by show (z 1).val = (y 1).val % 256; omega))

theorem exp_agree (x : S128x7168.Idx → F .bf16) (k : Fin 28) (off : Fin 2 → ℕ) (inb) (hoff : off = ![8 * k.val, 0]) (z : S8x128.Idx) :
    qExp (xb x k) z = expA x ((Rect.unit (s := S256x128) off S8x128.size inb).emb z) := by
  subst hoff
  have h0 : (((Rect.unit (s := S256x128) ![8 * k.val, 0] S8x128.size inb).emb z) 0).val = 8 * k.val + (z 0).val := by
    show 8 * k.val + 1 * (z 0).val = 8 * k.val + (z 0).val; omega
  have h1 : (((Rect.unit (s := S256x128) ![8 * k.val, 0] S8x128.size inb).emb z) 1).val = (z 1).val := by
    show 0 + 1 * (z 1).val = (z 1).val; omega
  generalize (Rect.unit (s := S256x128) ![8 * k.val, 0] S8x128.size inb).emb z = y at h0 h1
  have hz : (z 0).val < 8 := (z 0).isLt
  unfold expA
  rw [dif_pos (by omega)]
  unfold expOf
  have ek : (⟨(y 0).val / 8, by omega⟩ : Fin 28) = k := Fin.ext (by show (y 0).val / 8 = k.val; omega)
  rw [ek]
  exact congrArg (qExp (xb x k)) (ix2_of z _ _ (by show (z 0).val = (y 0).val % 8; omega) h1.symm)

theorem mem_rows (off : Fin 2 → ℕ) (inb) (k : ℕ) (hoff : off = ![8 * k, 0]) (y : S256x128.Idx) (h : (y 0).val / 8 = k) :
    y ∈ (Rect.unit (s := S256x128) off S8x128.size inb).set := by
  subst hoff
  rw [Rect.mem_set_unit]
  intro a
  match a with
  | ⟨0, _⟩ => exact ⟨by show 8 * k ≤ (y 0).val; omega, by show (y 0).val < 8 * k + 8; omega⟩
  | ⟨1, _⟩ => exact ⟨Nat.zero_le _, by have : (y 1).val < 128 := (y 1).isLt; show (y 1).val < 0 + 128; omega⟩

/-- The pieces of the quantiser's trips hold the codes, the inputs and the exponents, and cover what the trips have passed. -/
theorem pieces_t1 (𝒱 : Variants) (c : Dev nD) (bd : Option 𝒱.V) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (h1 : k0_cond1 i = 1#1) (X1 : BufTy.Contents (Elt F) arg1.view.ty) (X2 : BufTy.Contents (Elt F) arg2.view.ty) (x : S128x7168.Idx → F .bf16) (p : S256x256.Idx → F .bf16)
    (hx : (fun y => arg1.view.read (Elt F) X1 y) = x) (hp : (fun y => arg2.view.read (Elt F) X2 y) = p) :
    ∀ k : ℕ, k ≤ 28 →
      ((∀ q ∈ (pb_k0_t1 (F := F) 𝒱 c bd i arg1 harg1 arg2 harg2 arg3 harg3 arg4 harg4 arg5 harg5 arg6 harg6 arg7 harg7 arg8 harg8 arg9 harg9 arg10 harg10 arg11 harg11 h1 X1 X2 k).1, ∀ z : q.1.shape.Idx, q.2 z = codesOf x (q.1.emb z)) ∧ (∀ y : S128x7168.Idx, (y 1).val < 256 * k → ∃ q ∈ (pb_k0_t1 (F := F) 𝒱 c bd i arg1 harg1 arg2 harg2 arg3 harg3 arg4 harg4 arg5 harg5 arg6 harg6 arg7 harg7 arg8 harg8 arg9 harg9 arg10 harg10 arg11 harg11 h1 X1 X2 k).1, y ∈ q.1.set))
      ∧ ((∀ q ∈ (pb_k0_t1 (F := F) 𝒱 c bd i arg1 harg1 arg2 harg2 arg3 harg3 arg4 harg4 arg5 harg5 arg6 harg6 arg7 harg7 arg8 harg8 arg9 harg9 arg10 harg10 arg11 harg11 h1 X1 X2 k).2.1, ∀ z : q.1.shape.Idx, q.2 z = xpOf x p (q.1.emb z)) ∧ (∀ y : S128x7168.Idx, (y 1).val < 256 * k → ∃ q ∈ (pb_k0_t1 (F := F) 𝒱 c bd i arg1 harg1 arg2 harg2 arg3 harg3 arg4 harg4 arg5 harg5 arg6 harg6 arg7 harg7 arg8 harg8 arg9 harg9 arg10 harg10 arg11 harg11 h1 X1 X2 k).2.1, y ∈ q.1.set))
      ∧ ((∀ q ∈ (pb_k0_t1 (F := F) 𝒱 c bd i arg1 harg1 arg2 harg2 arg3 harg3 arg4 harg4 arg5 harg5 arg6 harg6 arg7 harg7 arg8 harg8 arg9 harg9 arg10 harg10 arg11 harg11 h1 X1 X2 k).2.2, ∀ z : q.1.shape.Idx, q.2 z = expA x (q.1.emb z)) ∧ (∀ y : S256x128.Idx, (y 0).val < 8 * k → ∃ q ∈ (pb_k0_t1 (F := F) 𝒱 c bd i arg1 harg1 arg2 harg2 arg3 harg3 arg4 harg4 arg5 harg5 arg6 harg6 arg7 harg7 arg8 harg8 arg9 harg9 arg10 harg10 arg11 harg11 h1 X1 X2 k).2.2, y ∈ q.1.set)) := by
  intro k
  induction k with
  | zero =>
    intro _
    refine ⟨⟨?_, ?_⟩, ⟨?_, ?_⟩, ?_, ?_⟩
    · intro q hq; exact absurd hq List.not_mem_nil
    · intro y hy; omega
    · intro q hq; exact absurd hq List.not_mem_nil
    · intro y hy; omega
    · intro q hq; exact absurd hq List.not_mem_nil
    · intro y hy; omega
  | succ k ih =>
    intro hk
    obtain ⟨⟨a1, b1⟩, ⟨a2, b2⟩, a3, b3⟩ := ih (by omega)
    have hk' : k < k0_t1_loop.trips := Nat.lt_of_lt_of_le hk (by decide)
    have hs := pb_k0_t1_succ (F := F) 𝒱 c bd i arg1 harg1 arg2 harg2 arg3 harg3 arg4 harg4 arg5 harg5 arg6 harg6 arg7 harg7 arg8 harg8 arg9 harg9 arg10 harg10 arg11 harg11 h1 X1 X2 ⟨k, hk'⟩
    rw [trip_t1_eq, ld1 arg1 X1 _ _ ⟨k, by omega⟩ (k0_off1_eq ⟨k, hk'⟩), ld2, hx, hp] at hs
    rw [show pb_k0_t1 (F := F) 𝒱 c bd i arg1 harg1 arg2 harg2 arg3 harg3 arg4 harg4 arg5 harg5 arg6 harg6 arg7 harg7 arg8 harg8 arg9 harg9 arg10 harg10 arg11 harg11 h1 X1 X2 (k + 1) = _ from hs]
    refine ⟨⟨?_, ?_⟩, ⟨?_, ?_⟩, ?_, ?_⟩
    · intro q hq
      rcases List.mem_append.1 hq with h | h
      · rw [List.mem_singleton] at h; subst h
        exact codes_agree x ⟨k, by omega⟩ _ (k0_off1_inb i ⟨k, hk'⟩ h1) (k0_off1_eq ⟨k, hk'⟩)
      · exact a1 q h
    · intro y hy
      by_cases h : (y 1).val < 256 * k
      · obtain ⟨q, hq, hm⟩ := b1 y h; exact ⟨q, List.mem_append_right _ hq, hm⟩
      · exact ⟨_, List.mem_append_left _ List.mem_cons_self, mem_cols _ (k0_off1_inb i ⟨k, hk'⟩ h1) k (k0_off1_eq ⟨k, hk'⟩) y (by omega)⟩
    · intro q hq
      rcases List.mem_append.1 hq with h | h
      · rw [List.mem_singleton] at h; subst h
        exact xp_agree x p ⟨k, by omega⟩ _ (k0_off1_inb i ⟨k, hk'⟩ h1) (k0_off1_eq ⟨k, hk'⟩)
      · exact a2 q h
    · intro y hy
      by_cases h : (y 1).val < 256 * k
      · obtain ⟨q, hq, hm⟩ := b2 y h; exact ⟨q, List.mem_append_right _ hq, hm⟩
      · exact ⟨_, List.mem_append_left _ List.mem_cons_self, mem_cols _ (k0_off1_inb i ⟨k, hk'⟩ h1) k (k0_off1_eq ⟨k, hk'⟩) y (by omega)⟩
    · intro q hq
      rcases List.mem_append.1 hq with h | h
      · rw [List.mem_singleton] at h; subst h
        exact exp_agree x ⟨k, by omega⟩ _ (k0_off2_inb i ⟨k, hk'⟩ h1) (k0_off2_eq ⟨k, hk'⟩)
      · exact a3 q h
    · intro y hy
      by_cases h : (y 0).val < 8 * k
      · obtain ⟨q, hq, hm⟩ := b3 y h; exact ⟨q, List.mem_append_right _ hq, hm⟩
      · exact ⟨_, List.mem_append_left _ List.mem_cons_self, mem_rows _ (k0_off2_inb i ⟨k, hk'⟩ h1) k (k0_off2_eq ⟨k, hk'⟩) y (by omega)⟩

theorem read_codes (𝒱 : Variants) (c : Dev nD) (bd : Option 𝒱.V) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (h1 : k0_cond1 i = 1#1) (X1 : BufTy.Contents (Elt F) arg1.view.ty) (X2 : BufTy.Contents (Elt F) arg2.view.ty) (x : S128x7168.Idx → F .bf16) (p : S256x256.Idx → F .bf16)
    (hx : (fun y => arg1.view.read (Elt F) X1 y) = x) (hp : (fun y => arg2.view.read (Elt F) X2 y) = p) (f : BufTy.Contents (Elt F) arg6.view.ty) :
    (fun y => arg6.view.read (Elt F) (arg6.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 h1 X1 X2 28).1) y) = codesOf x := by
  funext y
  have h := (pieces_t1 𝒱 c bd i arg1 harg1 arg2 harg2 arg3 harg3 arg4 harg4 arg5 harg5 arg6 harg6 arg7 harg7 arg8 harg8 arg9 harg9 arg10 harg10 arg11 harg11 h1 X1 X2 x p hx hp 28 (le_refl _)).1
  exact View.read_writes_apply_of_pieces arg6.view f _ _ h.1 y (h.2 y (y 1).isLt)

theorem read_xp (𝒱 : Variants) (c : Dev nD) (bd : Option 𝒱.V) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (h1 : k0_cond1 i = 1#1) (X1 : BufTy.Contents (Elt F) arg1.view.ty) (X2 : BufTy.Contents (Elt F) arg2.view.ty) (x : S128x7168.Idx → F .bf16) (p : S256x256.Idx → F .bf16)
    (hx : (fun y => arg1.view.read (Elt F) X1 y) = x) (hp : (fun y => arg2.view.read (Elt F) X2 y) = p) (f : BufTy.Contents (Elt F) arg10.view.ty) :
    (fun y => arg10.view.read (Elt F) (arg10.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 h1 X1 X2 28).2.1) y) = xpOf x p := by
  funext y
  have h := (pieces_t1 𝒱 c bd i arg1 harg1 arg2 harg2 arg3 harg3 arg4 harg4 arg5 harg5 arg6 harg6 arg7 harg7 arg8 harg8 arg9 harg9 arg10 harg10 arg11 harg11 h1 X1 X2 x p hx hp 28 (le_refl _)).2.1
  exact View.read_writes_apply_of_pieces arg10.view f _ _ h.1 y (h.2 y (y 1).isLt)

theorem read_exp (𝒱 : Variants) (c : Dev nD) (bd : Option 𝒱.V) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (h1 : k0_cond1 i = 1#1) (X1 : BufTy.Contents (Elt F) arg1.view.ty) (X2 : BufTy.Contents (Elt F) arg2.view.ty) (x : S128x7168.Idx → F .bf16) (p : S256x256.Idx → F .bf16)
    (hx : (fun y => arg1.view.read (Elt F) X1 y) = x) (hp : (fun y => arg2.view.read (Elt F) X2 y) = p) (f : BufTy.Contents (Elt F) arg11.view.ty) (j : Fin 224) (l : Fin 128) :
    arg11.view.read (Elt F) (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 h1 X1 X2 28).2.2) (ix2 ⟨j.val, by omega⟩ l) = expOf x j l := by
  have h := (pieces_t1 𝒱 c bd i arg1 harg1 arg2 harg2 arg3 harg3 arg4 harg4 arg5 harg5 arg6 harg6 arg7 harg7 arg8 harg8 arg9 harg9 arg10 harg10 arg11 harg11 h1 X1 X2 x p hx hp 28 (le_refl _)).2.2
  refine (View.read_writes_apply_of_pieces arg11.view f _ _ h.1 _ (h.2 _ ?_)).trans ?_
  · rw [ix2_eq_valueIdx]; show j.val < 8 * 28; omega
  · unfold expA
    rw [ix2_eq_valueIdx]
    exact dif_pos j.isLt

theorem ld11 (arg11 : Memref sig .tc .vmem S256x128 .i32) (X : BufTy.Contents (Elt F) arg11.view.ty) (inb) :
    arg11.view.readAt (Elt F) (Rect.unit (s := S256x128) ![0, 0] S256x128.size inb).toLoadRect X = (fun y => arg11.view.read (Elt F) X y) := by
  funext y
  rw [View.readAt_apply]
  refine congrArg (arg11.view.read (Elt F) X) (funext fun a => ?_)
  match a with
  | ⟨0, _⟩ => exact Fin.ext (by show 0 + 1 * (y 0).val = (y 0).val; omega)
  | ⟨1, _⟩ => exact Fin.ext (by show 0 + 1 * (y 1).val = (y 1).val; omega)

/-- The scales stored from the exponents. -/
theorem read_scales (arg7 : Memref sig .tc .vmem S128x224 .i8) (f7 : BufTy.Contents (Elt F) arg7.view.ty) (inb) (v : Vec F S256x128 .i32) (x : S128x7168.Idx → F .bf16)
    (hv : ∀ (j : Fin 224) (l : Fin 128), v (ix2 ⟨j.val, by omega⟩ l) = expOf x j l) :
    (fun y => arg7.view.read (Elt F) (arg7.view.writes (Elt F) f7 [⟨Rect.unit (s := S128x224) ![0, 0] S128x224.size inb, k0_pay3 v⟩]) y) = scalesOf x := by
  funext y
  refine View.read_writes_apply_of_pieces arg7.view f7 (scalesOf x) _ ?_ y ⟨_, List.mem_cons_self, ?_⟩
  · intro q hq z
    rw [List.mem_singleton] at hq
    subst hq
    have ee : (Rect.unit (s := S128x224) ![0, 0] S128x224.size inb).emb z = z := funext fun a => by
      match a with
      | ⟨0, _⟩ => exact Fin.ext (by show 0 + 1 * (z 0).val = (z 0).val; omega)
      | ⟨1, _⟩ => exact Fin.ext (by show 0 + 1 * (z 1).val = (z 1).val; omega)
    have ez : z = ix2 (z 0) (z 1) := ix2_of z _ _ rfl rfl
    show k0_pay3 v z = scalesOf x ((Rect.unit (s := S128x224) ![0, 0] S128x224.size inb).emb z)
    rw [ee]
    refine (congrArg (k0_pay3 v) ez).trans ((pay3_at v (z 0) (z 1)).trans ?_)
    exact congrArg (BitVec.setWidth 8) (hv (z 1) (z 0))
  · rw [Rect.mem_set_unit]
    intro a
    match a with
    | ⟨0, _⟩ => exact ⟨Nat.zero_le _, by have : (y 0).val < 128 := (y 0).isLt; show (y 0).val < 0 + 128; omega⟩
    | ⟨1, _⟩ => exact ⟨Nat.zero_le _, by have : (y 1).val < 224 := (y 1).isLt; show (y 1).val < 0 + 224; omega⟩

end Cert.Proof.KernelIdealV

end
-- ==== Proof.PI.Body.lean ====
/- The body's run, with what it leaves. -/
module

public import proofs.«01_k».proof.Proof.PI.Loop2
public import proofs.«01_k».proof.Proof.PI.Loop1
public import proofs.«01_k».proof.Proof.Gen.KernelIdeal.Loops
public import Idealize.ShloMosaic.Lib.Pointwise
public import Idealize.ShloMosaic.Lib.Pointwise.IndexBridge

@[expose] public section

noncomputable section

namespace Cert.Proof.KernelIdealV

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- At a point past the first: the block of the first result from the inputs kept in the scratch. -/
theorem kernelRest (c : Dev nD) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (x1 : S128x7168.Idx → Elt F .bf16) (x2 : S256x256.Idx → Elt F .bf16) (x3 : S1024x5376.Idx → Elt F .i8) (x4 : S1024x224.Idx → Elt F .i8) (xp : S128x7168.Idx → Elt F .bf16) (d6 : S128x7168.Idx → Elt F .i8) (d7 : S128x224.Idx → Elt F .i8) (hc : ¬ k0_cond1 i = 1#1) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare d6 ∗ owns (c : Thread nD τ) arg7 fullShare d7 ∗ (∃ d, owns (c : Thread nD τ) arg8 fullShare d) ∗ (∃ d, owns (c : Thread nD τ) arg9 fullShare d) ∗ owns (c : Thread nD τ) arg10 fullShare xp ∗ (∃ d, owns (c : Thread nD τ) arg11 fullShare d) ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (yOf xp x3 x4) ∗ owns (c : Thread nD τ) arg6 fullShare d6 ∗ owns (c : Thread nD τ) arg7 fullShare d7 ∗ (∃ d, owns (c : Thread nD τ) arg8 fullShare d) ∗ (∃ d, owns (c : Thread nD τ) arg9 fullShare d) ∗ owns (c : Thread nD τ) arg10 fullShare xp ∗ (∃ d, owns (c : Thread nD τ) arg11 fullShare d)) -∗ K ⟨⟩))
      ⊢ wp frame (wpE (defs₀ (F := F)) 𝒱₀ c none) Set.univ
          (cc0_mxfp6_linear i arg1 harg1 arg2 harg2 arg3 harg3 arg4 harg4 arg5 harg5 arg6 harg6 arg7 harg7 arg8 harg8 arg9 harg9 arg10 harg10 arg11 harg11) K := by
  simp only [cc0_mxfp6_linear_eq_skeleton]; unfold cc0_mxfp6_linear_skel
  unfold owns
  iintro ⟨⟨%f1, %e1, H1⟩, ⟨%f2, %e2, H2⟩, ⟨%f3, %e3, H3⟩, ⟨%f4, %e4, H4⟩, ⟨%d5, %f5, -, H5⟩, ⟨%f6, %e6, H6⟩, ⟨%f7, %e7, H7⟩, ⟨%d8, %f8, -, H8⟩, ⟨%d9, %f9, -, H9⟩, ⟨%f10, %e10, H10⟩, ⟨%d11, %f11, -, H11⟩, Hk⟩
  sl_exec (disch := sl_exact hc)
  sl_step
  iapply Hk
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists _; isplitr; swap; · iexact H5
    ipureintro
    subst e3 e4 e10
    funext y
    exact hL3 y (y 1).isLt
  isplitl [H6]
  · iexists f6; isplitr; swap; · iexact H6
    ipureintro; exact e6
  isplitl [H7]
  · iexists f7; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists f10; isplitr; swap; · iexact H10
    ipureintro; exact e10
  iexists _, _; isplitr; swap; · iexact H11
  ipureintro; rfl

/-- At the first point: the quantiser, then the block of the first result. -/
theorem kernelFirst (c : Dev nD) (i : grid0.Coords) (arg1 : Memref sig .tc .vmem S128x7168 .bf16) (harg1 : arg1.IsWhole) (arg2 : Memref sig .tc .vmem S256x256 .bf16) (harg2 : arg2.IsWhole) (arg3 : Memref sig .tc .vmem S1024x5376 .i8) (harg3 : arg3.IsWhole) (arg4 : Memref sig .tc .vmem S1024x224 .i8) (harg4 : arg4.IsWhole) (arg5 : Memref sig .tc .vmem S128x1024 .bf16) (harg5 : arg5.IsWhole) (arg6 : Memref sig .tc .vmem S128x7168 .i8) (harg6 : arg6.IsWhole) (arg7 : Memref sig .tc .vmem S128x224 .i8) (harg7 : arg7.IsWhole) (arg8 : Memref sig .tc .vmem S14x4x96x128 .i32) (harg8 : arg8.IsWhole) (arg9 : Memref sig .tc .vmem S4x448x128 .i32) (harg9 : arg9.IsWhole) (arg10 : Memref sig .tc .vmem S128x7168 .bf16) (harg10 : arg10.IsWhole) (arg11 : Memref sig .tc .vmem S256x128 .i32) (harg11 : arg11.IsWhole)
    (x1 : S128x7168.Idx → Elt F .bf16) (x2 : S256x256.Idx → Elt F .bf16) (x3 : S1024x5376.Idx → Elt F .i8) (x4 : S1024x224.Idx → Elt F .i8) (hc : k0_cond1 i = 1#1) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (yOf (xpOf x1 x2) x3 x4) ∗ owns (c : Thread nD τ) arg6 fullShare (codesOf x1) ∗ owns (c : Thread nD τ) arg7 fullShare (scalesOf x1) ∗ (∃ d, owns (c : Thread nD τ) arg8 fullShare d) ∗ (∃ d, owns (c : Thread nD τ) arg9 fullShare d) ∗ owns (c : Thread nD τ) arg10 fullShare (xpOf x1 x2) ∗ (∃ d, owns (c : Thread nD τ) arg11 fullShare d)) -∗ K ⟨⟩))
      ⊢ wp frame (wpE (defs₀ (F := F)) 𝒱₀ c none) Set.univ
          (cc0_mxfp6_linear i arg1 harg1 arg2 harg2 arg3 harg3 arg4 harg4 arg5 harg5 arg6 harg6 arg7 harg7 arg8 harg8 arg9 harg9 arg10 harg10 arg11 harg11) K := by
  simp only [cc0_mxfp6_linear_eq_skeleton]; unfold cc0_mxfp6_linear_skel
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec (disch := sl_exact hc)
  sl_step
  iapply Hk
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists _; isplitr; swap; · iexact H5
    ipureintro
    subst e3 e4
    funext y
    refine (hL11 y (y 1).isLt).trans ?_
    have hx : (fun y => arg10.view.read (Elt F) (arg10.view.writes (Elt F) f10 (pb_k0_t1 𝒱₀ c none i arg1 harg1 arg2 harg2 arg3 harg3 arg4 harg4 arg5 harg5 arg6 harg6 arg7 harg7 arg8 harg8 arg9 harg9 arg10 harg10 arg11 harg11 hc f1 f2 (Scf.trips k0_t1_loop.lb k0_t1_loop.ub k0_t1_loop.st)).2.1) y) = xpOf x1 x2 :=
      read_xp 𝒱₀ c none i arg1 harg1 arg2 harg2 arg3 harg3 arg4 harg4 arg5 harg5 arg6 harg6 arg7 harg7 arg8 harg8 arg9 harg9 arg10 harg10 arg11 harg11 hc f1 f2 x1 x2 e1 e2 _
    rw [hx]
  isplitl [H6]
  · iexists _; isplitr; swap; · iexact H6
    ipureintro
    exact read_codes 𝒱₀ c none i arg1 harg1 arg2 harg2 arg3 harg3 arg4 harg4 arg5 harg5 arg6 harg6 arg7 harg7 arg8 harg8 arg9 harg9 arg10 harg10 arg11 harg11 hc f1 f2 x1 x2 e1 e2 _
  isplitl [H7]
  · iexists _; isplitr; swap; · iexact H7
    ipureintro
    sl_unfold_run_names
    refine read_scales arg7 _ _ _ x1 fun j l => ?_
    rw [View.readAt_apply]
    refine Eq.trans (congrArg _ (funext fun a => ?_)) (read_exp 𝒱₀ c none i arg1 harg1 arg2 harg2 arg3 harg3 arg4 harg4 arg5 harg5 arg6 harg6 arg7 harg7 arg8 harg8 arg9 harg9 arg10 harg10 arg11 harg11 hc f1 f2 x1 x2 e1 e2 _ j l)
    apply Fin.ext
    rw [LoadRect.idx_apply]
    match a with
    | ⟨0, _⟩ => show 0 + 1 * _ = _; omega
    | ⟨1, _⟩ => show 0 + 1 * _ = _; omega
  isplitl [H8]
  · iexists _, _; isplitr; swap; · iexact H8
    ipureintro; rfl
  isplitl [H9]
  · iexists _, _; isplitr; swap; · iexact H9
    ipureintro; rfl
  isplitl [H10]
  · iexists _; isplitr; swap; · iexact H10
    ipureintro
    exact read_xp 𝒱₀ c none i arg1 harg1 arg2 harg2 arg3 harg3 arg4 harg4 arg5 harg5 arg6 harg6 arg7 harg7 arg8 harg8 arg9 harg9 arg10 harg10 arg11 harg11 hc f1 f2 x1 x2 e1 e2 _
  iexists _, _; isplitr; swap; · iexact H11
  ipureintro; rfl

end Cert.Proof.KernelIdealV

end
-- ==== Proof.PI.Run.lean ====
/- The kernel's run with exact contents: what every window holds after every point, and the arrays that the run leaves. -/
module

public import proofs.«01_k».proof.Proof.PI.Body
public import proofs.«01_k».proof.Proof.Gen.KernelIdeal.Frame
public import Idealize.ShloMosaic.Lib.Pipeline.FrameSuffix
public import Idealize.ShloMosaic.Lib.Pipeline.ValueKit
public import Idealize.ShloMosaic.Lib.Pipeline.TableIdle

@[expose] public section

noncomputable section

namespace Cert.Proof.KernelIdealV

open Cert.Proof.KernelIdeal Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UU nD τ) ℕ

variable (m : (ℓ : Loc nD τ sig) → Buf (Elt F) ℓ) (ρ : Dev nD → PrngReg)

/-- The four inputs of the region as its windows find them. -/
def XX (c : Dev nD) : S128x7168.Idx → Elt F .bf16 := V m c main_v0
def PP (c : Dev nD) : S256x256.Idx → Elt F .bf16 := V m c main_cst
def WB (c : Dev nD) (t : Fin cfg0.N) : S1024x5376.Idx → Elt F .i8 := iblk m c 2 t
def SB (c : Dev nD) (t : Fin cfg0.N) : S1024x224.Idx → Elt F .i8 := iblk m c 3 t

theorem idx : ∀ t : Fin cfg0.N, win0_0.index t = ![0, 0] ∧ win0_1.index t = ![0, 0] ∧ win0_2.index t = ![t.val, 0] ∧ win0_3.index t = ![t.val, 0]
    ∧ win0_4.index t = ![0, t.val] ∧ win0_5.index t = ![0, 0] ∧ win0_6.index t = ![0, 0] :=
  (by decide +kernel : ∀ t : Fin grid0.N, _)

theorem iblk_0 (c : Dev nD) (t : Fin cfg0.N) : iblk m c 0 t = XX m c := by
  unfold XX
  blk_ext! [iblk, V, idx t]

theorem iblk_1 (c : Dev nD) (t : Fin cfg0.N) : iblk m c 1 t = PP m c := by
  unfold PP
  blk_ext! [iblk, V, idx t]

theorem cond_iff : ∀ t : Fin cfg0.N, k0_cond1 (grid0.coords t) = 1#1 ↔ t.val = 0 :=
  (by decide +kernel : ∀ t : Fin grid0.N, _)

/-- The scratch between points: past the first, the third buffer holds the quantised inputs. -/
def ΦV (c : Dev nD) (n : ℕ) : sProp 𝕄 :=
  if n = 0 then Pipeline.ΦA spec0 c else
  iprop((((∃ f : Buf (Elt F) ((c : Thread nD τ).loc cc0_scratch0), ((c : Thread nD τ).loc cc0_scratch0) ↦{fullShare} f)) ∗ ((∃ f : Buf (Elt F) ((c : Thread nD τ).loc cc0_scratch1), ((c : Thread nD τ).loc cc0_scratch1) ↦{fullShare} f)) ∗ owns (c : Thread nD τ) (Memref.whole cc0_scratch2) fullShare (xpOf (XX m c) (PP m c)) ∗ ((∃ f : Buf (Elt F) ((c : Thread nD τ).loc cc0_scratch3), ((c : Thread nD τ).loc cc0_scratch3) ↦{fullShare} f))) ∗ ∃ r, prngReg c r)

/-- The proof data: each input window keeps its block, each output holds what the body stores. -/
def dats (_ : Fin 1) (c : Dev nD) : Dat τ (Elt F) Unit ℕ (UU nD τ) ℕ cfg0 c where
  A w := V m c (Pipeline.arrRef spec0 w)
  after w t := match w with
    | 0 => iblk m c 0 t
    | 1 => iblk m c 1 t
    | 2 => iblk m c 2 t
    | 3 => iblk m c 3 t
    | 4 => yOf (xpOf (XX m c) (PP m c)) (WB m c t) (SB m c t)
    | 5 => codesOf (XX m c)
    | 6 => scalesOf (XX m c)
  Φ t := ΦV m c t.val
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = yOf (xpOf (XX m c) (PP m c)) (WB m c t) (SB m c t) := by dsimp only [dats]
theorem after_5 (c : Dev nD) (t : Fin cfg0.N) : (dats m 0 c).after 5 t = codesOf (XX m c) := by dsimp only [dats]
theorem after_6 (c : Dev nD) (t : Fin cfg0.N) : (dats m 0 c).after 6 t = scalesOf (XX m c) := by dsimp only [dats]

theorem A_eq (c : Dev nD) (w : Fin cfg0.W) : (dats m 0 c).A w = V m c (Pipeline.arrRef spec0 w) := by dsimp only [dats]

theorem Φ_eq (c : Dev nD) (t : Fin (cfg0.N + 1)) : (dats m 0 c).Φ t = ΦV m c t.val := by dsimp only [dats]

theorem fresh_5 : ∀ t : Fin cfg0.N, t.val ≠ 0 → cfg0.fresh 5 t.val = false := by decide +kernel
theorem fresh_6 : ∀ t : Fin cfg0.N, t.val ≠ 0 → cfg0.fresh 6 t.val = false := by decide +kernel
theorem idle_lt : ∀ t : Fin cfg0.N, ∀ w : Fin 7, w.val < 5 → idle0 w (grid0.coords t) = false := (by decide +kernel : ∀ t : Fin grid0.N, _)
theorem idle_zero : ∀ t : Fin cfg0.N, t.val = 0 → ∀ w : Fin 7, idle0 w (grid0.coords t) = false := (by decide +kernel : ∀ t : Fin grid0.N, _)
theorem idle_pos : ∀ t : Fin cfg0.N, t.val ≠ 0 → idle0 5 (grid0.coords t) = true ∧ idle0 6 (grid0.coords t) = true := (by decide +kernel : ∀ t : Fin grid0.N, _)
theorem flush_56 : ∀ t : Fin cfg0.N, (cfg0.win 5).flush t = (cfg0.win 6).flush t := by decide +kernel

theorem before_5 (c : Dev nD) (t : Fin cfg0.N) (ht : t.val ≠ 0) (d) : (dats m 0 c).before 5 t d = codesOf (XX m c) := by
  have h := (dats m 0 c).before_out_traj 5 rfl (fun _ _ => rfl) (fun _ _ _ _ => (after_5 m c _).trans (after_5 m c _).symm) t.val t rfl d
  rw [fresh_5 t ht, if_neg Bool.false_ne_true, after_5] at h
  exact h

theorem before_6 (c : Dev nD) (t : Fin cfg0.N) (ht : t.val ≠ 0) (d) : (dats m 0 c).before 6 t d = scalesOf (XX m c) := by
  have h := (dats m 0 c).before_out_traj 6 rfl (fun _ _ => rfl) (fun _ _ _ _ => (after_6 m c _).trans (after_6 m c _).symm) t.val t rfl d
  rw [fresh_6 t ht, if_neg Bool.false_ne_true, after_6] at h
  exact h

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).owesAt () t.succ = (dats m 0 c).owesAt () t.castSucc from rfl, Φ_eq, Φ_eq,
    after_0, after_1, after_2, after_3, after_4, after_5, after_6]
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c), iblk_0, iblk_1]
  rw [show t.succ.val = t.val + 1 from rfl, show t.castSucc.val = t.val from rfl]
  unfold ΦV
  rw [if_neg (Nat.succ_ne_zero _)]
  by_cases ht : t.val = 0
  · rw [if_pos ht]
    unfold Pipeline.ΦA
    rw [scopedRest0_eq]
    simp only [← owns_whole]
    iintro ⟨⟨⟨S0, S1, S2, S3⟩, Hg⟩, HO, ⟨%d0, H0⟩, ⟨%d1, H1⟩, ⟨%d2, H2⟩, ⟨%d3, H3⟩, ⟨%d4, H4⟩, ⟨%d5, H5⟩, ⟨%d6, H6⟩⟩
    iapply (kernelFirst c (grid0.coords t) _ _ _ _ _ _ _ _ _ _ _ _ _ _ _ _ _ _ _ _ _ _ (XX m c) (PP m c) (WB m c t) (SB m c t) ((cond_iff t).mpr ht) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [S0]; · iexact S0
    isplitl [S1]; · iexact S1
    isplitl [S2]; · iexact S2
    isplitl [S3]; · iexact S3
    iintro ⟨H0, H1, H2, H3, H4, H5, H6, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  · rw [if_neg ht]
    simp only [before_5 m c t ht, before_6 m c t ht]
    simp only [← owns_whole]
    iintro ⟨⟨⟨S0, S1, S2, S3⟩, Hg⟩, HO, ⟨%d0, H0⟩, ⟨%d1, H1⟩, ⟨%d2, H2⟩, ⟨%d3, H3⟩, ⟨%d4, H4⟩, ⟨%d5, H5⟩, ⟨%d6, H6⟩⟩
    iapply (kernelRest c (grid0.coords t) _ _ _ _ _ _ _ _ _ _ _ _ _ _ _ _ _ _ _ _ _ _ (XX m c) (PP m c) (WB m c t) (SB m c t) (xpOf (XX m c) (PP m c)) (codesOf (XX m c)) (scalesOf (XX m c)) (fun e => ht ((cond_iff t).mp e)) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [S0]; · iexact S0
    isplitl [S1]; · iexact S1
    isplitl [S2]; · iexact S2
    isplitl [S3]; · iexact S3
    iintro ⟨H0, H1, H2, H3, H4, H5, H6, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ := fun t => by
  rw [bigSep_W0, bigSep_W0, defs₀_row]
  refine triple_restated (sound_body m c t) rfl .rfl fun _ => ?_
  unfold bodyPost
  iintro ⟨H, HO, H0, H1, H2, H3, H4, H5, H6⟩
  isplitl [H]; · iexact H
  isplitl [HO]; · iexact HO
  isplitl [H0]; · iexact H0
  isplitl [H1]; · iexact H1
  isplitl [H2]; · iexact H2
  isplitl [H3]; · iexact H3
  isplitl [H4]; · iexact H4
  dsimp only
  isplitl [H5]
  · split
    · rename_i h
      have ht : t.val ≠ 0 := fun e => absurd (h.symm.trans (idle_zero t e 5)) (by decide)
      split
      · simp only [before_5 m c t ht]
        rw [after_5]
        iexists (codesOf (XX m c)); iexact H5
      · iexact H5
    · iexact H5
  · split
    · rename_i h
      have ht : t.val ≠ 0 := fun e => absurd (h.symm.trans (idle_zero t e 6)) (by decide)
      split
      · simp only [before_6 m c t ht]
        rw [after_6]
        iexists (scalesOf (XX m c)); iexact H6
      · iexact H6
    · iexact H6

theorem Φ_in (c : Dev nD) : Pipeline.ΦA spec0 c ⊢ (dats m 0 c).Φ 0 := by
  rw [Φ_eq]; unfold ΦV; rw [if_pos (show (0 : Fin (cfg0.N + 1)).val = 0 from rfl)]

theorem Φ_out (c : Dev nD) : (dats m 0 c).Φ (Fin.last cfg0.N) ⊢ Pipeline.ΦA spec0 c := by
  rw [Φ_eq]; unfold ΦV; rw [if_neg (show (Fin.last cfg0.N).val ≠ 0 from by show (18 : ℕ) ≠ 0; decide)]
  unfold Pipeline.ΦA
  rw [scopedRest0_eq]
  rw [owns_whole]
  iintro ⟨⟨S0, S1, S2, S3⟩, Hg⟩
  isplitl [S0 S1 S2 S3]
  · isplitl [S0]; · iexact S0
    isplitl [S1]; · iexact S1
    isplitl [S2]; · iexists _; iexact S2
    iexact S3
  iexact Hg

set_option backward.isDefEq.respectTransparency.types false in
theorem run_main :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hin := Φ_in m) (hout := Φ_out m)

/-- The last point. -/
def tZ : Fin cfg0.N := Fin.last 17

theorem arr_5 (c : Dev nD) : (dats m 0 c).arrAt 5 cfg0.N = codesOf (XX m c) := by
  refine (dats m 0 c).arrAt_eq_of_after_last 5 tZ (by decide +kernel) _ fun j => ?_
  blk_simp
  rw [after_5]

theorem arr_6 (c : Dev nD) : (dats m 0 c).arrAt 6 cfg0.N = scalesOf (XX m c) := by
  refine (dats m 0 c).arrAt_eq_of_after_last 6 tZ (by decide +kernel) _ fun j => ?_
  blk_simp
  rw [after_6]

/-- Block `n` of 1024 rows. -/
def blkW {α : Type} (W : S18432x5376.Idx → α) (n : Fin 18) : S1024x5376.Idx → α :=
  fun y => W (ix2 (⟨1024 * n.val + (y 0).val, by have h := (y 0).isLt; change _ < 1024 at h; omega⟩ : Fin 18432) (y 1 : Fin 5376))
def blkS {α : Type} (S : S18432x224.Idx → α) (n : Fin 18) : S1024x224.Idx → α :=
  fun y => S (ix2 (⟨1024 * n.val + (y 0).val, by have h := (y 0).isLt; change _ < 1024 at h; omega⟩ : Fin 18432) (y 1 : Fin 224))

/-- The first result, from the quantised inputs, the weights and their scales. -/
def yAt (xp : S128x7168.Idx → F .bf16) (W : S18432x5376.Idx → BitVec 8) (S : S18432x224.Idx → BitVec 8) (s : Fin 128) (n : Fin 18432) : F .bf16 :=
  yOf xp (blkW W ⟨n.val / 1024, by omega⟩) (blkS S ⟨n.val / 1024, by omega⟩) (ix2 s (⟨n.val % 1024, by omega⟩ : Fin 1024))

theorem yAt_blk (xp : S128x7168.Idx → F .bf16) (W : S18432x5376.Idx → BitVec 8) (S : S18432x224.Idx → BitVec 8) (t : Fin 18) (y : S128x1024.Idx)
    (s : Fin 128) (n : Fin 18432) (h0 : s.val = (y 0).val) (h1 : n.val = 1024 * t.val + (y 1).val) :
    yOf xp (blkW W t) (blkS S t) y = yAt xp W S s n := by
  unfold yAt
  have hy1 : (y 1).val < 1024 := (y 1).isLt
  have e1 : (⟨n.val / 1024, by omega⟩ : Fin 18) = t := Fin.ext (by simp only; omega)
  rw [e1, ← ix2_of y s (⟨n.val % 1024, by omega⟩ : Fin 1024) h0.symm (by simp only; omega)]

theorem WB_eq (c : Dev nD) (t : Fin cfg0.N) : WB m c t = blkW (V m c main_arg1) ⟨t.val, t.isLt⟩ := by
  unfold WB blkW
  funext y
  blk_ext [iblk, idx t]

theorem SB_eq (c : Dev nD) (t : Fin cfg0.N) : SB m c t = blkS (V m c main_arg2) ⟨t.val, t.isLt⟩ := by
  unfold SB blkS
  funext y
  blk_ext [iblk, idx t]

theorem arr_4 (c : Dev nD) : (dats m 0 c).arrAt 4 cfg0.N = fun j : S128x18432.Idx => yAt (xpOf (XX m c) (PP m c)) (V m c main_arg1) (V m c main_arg2) (j 0) (j 1) := by
  refine (dats m 0 c).arrAt_eq_of_covers 4 _ (by decide +kernel) fun t hf y => ?_
  blk_simp
  rw [after_4, WB_eq, SB_eq]
  have hw : win0_4.index t = ![0, t.val] := (idx t).2.2.2.2.1
  have hy0 : (y 0).val < 128 := (y 0).isLt
  have hy1 : (y 1).val < 1024 := (y 1).isLt
  have h0 : ((win0_4.blk t).view.emb y 0 : ℕ) = (y 0).val := by blk_simp [hw]
  have h1 : ((win0_4.blk t).view.emb y 1 : ℕ) = 1024 * t.val + (y 1).val := by blk_simp [hw]; omega
  exact yAt_blk _ _ _ ⟨t.val, t.isLt⟩ y _ _ h0 h1

end Cert.Proof.KernelIdealV

end
-- ==== Proof.PI.Sum.lean ====
/- The first result of the kernel at one index: one sum over the units and their rows. -/
module

public import proofs.«01_k».proof.Proof.PI.Weight
public import proofs.«01_k».proof.Proof.PI.Run

@[expose] public section

set_option maxRecDepth 16384

noncomputable section

namespace Cert.Proof.KernelIdealV

open Cert.Proof.KernelIdeal Cert.KernelIdeal Cert.KernelIdeal.Gen
open Idealize.ShloMosaic Idealize.ShloMosaic.TcCoe Idealize.ShloMosaic.Tactic

/-- What unit `u` adds. -/
def uSum (xp : S128x7168.Idx → EReal) (w : S1024x5376.Idx → BitVec 8) (s : S1024x224.Idx → BitVec 8) (i : Fin 128) (n : Fin 1024) (u : Fin 28) : EReal :=
  ∑ k : Fin 256, xp (ix2 i ⟨256 * u.val + k.val, by omega⟩) * wk w s n u k

def uN (xp : S128x7168.Idx → EReal) (w : S1024x5376.Idx → BitVec 8) (s : S1024x224.Idx → BitVec 8) (i : Fin 128) (n : Fin 1024) (u : ℕ) : EReal :=
  if h : u < 28 then uSum xp w s i n ⟨u, h⟩ else 0

theorem acc_at (xp : S128x7168.Idx → EReal) (w : S1024x5376.Idx → BitVec 8) (s : S1024x224.Idx → BitVec 8) (r0 : Fin 2) (i : Fin 128) (l : Fin 512) (n : ℕ)
    (hn : n ≤ 14) : accOf (F := Ideal) xp w (sclA s r0) r0 k0_pay7 n (ix2 i l)
      = ∑ u ∈ Finset.range (2 * n), uN xp w s i ⟨512 * r0.val + l.val, by omega⟩ u := by
  induction n with
  | zero =>
    show Ideal.ofBits FTy.f32 0x00000000#32 = _
    rw [zero_f32]
    rfl
  | succ n ih =>
    rw [accOf_succ _ _ _ _ _ n (by omega), show 2 * (n + 1) = 2 * n + 1 + 1 by ring, Finset.sum_range_succ, Finset.sum_range_succ]
    have h0 := unit_at xp w s r0 ⟨n, by omega⟩ 0 _ i l _ (ih (by omega))
    have h1 := unit_at xp w s r0 ⟨n, by omega⟩ 1 _ i l _ h0
    rw [h1]
    congr 1
    · congr 1
      unfold uN
      rw [dif_pos (by omega)]
      rfl
    · unfold uN
      rw [dif_pos (by omega)]
      rfl

/-- The weight at output `n`, row `k` of unit `u`. -/
def wg (W : S18432x5376.Idx → BitVec 8) (S : S18432x224.Idx → BitVec 8) (n : Fin 18432) (u : Fin 28) (k : Fin 256) : EReal :=
  Ideal.ofBits .fp8e5m2 (dec8 (fbyte ⟨k.val / 32 % 4, by omega⟩ (W (ix2 n ⟨3 * (gOf u k).val, by omega⟩))
      (W (ix2 n ⟨3 * (gOf u k).val + 1, by omega⟩)) (W (ix2 n ⟨3 * (gOf u k).val + 2, by omega⟩))))
    * Ideal.ofBits .bf16 ((S (ix2 n ⟨(gOf u k).val / 8, by omega⟩)).setWidth 16 <<< 7)

theorem wk_blk (W : S18432x5376.Idx → BitVec 8) (S : S18432x224.Idx → BitVec 8) (n : Fin 18432) (u : Fin 28) (k : Fin 256) (l : Fin 1024) (hl : l.val = n.val % 1024) :
    wk (blkW W ⟨n.val / 1024, by omega⟩) (blkS S ⟨n.val / 1024, by omega⟩) l u k = wg W S n u k := by
  have hw : ∀ d : Fin 5376, blkW W ⟨n.val / 1024, by omega⟩ (ix2 l d) = W (ix2 n d) := fun d =>
    congrArg W (ix2_of _ _ _ (by show 1024 * (n.val / 1024) + l.val = n.val; omega) rfl)
  have hs : ∀ d : Fin 224, blkS S ⟨n.val / 1024, by omega⟩ (ix2 l d) = S (ix2 n d) := fun d =>
    congrArg S (ix2_of _ _ _ (by show 1024 * (n.val / 1024) + l.val = n.val; omega) rfl)
  unfold wk wg
  rw [hw, hw, hw, hs]

theorem yAt_eq (xp : S128x7168.Idx → EReal) (W : S18432x5376.Idx → BitVec 8) (S : S18432x224.Idx → BitVec 8) (s : Fin 128) (n : Fin 18432) :
    yAt (F := Ideal) xp W S s n
      = (∑ u : Fin 28, ∑ k : Fin 256, xp (ix2 s ⟨256 * u.val + k.val, by omega⟩) * wg W S n u k) * Ideal.ofBits .f32 0x45800000#32 := by
  unfold yAt yOf
  have h := acc_at xp (blkW W ⟨n.val / 1024, by omega⟩) (blkS S ⟨n.val / 1024, by omega⟩) ⟨n.val % 1024 / 512, by omega⟩ s ⟨n.val % 1024 % 512, by omega⟩ 14 le_rfl
  refine (show _ = accOf (F := Ideal) xp (blkW W ⟨n.val / 1024, by omega⟩) (sclA (blkS S ⟨n.val / 1024, by omega⟩) ⟨n.val % 1024 / 512, by omega⟩)
    ⟨n.val % 1024 / 512, by omega⟩ k0_pay7 14 (ix2 s ⟨n.val % 1024 % 512, by omega⟩) * Ideal.ofBits .f32 0x45800000#32 from rfl).trans ?_
  rw [h]
  congr 1
  rw [show 2 * 14 = 28 from rfl, Finset.sum_range]
  refine Finset.sum_congr rfl fun u _ => ?_
  unfold uN
  rw [dif_pos u.isLt]
  unfold uSum
  refine Finset.sum_congr rfl fun k _ => ?_
  congr 1
  exact wk_blk W S n u k _ (by show 512 * (n.val % 1024 / 512) + n.val % 1024 % 512 = n.val % 1024; omega)

end Cert.Proof.KernelIdealV

end
-- ==== Proof.Same.lean ====
/- The kernel's three results and the reference's, element by element, as functions of the same arguments. -/
module

public import proofs.«01_k».proof.Proof.Elem
public import proofs.«01_k».proof.Proof.RefW
public import proofs.«01_k».proof.Proof.PI.Quantised
public import proofs.«01_k».proof.Proof.PI.Chan
public import proofs.«01_k».proof.Proof.PI.Sum

@[expose] public section

set_option maxRecDepth 16384

noncomputable section

namespace Cert.Proof.Same

open Idealize.ShloMosaic Idealize.ShloMosaic.TcCoe Idealize.ShloMosaic.Tactic
open Cert.Proof.Num Cert.Proof.KernelIdeal Cert.Proof.KernelIdealV
open Cert.ReferenceIdeal.Value (rVal cd A0 A1 A2 xd ws wb v318_at v175_at v149_at v156_at v163_at v165_at v139_at v96_at v15_at code_at)

variable (A : (⟨3, ![1, 128, 7168]⟩ : Shape).Idx → EReal) (X : Cert.KernelIdeal.S128x7168.Idx → EReal)
  (hX : ∀ (s : Fin 128) (d : Fin 7168), X (ix2 s d) = A (ix3 (0 : Fin 1) s d))

abbrev bl (d : Fin 7168) : Fin 224 := ⟨d.val / 32, by omega⟩
abbrev el (d : Fin 7168) : Fin 32 := ⟨d.val % 32, by omega⟩
abbrev un (d : Fin 7168) : Fin 28 := ⟨d.val / 256, by omega⟩
abbrev ro (d : Fin 7168) : Fin 256 := ⟨d.val % 256, by omega⟩
abbrev gr (d : Fin 7168) : Fin 8 := ⟨d.val % 256 / 32, by omega⟩

include hX

theorem block_eq (s : Fin 128) (u : Fin 28) (g : Fin 8) (b : Fin 224) (hb : b.val = 8 * u.val + g.val) :
    ublk (xb (F := Ideal) X u) g s = hblk A s b := by
  funext e
  show X (ix2 s ⟨256 * u.val + (32 * g.val + e.val), _⟩) = A (ix3 (0 : Fin 1) s ⟨b.val * 32 + e.val, _⟩)
  rw [hX]
  exact congrArg (fun d => A (ix3 (0 : Fin 1) s d)) (Fin.ext (by show 256 * u.val + (32 * g.val + e.val) = b.val * 32 + e.val; omega))

theorem elem_eq (s : Fin 128) (u : Fin 28) (r : Fin 256) (d : Fin 7168) (hd : d.val = 256 * u.val + r.val) :
    xb (F := Ideal) X u (ix2 s r) = hblk A s (bl d) (el d) := by
  show X (ix2 s ⟨256 * u.val + r.val, _⟩) = A (ix3 (0 : Fin 1) s ⟨d.val / 32 * 32 + d.val % 32, _⟩)
  rw [hX]
  exact congrArg (fun d => A (ix3 (0 : Fin 1) s d)) (Fin.ext (by show 256 * u.val + r.val = d.val / 32 * 32 + d.val % 32; omega))

/-- The byte of an input. -/
theorem kbyte (s : Fin 128) (u : Fin 28) (r : Fin 256) (d : Fin 7168) (hd : d.val = 256 * u.val + r.val) :
    Cert.KernelIdeal.Gen.k0_pay30 (qY (xb (F := Ideal) X u)) (qA (xb (F := Ideal) X u)) (qT (xb (F := Ideal) X u)) Cert.KernelIdeal.Gen.k0_pay29 (ix2 r s)
      = kByte (kY (hblk A s (bl d) (el d)) (kE (bmax (hblk A s (bl d))))) := by
  rw [byte_at, qY_at, elem_eq A X hX s u r d hd, block_eq A X hX s u _ (bl d) (by show d.val / 32 = 8 * u.val + r.val / 32; omega)]

variable (hT : ∀ (s : Fin 128) (b : Fin 224), Tame (bmax (hblk A s b)))
include hT

theorem codes_eq (s : Fin 128) (d : Fin 7168) : codesOf (F := Ideal) X (ix2 s d) = cd A s (bl d) (el d) := by
  show qCodes (xb (F := Ideal) X (un d)) (ix2 s (ro d)) = _
  rw [qCodes_at, kbyte A X hX s (un d) (ro d) d (by show d.val = 256 * (d.val / 256) + d.val % 256; omega)]
  exact code_same _ (hT s (bl d)) (el d)

theorem scales_eq (s : Fin 128) (b : Fin 224) : scalesOf (F := Ideal) X (ix2 s b) = rS (bmax (hblk A s b)) := by
  show (qExp (xb (F := Ideal) X ⟨b.val / 8, _⟩) (ix2 ⟨b.val % 8, _⟩ s)).setWidth 8 = _
  rw [qExp_at, block_eq A X hX s _ _ b (by show b.val = 8 * (b.val / 8) + b.val % 8; omega)]
  exact scale_same _ (hT s b)

/-- The decoded inputs, on both sides. -/
theorem input_ex : ∃ z : Fin 128 → Fin 7168 → ℝ, ∀ s d,
    Ideal.ofBits .fp8e5m2 (kByte (kY (hblk A s (bl d) (el d)) (kE (bmax (hblk A s (bl d)))))) * Ideal.ofBits .bf16 17792#16
        * Ideal.ofBits .f32 (IntOp.shli .vector (kSc (kE (bmax (hblk A s (bl d))))) 23#32) = (z s d : EReal)
      ∧ rVal (BitVec.setWidth 32 (cd A s (bl d) (el d))) * p2 (rS (bmax (hblk A s (bl d)))) = (z s d : EReal) := by
  have h : ∀ (s : Fin 128) (d : Fin 7168), ∃ z : ℝ,
      Ideal.ofBits .fp8e5m2 (kByte (kY (hblk A s (bl d) (el d)) (kE (bmax (hblk A s (bl d)))))) * Ideal.ofBits .bf16 17792#16
        * Ideal.ofBits .f32 (IntOp.shli .vector (kSc (kE (bmax (hblk A s (bl d))))) 23#32) = (z : EReal)
      ∧ rVal (BitVec.setWidth 32 (cd A s (bl d) (el d))) * p2 (rS (bmax (hblk A s (bl d)))) = (z : EReal) :=
    fun s d => val_same _ (hT s (bl d)) (el d)
  choose z hz using h
  exact ⟨z, hz⟩

omit hX hT

/-- The channel row `k` takes. -/
def ch (k : Fin 256) : Fin 256 := ⟨chN k.val, chN_lt k⟩

theorem ch_bij : Function.Bijective ch := by
  have h : ∀ r : Fin 256, ∃ k : Fin 256, ch k = r := by decide +kernel
  exact Function.Surjective.bijective_of_finite h

/-- The quantised inputs in the order the products take them. -/
theorem xp_eq (hX : ∀ (s : Fin 128) (d : Fin 7168), X (ix2 s d) = A (ix3 (0 : Fin 1) s d))
    (P : Cert.KernelIdeal.S256x256.Idx → EReal) (hP : ∀ r k : Fin 256, P (ix2 r k) = if r = ch k then 1 else 0)
    (z : Fin 128 → Fin 7168 → ℝ)
    (hz : ∀ s d, Ideal.ofBits .fp8e5m2 (kByte (kY (hblk A s (bl d) (el d)) (kE (bmax (hblk A s (bl d)))))) * Ideal.ofBits .bf16 17792#16
        * Ideal.ofBits .f32 (IntOp.shli .vector (kSc (kE (bmax (hblk A s (bl d))))) 23#32) = (z s d : EReal))
    (s : Fin 128) (u : Fin 28) (k : Fin 256) :
    xpOf (F := Ideal) X P (ix2 s ⟨256 * u.val + k.val, by omega⟩) = (z s ⟨256 * u.val + (ch k).val, by omega⟩ : EReal) := by
  show qXp (xb (F := Ideal) X ⟨(256 * u.val + k.val) / 256, _⟩) P (ix2 s ⟨(256 * u.val + k.val) % 256, _⟩) = _
  have e1 : (⟨(256 * u.val + k.val) / 256, by omega⟩ : Fin 28) = u := Fin.ext (by show (256 * u.val + k.val) / 256 = u.val; omega)
  have e2 : (⟨(256 * u.val + k.val) % 256, by omega⟩ : Fin 256) = k := Fin.ext (by show (256 * u.val + k.val) % 256 = k.val; omega)
  rw [e1, e2, qXp_at]
  have hr : ∀ r : Fin 256, Ideal.ofBits .fp8e5m2 (Cert.KernelIdeal.Gen.k0_pay30 (qY (xb (F := Ideal) X u)) (qA (xb (F := Ideal) X u)) (qT (xb (F := Ideal) X u)) Cert.KernelIdeal.Gen.k0_pay29 (ix2 r s)) * Ideal.ofBits .bf16 17792#16
      * Cert.KernelIdeal.Gen.k0_pay25 (F := Ideal) (qE (xb (F := Ideal) X u)) (qZ (xb (F := Ideal) X u)) (ix2 (⟨r.val / 32, by omega⟩ : Fin 8) s) * P (ix2 r k)
      = (z s ⟨256 * u.val + r.val, by omega⟩ : EReal) * (if r = ch k then 1 else 0) := by
    intro r
    rw [hP, kbyte A X hX s u r ⟨256 * u.val + r.val, by omega⟩ rfl, pay25_at,
      block_eq A X hX s u _ (bl ⟨256 * u.val + r.val, by omega⟩) (by show (256 * u.val + r.val) / 32 = 8 * u.val + r.val / 32; omega), hz]
  rw [Finset.sum_congr rfl fun r _ => hr r, Finset.sum_eq_single (ch k)]
  · rw [if_pos rfl, mul_one]
  · intro r _ h
    rw [if_neg h, mul_zero]
  · intro h; exact absurd (Finset.mem_univ _) h

/-! ### The weights -/

abbrev gp (d : Fin 7168) : Fin 1792 := ⟨d.val / 4, by omega⟩
abbrev fd (d : Fin 7168) : Fin 4 := ⟨d.val % 4, by omega⟩

theorem weight_ex (W : (⟨2, ![18432, 5376]⟩ : Shape).Idx → BitVec 8) (S : (⟨2, ![18432, 224]⟩ : Shape).Idx → BitVec 8)
    (hS : ∀ (n : Fin 18432) (b : Fin 224), 1 ≤ (S (ix2 n b)).toNat ∧ (S (ix2 n b)).toNat ≤ 254) :
    ∃ z : Fin 18432 → Fin 7168 → ℝ, ∀ n d,
      Ideal.ofBits .fp8e5m2 (dec8 (fbyte (fd d) (wb W n (gp d) 0) (wb W n (gp d) 1) (wb W n (gp d) 2)))
          * Ideal.ofBits .bf16 ((S (ix2 n (bl d))).setWidth 16 <<< 7) = ((z n d * (2 : ℝ) ^ (-12 : ℤ) : ℝ) : EReal)
        ∧ rVal (BitVec.setWidth 32 (fbyte (fd d) (wb W n (gp d) 0) (wb W n (gp d) 1) (wb W n (gp d) 2))) * p2 (S (ix2 n (bl d))) = (z n d : EReal) := by
  have h : ∀ (n : Fin 18432) (d : Fin 7168), ∃ z : ℝ,
      Ideal.ofBits .fp8e5m2 (dec8 (fbyte (fd d) (wb W n (gp d) 0) (wb W n (gp d) 1) (wb W n (gp d) 2)))
          * Ideal.ofBits .bf16 ((S (ix2 n (bl d))).setWidth 16 <<< 7) = ((z * (2 : ℝ) ^ (-12 : ℤ) : ℝ) : EReal)
        ∧ rVal (BitVec.setWidth 32 (fbyte (fd d) (wb W n (gp d) 0) (wb W n (gp d) 1) (wb W n (gp d) 2))) * p2 (S (ix2 n (bl d))) = (z : EReal) :=
    fun n d => weight_same _ _ (fbyte_lt _ _ _ _) (hS n (bl d)).1 (hS n (bl d)).2
  choose z hz using h
  exact ⟨z, hz⟩

theorem wg_eq (W : (⟨2, ![18432, 5376]⟩ : Shape).Idx → BitVec 8) (S : (⟨2, ![18432, 224]⟩ : Shape).Idx → BitVec 8) (z : Fin 18432 → Fin 7168 → ℝ)
    (hz : ∀ n d, Ideal.ofBits .fp8e5m2 (dec8 (fbyte (fd d) (wb W n (gp d) 0) (wb W n (gp d) 1) (wb W n (gp d) 2)))
          * Ideal.ofBits .bf16 ((S (ix2 n (bl d))).setWidth 16 <<< 7) = ((z n d * (2 : ℝ) ^ (-12 : ℤ) : ℝ) : EReal))
    (n : Fin 18432) (u : Fin 28) (k : Fin 256) :
    wg W S n u k = ((z n ⟨256 * u.val + (ch k).val, by omega⟩ * (2 : ℝ) ^ (-12 : ℤ) : ℝ) : EReal) := by
  rw [← hz]
  have hG := (grp ⟨k.val / 32 % 4, by omega⟩ ⟨k.val % 4, by omega⟩).isLt
  have hc : (ch k).val = 4 * (8 * (k.val / 4 % 8) + 4 * (k.val / 128) + (grp ⟨k.val / 32 % 4, by omega⟩ ⟨k.val % 4, by omega⟩).val) + k.val / 32 % 4 := rfl
  have hg : (gOf u k).val = 64 * u.val + 8 * (k.val / 4 % 8) + 4 * (k.val / 128) + (grp ⟨k.val / 32 % 4, by omega⟩ ⟨k.val % 4, by omega⟩).val := rfl
  have e1 : fd ⟨256 * u.val + (ch k).val, by omega⟩ = ⟨k.val / 32 % 4, by omega⟩ := Fin.ext (by show (256 * u.val + (ch k).val) % 4 = k.val / 32 % 4; omega)
  have e2 : gp ⟨256 * u.val + (ch k).val, by omega⟩ = gOf u k := Fin.ext (by show (256 * u.val + (ch k).val) / 4 = (gOf u k).val; omega)
  have e3 : bl ⟨256 * u.val + (ch k).val, by omega⟩ = ⟨(gOf u k).val / 8, by omega⟩ := Fin.ext (by show (256 * u.val + (ch k).val) / 32 = (gOf u k).val / 8; omega)
  rw [e1, e2, e3]
  unfold wg wb
  have m0 : (⟨3 * (gOf u k).val, by omega⟩ : Fin 5376) = ⟨(gOf u k).val * 3 + (0 : Fin 3).val, by have := (gOf u k).isLt; show (gOf u k).val * 3 + 0 < 5376; omega⟩ :=
    Fin.ext (by show 3 * (gOf u k).val = (gOf u k).val * 3 + 0; omega)
  have m1 : (⟨3 * (gOf u k).val + 1, by omega⟩ : Fin 5376) = ⟨(gOf u k).val * 3 + (1 : Fin 3).val, by have := (gOf u k).isLt; show (gOf u k).val * 3 + 1 < 5376; omega⟩ :=
    Fin.ext (by show 3 * (gOf u k).val + 1 = (gOf u k).val * 3 + 1; omega)
  have m2 : (⟨3 * (gOf u k).val + 2, by omega⟩ : Fin 5376) = ⟨(gOf u k).val * 3 + (2 : Fin 3).val, by have := (gOf u k).isLt; show (gOf u k).val * 3 + 2 < 5376; omega⟩ :=
    Fin.ext (by show 3 * (gOf u k).val + 2 = (gOf u k).val * 3 + 2; omega)
  rw [m0, m1, m2]

/-! ### The sums -/

/-- A sum over units and rows is the sum over channels. -/
theorem sum_units (g : Fin 7168 → ℝ) : ∑ u : Fin 28, ∑ k : Fin 256, g ⟨256 * u.val + (ch k).val, by omega⟩ = ∑ d, g d := by
  have h1 : ∀ u : Fin 28, ∑ k : Fin 256, g ⟨256 * u.val + (ch k).val, by omega⟩ = ∑ k : Fin 256, g ⟨256 * u.val + k.val, by omega⟩ := fun u =>
    Function.Bijective.sum_comp ch_bij (fun k : Fin 256 => g ⟨256 * u.val + k.val, by omega⟩)
  rw [Finset.sum_congr rfl fun u _ => h1 u, ← Finset.sum_product']
  refine Fintype.sum_equiv (finProdFinEquiv (m := 28) (n := 256)) _ _ fun p => ?_
  exact congrArg g (Fin.ext (by show 256 * p.1.val + p.2.val = p.2.val + 256 * p.1.val; omega))

/-- So is a sum over groups, one for every field. -/
theorem sum_fields (g : Fin 7168 → ℝ) : ∑ f : Fin 4, ∑ j : Fin 1792, g ⟨4 * j.val + f.val, by omega⟩ = ∑ d, g d := by
  rw [Finset.sum_comm, ← Finset.sum_product']
  refine Fintype.sum_equiv (finProdFinEquiv (m := 1792) (n := 4)) _ _ fun p => ?_
  exact congrArg g (Fin.ext (by show 4 * p.1.val + p.2.val = p.2.val + 4 * p.1.val; omega))

theorem coe_sum {ι : Type} [Fintype ι] (g : ι → ℝ) : ∑ i, ((g i : ℝ) : EReal) = ((∑ i, g i : ℝ) : EReal) := by
  classical
  refine Finset.induction_on (Finset.univ : Finset ι) (by simp) fun a s ha ih => ?_
  rw [Finset.sum_insert ha, Finset.sum_insert ha, ih, EReal.coe_add]

theorem lit4096 : Ideal.ofBits .f32 0x45800000#32 = (((2 : ℝ) ^ (12 : ℤ) : ℝ) : EReal) := by
  have h := F32_pow 139 (by omega) (by omega)
  unfold F32 at h
  rw [show (BitVec.ofNat 32 139 <<< 23) = 0x45800000#32 by decide] at h
  rw [h]
  norm_num

/-- The first result: both sides are the sum over the channels of input times weight. -/
theorem y_eq (V0 : Valuation Cert.ReferenceIdeal.τ Cert.ReferenceIdeal.sig (Elt Ideal))
    (hX : ∀ (s : Fin 128) (d : Fin 7168), X (ix2 s d) = A0 V0 (ix3 (0 : Fin 1) s d))
    (hT : ∀ (s : Fin 128) (b : Fin 224), Tame (bmax (hblk (A0 V0) s b)))
    (hS : ∀ (n : Fin 18432) (b : Fin 224), 1 ≤ (A2 V0 (ix2 n b)).toNat ∧ (A2 V0 (ix2 n b)).toNat ≤ 254)
    (P : Cert.KernelIdeal.S256x256.Idx → EReal) (hP : ∀ r k : Fin 256, P (ix2 r k) = if r = ch k then 1 else 0)
    (s : Fin 128) (n : Fin 18432) :
    yAt (F := Ideal) (xpOf X P) (A1 V0) (A2 V0) s n = Cert.ReferenceIdeal.Value.res_main_v318 V0 (ix3 (0 : Fin 1) s n) := by
  obtain ⟨z, hz⟩ := input_ex (A0 V0) X hX hT
  obtain ⟨w, hw⟩ := weight_ex (A1 V0) (A2 V0) hS
  have hxd : ∀ (j : Fin 1792) (f : Fin 4), xd V0 s j f = (z s ⟨4 * j.val + f.val, by omega⟩ : EReal) := by
    intro j f
    have e1 : (⟨j.val / 8 * 32 + (j.val % 8 * 4 + f.val), by omega⟩ : Fin 7168) = ⟨4 * j.val + f.val, by omega⟩ := Fin.ext (by show j.val / 8 * 32 + (j.val % 8 * 4 + f.val) = 4 * j.val + f.val; omega)
    have e2 : (⟨j.val / 8, by omega⟩ : Fin 224) = bl ⟨4 * j.val + f.val, by omega⟩ := Fin.ext (by show j.val / 8 = (4 * j.val + f.val) / 32; omega)
    rw [← (hz s ⟨4 * j.val + f.val, by omega⟩).2]
    unfold xd
    rw [v139_at, e1, e2, v96_at, v15_at]
    rfl
  have hws : ∀ (j : Fin 1792) (f : Fin 4), rVal (BitVec.setWidth 32 (fbyte f (wb (A1 V0) n j 0) (wb (A1 V0) n j 1) (wb (A1 V0) n j 2))) * ws V0 n j
      = (w n ⟨4 * j.val + f.val, by omega⟩ : EReal) := by
    intro j f
    have e1 : fd ⟨4 * j.val + f.val, by omega⟩ = f := Fin.ext (by show (4 * j.val + f.val) % 4 = f.val; omega)
    have e2 : gp ⟨4 * j.val + f.val, by omega⟩ = j := Fin.ext (by show (4 * j.val + f.val) / 4 = j.val; omega)
    have e3 : bl ⟨4 * j.val + f.val, by omega⟩ = ⟨j.val / 8, by omega⟩ := Fin.ext (by show (4 * j.val + f.val) / 32 = j.val / 8; omega)
    have h := (hw n ⟨4 * j.val + f.val, by omega⟩).2
    rw [e1, e2, e3] at h
    rw [← h]
    unfold ws
    rw [v175_at]
    rfl
  have hterm : ∀ (j : Fin 1792) (f : Fin 4), xd V0 s j f * (rVal (BitVec.setWidth 32 (fbyte f (wb (A1 V0) n j 0) (wb (A1 V0) n j 1) (wb (A1 V0) n j 2))) * ws V0 n j)
      = ((z s ⟨4 * j.val + f.val, by omega⟩ * w n ⟨4 * j.val + f.val, by omega⟩ : ℝ) : EReal) := by
    intro j f
    rw [hws, hxd, ← EReal.coe_mul]
  have hsum : ∀ f : Fin 4, ∑ j : Fin 1792, xd V0 s j f * (rVal (BitVec.setWidth 32 (fbyte f (wb (A1 V0) n j 0) (wb (A1 V0) n j 1) (wb (A1 V0) n j 2))) * ws V0 n j)
      = ((∑ j : Fin 1792, z s ⟨4 * j.val + f.val, by omega⟩ * w n ⟨4 * j.val + f.val, by omega⟩ : ℝ) : EReal) := by
    intro f
    rw [← coe_sum]
    exact Finset.sum_congr rfl fun j _ => hterm j f
  have hR : Cert.ReferenceIdeal.Value.res_main_v318 V0 (ix3 (0 : Fin 1) s n) = ((∑ d, z s d * w n d : ℝ) : EReal) := by
    rw [v318_at]
    simp only [v149_at, v156_at, v163_at, v165_at]
    rw [hsum 0, hsum 1, hsum 2, hsum 3, ← EReal.coe_add, ← EReal.coe_add, ← EReal.coe_add, ← sum_fields (fun d => z s d * w n d), Fin.sum_univ_four]
  rw [hR, yAt_eq, lit4096]
  have hk : ∀ (u : Fin 28) (k : Fin 256), xpOf (F := Ideal) X P (ix2 s ⟨256 * u.val + k.val, by omega⟩) * wg (A1 V0) (A2 V0) n u k
      = (((fun d : Fin 7168 => z s d * w n d) ⟨256 * u.val + (ch k).val, by omega⟩ * (2 : ℝ) ^ (-12 : ℤ) : ℝ) : EReal) := by
    intro u k
    rw [xp_eq (A0 V0) X hX P hP z (fun s d => (hz s d).1), wg_eq (A1 V0) (A2 V0) w (fun n d => (hw n d).1), ← EReal.coe_mul]
    refine congrArg Real.toEReal ?_
    ring
  have hu : ∀ u : Fin 28, ∑ k : Fin 256, xpOf (F := Ideal) X P (ix2 s ⟨256 * u.val + k.val, by omega⟩) * wg (A1 V0) (A2 V0) n u k
      = ((∑ k : Fin 256, (fun d : Fin 7168 => z s d * w n d) ⟨256 * u.val + (ch k).val, by omega⟩ * (2 : ℝ) ^ (-12 : ℤ) : ℝ) : EReal) := by
    intro u
    rw [← coe_sum]
    exact Finset.sum_congr rfl fun k _ => hk u k
  rw [Finset.sum_congr rfl fun u _ => hu u, coe_sum, ← EReal.coe_mul]
  refine congrArg Real.toEReal ?_
  rw [Finset.sum_congr rfl fun u _ => (Finset.sum_mul _ _ _).symm, ← Finset.sum_mul, sum_units (fun d => z s d * w n d), mul_assoc, ← zpow_add₀ (by norm_num)]
  norm_num

end Cert.Proof.Same

end
-- ==== Proof.PI.End.lean ====
/- The kernel's run: what it finds on entry and what it leaves, element by element. -/
module

public import proofs.«01_k».proof.Proof.Same

@[expose] public section

set_option maxRecDepth 16384

noncomputable section

namespace Cert.Proof.KernelIdealV

open Idealize.ShloMosaic Idealize.ShloMosaic.TcCoe Idealize.ShloMosaic.Tactic Idealize.SL Idealize.SL.Sem
open Cert.Proof.Num Cert.Proof.KernelIdeal
open Cert.KernelIdeal Cert.KernelIdeal.Gen

variable (m : (ℓ : Loc nD τ sig) → Buf (Elt Ideal) ℓ) (c : Dev nD)

theorem one_bf : Ideal.ofBits .bf16 0x3F80#16 = 1 := by
  have h := bf_pow 127#8 (by decide) (by decide)
  rw [show ((127#8).setWidth 16 <<< 7) = 0x3F80#16 by decide] at h
  rw [h]
  norm_num

theorem zero_bf : Ideal.ofBits .bf16 0#16 = 0 := by simp [Ideal.ofBits, Ideal.ieee]

theorem PP_eq : PP m c = fun i => FloatOps.ofBits (F := Ideal) .bf16 (lit0 (S256x256.rowMajor i)) := by
  unfold PP V V0
  simp only [hostOps0, List.flatten_cons, List.flatten_nil, List.append_nil, StableHlo.after_cons, StableHlo.after_nil]
  rw [StableHlo.reshape_result_ne (h := by decide), StableHlo.nullary_result]
  rfl

theorem XX_eq : XX m c = shapeCast S128x7168 (m ((c.tc : Thread nD τ).loc main_arg0)) shapeCasts_S1x128x7168_S128x7168 := by
  unfold XX V V0
  simp only [hostOps0, List.flatten_cons, List.flatten_nil, List.append_nil, StableHlo.after_cons, StableHlo.after_nil]
  rw [StableHlo.reshape_result, StableHlo.nullary_result_ne (h := by decide)]
  rfl

theorem flat_at {α : Type} (Y : S1x128x7168.Idx → α) (s : Fin 128) (d : Fin 7168) :
    shapeCast S128x7168 Y shapeCasts_S1x128x7168_S128x7168 (ix2 s d) = Y (ix3 (0 : Fin 1) s d) := by pointwise []

theorem lift_y {α : Type} (Y : S128x18432.Idx → α) (s : Fin 128) (n : Fin 18432) :
    shapeCast S1x128x18432 Y shapeCasts_S128x18432_S1x128x18432 (ix3 (0 : Fin 1) s n) = Y (ix2 s n) := by pointwise []

theorem lift_q {α : Type} (Y : S128x7168.Idx → α) (s : Fin 128) (n : Fin 7168) :
    shapeCast S1x128x7168 Y shapeCasts_S128x7168_S1x128x7168 (ix3 (0 : Fin 1) s n) = Y (ix2 s n) := by pointwise []

theorem lift_e {α : Type} (Y : S128x224.Idx → α) (s : Fin 128) (n : Fin 224) :
    shapeCast S1x128x224 Y shapeCasts_S128x224_S1x128x224 (ix3 (0 : Fin 1) s n) = Y (ix2 s n) := by pointwise []

theorem PP_at (hP : ∀ r k : Fin 256, lit0t (256 * r.val + k.val) = if r.val = chN k.val then 0x3F80#16 else 0#16) (r k : Fin 256) :
    (PP m c (ix2 r k) : EReal) = if r = Same.ch k then 1 else 0 := by
  rw [PP_eq]
  show Ideal.ofBits .bf16 (lit0t (S256x256.rowMajor (ix2 r k)).val) = _
  have e : (S256x256.rowMajor (ix2 r k)).val = 256 * r.val + k.val := by
    rw [Shape.rowMajor_val_two]
    show r.val * 256 + k.val = _
    omega
  rw [e, hP]
  have hc : (r.val = chN k.val) ↔ r = Same.ch k := ⟨fun h => Fin.ext h, fun h => congrArg Fin.val h⟩
  by_cases h : r = Same.ch k
  · rw [if_pos h, if_pos (hc.mpr h), one_bf]
  · rw [if_neg h, if_neg (fun h' => h (hc.mp h')), zero_bf]

/-- The whole product. -/
def yOut : S128x18432.Idx → EReal := fun j => yAt (F := Ideal) (xpOf (XX m c) (PP m c)) (V m c main_arg1) (V m c main_arg2) (j 0) (j 1)

theorem out_y : Pipeline.afterTail₀ cfgs (dats m) 0 (V0 m) [hostOps1] c main_v2 = shapeCast S1x128x18432 (yOut m c) shapeCasts_S128x18432_S1x128x18432 := by
  unfold Pipeline.afterTail₀
  simp only [hostOps1, List.flatten_cons, List.flatten_nil, List.append_nil, StableHlo.after_cons, StableHlo.after_nil]
  rw [StableHlo.reshape_result_ne (h := by decide), StableHlo.reshape_result_ne (h := by decide), StableHlo.reshape_result]
  have h := Pipeline.withArrays_arr spec0 launch0.win.arr_inj c (V0 m c) (fun w => (dats m 0 c).arrAt w cfg0.N) 4
  rw [arr_4] at h
  funext i
  exact congrArg (fun Y : S128x18432.Idx → EReal => shapeCast S1x128x18432 Y shapeCasts_S128x18432_S1x128x18432 i) h

theorem out_q : Pipeline.afterTail₀ cfgs (dats m) 0 (V0 m) [hostOps1] c main_v3 = shapeCast S1x128x7168 (codesOf (F := Ideal) (XX m c)) shapeCasts_S128x7168_S1x128x7168 := by
  unfold Pipeline.afterTail₀
  simp only [hostOps1, List.flatten_cons, List.flatten_nil, List.append_nil, StableHlo.after_cons, StableHlo.after_nil]
  rw [StableHlo.reshape_result_ne (h := by decide), StableHlo.reshape_result, StableHlo.reshape_result_ne (h := by decide)]
  have h := Pipeline.withArrays_arr spec0 launch0.win.arr_inj c (V0 m c) (fun w => (dats m 0 c).arrAt w cfg0.N) 5
  rw [arr_5] at h
  funext i
  exact congrArg (fun Y : S128x7168.Idx → BitVec 8 => shapeCast S1x128x7168 Y shapeCasts_S128x7168_S1x128x7168 i) h

theorem out_e : Pipeline.afterTail₀ cfgs (dats m) 0 (V0 m) [hostOps1] c main_v4 = shapeCast S1x128x224 (scalesOf (F := Ideal) (XX m c)) shapeCasts_S128x224_S1x128x224 := by
  unfold Pipeline.afterTail₀
  simp only [hostOps1, List.flatten_cons, List.flatten_nil, List.append_nil, StableHlo.after_cons, StableHlo.after_nil]
  rw [StableHlo.reshape_result, StableHlo.reshape_result_ne (h := by decide), StableHlo.reshape_result_ne (h := by decide)]
  have h := Pipeline.withArrays_arr spec0 launch0.win.arr_inj c (V0 m c) (fun w => (dats m 0 c).arrAt w cfg0.N) 6
  rw [arr_6] at h
  funext i
  exact congrArg (fun Y : S128x224.Idx → BitVec 8 => shapeCast S1x128x224 Y shapeCasts_S128x224_S1x128x224 i) h

theorem run_ends (ρ : Dev nD → PrngReg) :
    θ_run defs (onTc (τ := τ) (main (F := Ideal))) ⟨m, fun _ => 0, ρ⟩ fun r => ∀ c : Dev nD,
      r.2.mem ((c.tc : Thread nD τ).loc main_v2) = shapeCast S1x128x18432 (yOut m c) shapeCasts_S128x18432_S1x128x18432
      ∧ r.2.mem ((c.tc : Thread nD τ).loc main_v3) = shapeCast S1x128x7168 (codesOf (F := Ideal) (XX m c)) shapeCasts_S128x7168_S1x128x7168
      ∧ r.2.mem ((c.tc : Thread nD τ).loc main_v4) = shapeCast S1x128x224 (scalesOf (F := Ideal) (XX m c)) shapeCasts_S128x224_S1x128x224
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v2 (Pipeline.mem_restRefs_of main_v2 (by decide) (by decide))).trans (out_y m c),
      ((h c).2 main_v3 (Pipeline.mem_restRefs_of main_v3 (by decide) (by decide))).trans (out_q m c),
      ((h c).2 main_v4 (Pipeline.mem_restRefs_of main_v4 (by decide) (by decide))).trans (out_e m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c)))⟩) (run_main m ρ)

end Cert.Proof.KernelIdealV

end
-- ==== Proof.Alg.lean ====
/- The kernel and the reference end with the same three results. -/
module

public import proofs.«01_k».proof.Defs
public import proofs.«01_k».proof.Proof.RefEnd
public import proofs.«01_k».proof.Proof.PI.End

@[expose] public section

set_option maxRecDepth 16384

noncomputable section

namespace Cert.Proof

open Idealize.ShloMosaic Idealize.ShloMosaic.TcCoe Idealize.ShloMosaic.Tactic Idealize.SL Idealize.SL.Sem
open Cert.Proof.Num Cert.Proof.KernelIdeal Cert.Proof.KernelIdealV
open Cert.KernelIdeal Cert.KernelIdeal.Gen
open Cert.ReferenceIdeal.Value (Ends A0 A1 A2)

/-- An index of a shape whose first extent is one. -/
theorem idx_one {a b : ℕ} (i : (⟨3, ![1, a, b]⟩ : Shape).Idx) : ∃ (s : Fin a) (d : Fin b), i = ix3 (0 : Fin 1) s d := by
  obtain ⟨z, s, d, rfl⟩ : ∃ (z : Fin 1) (s : Fin a) (d : Fin b), i = ix3 z s d := ⟨i 0, i 1, i 2, (ix3_eta i).symm⟩
  obtain rfl : z = 0 := Subsingleton.elim _ _
  exact ⟨s, d, rfl⟩

section Same

variable (m : (ℓ : Loc nD τ sig) → Buf (Elt Ideal) ℓ) (c : Dev nD)
  (V0 : Valuation Cert.ReferenceIdeal.τ Cert.ReferenceIdeal.sig (Elt Ideal))
  (h0 : A0 V0 = m ((c.tc : Thread nD τ).loc main_arg0)) (h1 : A1 V0 = m ((c.tc : Thread nD τ).loc main_arg1)) (h2 : A2 V0 = m ((c.tc : Thread nD τ).loc main_arg2))
  (hT : ∀ (s : Fin 128) (b : Fin 224), Tame (bmax (hblk (A0 V0) s b)))
  (y : S1x128x18432.Idx → EReal) (q : S1x128x7168.Idx → BitVec 8) (e : S1x128x224.Idx → BitVec 8) (h : Ends V0 y q e)

include h0 in
theorem XX_at (s : Fin 128) (d : Fin 7168) : (XX m c (ix2 s d) : EReal) = A0 V0 (ix3 (0 : Fin 1) s d) := by
  rw [XX_eq, h0]
  exact flat_at _ s d

include h0 hT h

theorem q_same : q = shapeCast S1x128x7168 (codesOf (F := Ideal) (XX m c)) shapeCasts_S128x7168_S1x128x7168 := by
  funext i
  obtain ⟨s, d, rfl⟩ := idx_one i
  rw [h.q_at, lift_q]
  exact (Same.codes_eq (A0 V0) (XX m c) (XX_at m c V0 h0) hT s d).symm

theorem e_same : e = shapeCast S1x128x224 (scalesOf (F := Ideal) (XX m c)) shapeCasts_S128x224_S1x128x224 := by
  funext i
  obtain ⟨s, b, rfl⟩ := idx_one i
  rw [h.e_at, lift_e]
  exact (Same.scales_eq (A0 V0) (XX m c) (XX_at m c V0 h0) hT s b).symm

variable (hS : ∀ (n : Fin 18432) (b : Fin 224), 1 ≤ (A2 V0 (ix2 n b)).toNat ∧ (A2 V0 (ix2 n b)).toNat ≤ 254)
  (hP : ∀ r k : Fin 256, lit0t (256 * r.val + k.val) = if r.val = chN k.val then 0x3F80#16 else 0#16)
include h1 h2 hS hP

theorem y_same : y = shapeCast S1x128x18432 (yOut m c) shapeCasts_S128x18432_S1x128x18432 := by
  funext i
  obtain ⟨s, n, rfl⟩ := idx_one i
  rw [h.y_at, lift_y, ← Same.y_eq (XX m c) V0 (XX_at m c V0 h0) hT hS (PP m c) (PP_at m c hP) s n]
  unfold yOut
  rw [V_main_arg1, V_main_arg2, ← h1, ← h2]
  rfl

end Same

theorem algebraic_of (hP : ∀ r k : Fin 256, lit0t (256 * r.val + k.val) = if r.val = chN k.val then 0x3F80#16 else 0#16) :
    Cert.algebraic_KernelIdeal_ReferenceIdeal_pre_in_range (hKernelIdeal := Cert.KernelIdeal.Gen.facts)
      (hReferenceIdeal := Cert.ReferenceIdeal.Gen.facts) (hPre_in_range := Cert.Proof.Num.factsPre) := by
  intro m g m' g' hpre hag
  refine ⟨fun c => shapeCast S1x128x18432 (yOut m c) shapeCasts_S128x18432_S1x128x18432,
    fun c => shapeCast S1x128x7168 (codesOf (F := Ideal) (XX m c)) shapeCasts_S128x7168_S1x128x7168,
    fun c => shapeCast S1x128x224 (scalesOf (F := Ideal) (XX m c)) shapeCasts_S128x224_S1x128x224,
    run_ends m g, (θ_run _ _ _).mono (fun r h c => ?_) (Cert.ReferenceIdeal.Value.run_ends m' g')⟩
  obtain ⟨he, ha⟩ := h c
  have h0 : A0 (StableHlo.launchContents m' c) = m ((c.tc : Thread nD τ).loc main_arg0) := (hag c).1
  have h1 : A1 (StableHlo.launchContents m' c) = m ((c.tc : Thread nD τ).loc main_arg1) := (hag c).2.1
  have h2 : A2 (StableHlo.launchContents m' c) = m ((c.tc : Thread nD τ).loc main_arg2) := (hag c).2.2
  obtain ⟨hT, hS⟩ := pre_facts _ _ _ (hpre c).1 (hpre c).2
  rw [← h0] at hT
  rw [← h2] at hS
  exact ⟨y_same m c _ h0 h1 h2 hT _ _ _ he hS hP, q_same m c _ h0 hT _ _ _ he, e_same m c _ h0 hT _ _ _ he, ha⟩

end Cert.Proof

end
-- ==== Proof.PI.Perm0.lean ====
/- Some rows of the permutation matrix. -/
module

public import proofs.«01_k».proof.KernelIdeal
public import proofs.«01_k».proof.Proof.PI.Chan

@[expose] public section

set_option maxRecDepth 16384

noncomputable section

namespace Cert.Proof.KernelIdeal

open Cert.KernelIdeal Cert.KernelIdeal.Gen
open Idealize.ShloMosaic

/-- Rows 0 to 31 of the permutation matrix. -/
theorem perm0 : ∀ r : Fin 32, ∀ k : Fin 256, lit0t (256 * (32 * 0 + r.val) + k.val) = if 32 * 0 + r.val = chN k.val then 0x3F80#16 else 0#16 := by
  decide +kernel

end Cert.Proof.KernelIdeal

end
-- ==== Proof.PI.Perm1.lean ====
/- Some rows of the permutation matrix. -/
module

public import proofs.«01_k».proof.KernelIdeal
public import proofs.«01_k».proof.Proof.PI.Chan

@[expose] public section

set_option maxRecDepth 16384

noncomputable section

namespace Cert.Proof.KernelIdeal

open Cert.KernelIdeal Cert.KernelIdeal.Gen
open Idealize.ShloMosaic

/-- Rows 32 to 63 of the permutation matrix. -/
theorem perm1 : ∀ r : Fin 32, ∀ k : Fin 256, lit0t (256 * (32 * 1 + r.val) + k.val) = if 32 * 1 + r.val = chN k.val then 0x3F80#16 else 0#16 := by
  decide +kernel

end Cert.Proof.KernelIdeal

end
-- ==== Proof.PI.Perm2.lean ====
/- Some rows of the permutation matrix. -/
module

public import proofs.«01_k».proof.KernelIdeal
public import proofs.«01_k».proof.Proof.PI.Chan

@[expose] public section

set_option maxRecDepth 16384

noncomputable section

namespace Cert.Proof.KernelIdeal

open Cert.KernelIdeal Cert.KernelIdeal.Gen
open Idealize.ShloMosaic

/-- Rows 64 to 95 of the permutation matrix. -/
theorem perm2 : ∀ r : Fin 32, ∀ k : Fin 256, lit0t (256 * (32 * 2 + r.val) + k.val) = if 32 * 2 + r.val = chN k.val then 0x3F80#16 else 0#16 := by
  decide +kernel

end Cert.Proof.KernelIdeal

end
-- ==== Proof.PI.Perm3.lean ====
/- Some rows of the permutation matrix. -/
module

public import proofs.«01_k».proof.KernelIdeal
public import proofs.«01_k».proof.Proof.PI.Chan

@[expose] public section

set_option maxRecDepth 16384

noncomputable section

namespace Cert.Proof.KernelIdeal

open Cert.KernelIdeal Cert.KernelIdeal.Gen
open Idealize.ShloMosaic

/-- Rows 96 to 127 of the permutation matrix. -/
theorem perm3 : ∀ r : Fin 32, ∀ k : Fin 256, lit0t (256 * (32 * 3 + r.val) + k.val) = if 32 * 3 + r.val = chN k.val then 0x3F80#16 else 0#16 := by
  decide +kernel

end Cert.Proof.KernelIdeal

end
-- ==== Proof.PI.Perm4.lean ====
/- Some rows of the permutation matrix. -/
module

public import proofs.«01_k».proof.KernelIdeal
public import proofs.«01_k».proof.Proof.PI.Chan

@[expose] public section

set_option maxRecDepth 16384

noncomputable section

namespace Cert.Proof.KernelIdeal

open Cert.KernelIdeal Cert.KernelIdeal.Gen
open Idealize.ShloMosaic

/-- Rows 128 to 159 of the permutation matrix. -/
theorem perm4 : ∀ r : Fin 32, ∀ k : Fin 256, lit0t (256 * (32 * 4 + r.val) + k.val) = if 32 * 4 + r.val = chN k.val then 0x3F80#16 else 0#16 := by
  decide +kernel

end Cert.Proof.KernelIdeal

end
-- ==== Proof.PI.Perm5.lean ====
/- Some rows of the permutation matrix. -/
module

public import proofs.«01_k».proof.KernelIdeal
public import proofs.«01_k».proof.Proof.PI.Chan

@[expose] public section

set_option maxRecDepth 16384

noncomputable section

namespace Cert.Proof.KernelIdeal

open Cert.KernelIdeal Cert.KernelIdeal.Gen
open Idealize.ShloMosaic

/-- Rows 160 to 191 of the permutation matrix. -/
theorem perm5 : ∀ r : Fin 32, ∀ k : Fin 256, lit0t (256 * (32 * 5 + r.val) + k.val) = if 32 * 5 + r.val = chN k.val then 0x3F80#16 else 0#16 := by
  decide +kernel

end Cert.Proof.KernelIdeal

end
-- ==== Proof.PI.Perm6.lean ====
/- Some rows of the permutation matrix. -/
module

public import proofs.«01_k».proof.KernelIdeal
public import proofs.«01_k».proof.Proof.PI.Chan

@[expose] public section

set_option maxRecDepth 16384

noncomputable section

namespace Cert.Proof.KernelIdeal

open Cert.KernelIdeal Cert.KernelIdeal.Gen
open Idealize.ShloMosaic

/-- Rows 192 to 223 of the permutation matrix. -/
theorem perm6 : ∀ r : Fin 32, ∀ k : Fin 256, lit0t (256 * (32 * 6 + r.val) + k.val) = if 32 * 6 + r.val = chN k.val then 0x3F80#16 else 0#16 := by
  decide +kernel

end Cert.Proof.KernelIdeal

end
-- ==== Proof.PI.Perm7.lean ====
/- Some rows of the permutation matrix. -/
module

public import proofs.«01_k».proof.KernelIdeal
public import proofs.«01_k».proof.Proof.PI.Chan

@[expose] public section

set_option maxRecDepth 16384

noncomputable section

namespace Cert.Proof.KernelIdeal

open Cert.KernelIdeal Cert.KernelIdeal.Gen
open Idealize.ShloMosaic

/-- Rows 224 to 255 of the permutation matrix. -/
theorem perm7 : ∀ r : Fin 32, ∀ k : Fin 256, lit0t (256 * (32 * 7 + r.val) + k.val) = if 32 * 7 + r.val = chN k.val then 0x3F80#16 else 0#16 := by
  decide +kernel

end Cert.Proof.KernelIdeal

end
-- ==== Proof.PI.Perm.lean ====
/- The permutation matrix. -/
module

public import proofs.«01_k».proof.KernelIdeal
public import proofs.«01_k».proof.Proof.PI.Perm0
public import proofs.«01_k».proof.Proof.PI.Perm1
public import proofs.«01_k».proof.Proof.PI.Perm2
public import proofs.«01_k».proof.Proof.PI.Perm3
public import proofs.«01_k».proof.Proof.PI.Perm4
public import proofs.«01_k».proof.Proof.PI.Perm5
public import proofs.«01_k».proof.Proof.PI.Perm6
public import proofs.«01_k».proof.Proof.PI.Perm7

@[expose] public section

set_option maxRecDepth 16384

noncomputable section

namespace Cert.Proof.KernelIdeal

open Cert.KernelIdeal Cert.KernelIdeal.Gen
open Idealize.ShloMosaic

/-- A statement about 256 rows from its eight runs of 32 rows. -/
theorem rows_of {α : Type} (f : ℕ → α) (g : ℕ → ℕ) (u v : α)
    (h0 : ∀ r : Fin 32, ∀ k : Fin 256, f (256 * (32 * 0 + r.val) + k.val) = if 32 * 0 + r.val = g k.val then u else v)
    (h1 : ∀ r : Fin 32, ∀ k : Fin 256, f (256 * (32 * 1 + r.val) + k.val) = if 32 * 1 + r.val = g k.val then u else v)
    (h2 : ∀ r : Fin 32, ∀ k : Fin 256, f (256 * (32 * 2 + r.val) + k.val) = if 32 * 2 + r.val = g k.val then u else v)
    (h3 : ∀ r : Fin 32, ∀ k : Fin 256, f (256 * (32 * 3 + r.val) + k.val) = if 32 * 3 + r.val = g k.val then u else v)
    (h4 : ∀ r : Fin 32, ∀ k : Fin 256, f (256 * (32 * 4 + r.val) + k.val) = if 32 * 4 + r.val = g k.val then u else v)
    (h5 : ∀ r : Fin 32, ∀ k : Fin 256, f (256 * (32 * 5 + r.val) + k.val) = if 32 * 5 + r.val = g k.val then u else v)
    (h6 : ∀ r : Fin 32, ∀ k : Fin 256, f (256 * (32 * 6 + r.val) + k.val) = if 32 * 6 + r.val = g k.val then u else v)
    (h7 : ∀ r : Fin 32, ∀ k : Fin 256, f (256 * (32 * 7 + r.val) + k.val) = if 32 * 7 + r.val = g k.val then u else v)
    (r k : Fin 256) : f (256 * r.val + k.val) = if r.val = g k.val then u else v := by
  have hm : r.val % 32 < 32 := by omega
  have hq : r.val / 32 = 0 ∨ r.val / 32 = 1 ∨ r.val / 32 = 2 ∨ r.val / 32 = 3 ∨ r.val / 32 = 4 ∨ r.val / 32 = 5 ∨ r.val / 32 = 6 ∨ r.val / 32 = 7 := by omega
  rcases hq with h | h | h | h | h | h | h | h
  · have e : r.val = 32 * 0 + r.val % 32 := by omega
    rw [e]
    exact h0 ⟨r.val % 32, hm⟩ k
  · have e : r.val = 32 * 1 + r.val % 32 := by omega
    rw [e]
    exact h1 ⟨r.val % 32, hm⟩ k
  · have e : r.val = 32 * 2 + r.val % 32 := by omega
    rw [e]
    exact h2 ⟨r.val % 32, hm⟩ k
  · have e : r.val = 32 * 3 + r.val % 32 := by omega
    rw [e]
    exact h3 ⟨r.val % 32, hm⟩ k
  · have e : r.val = 32 * 4 + r.val % 32 := by omega
    rw [e]
    exact h4 ⟨r.val % 32, hm⟩ k
  · have e : r.val = 32 * 5 + r.val % 32 := by omega
    rw [e]
    exact h5 ⟨r.val % 32, hm⟩ k
  · have e : r.val = 32 * 6 + r.val % 32 := by omega
    rw [e]
    exact h6 ⟨r.val % 32, hm⟩ k
  · have e : r.val = 32 * 7 + r.val % 32 := by omega
    rw [e]
    exact h7 ⟨r.val % 32, hm⟩ k

theorem perm_at (r k : Fin 256) : lit0t (256 * r.val + k.val) = if r.val = chN k.val then 0x3F80#16 else 0#16 :=
  rows_of lit0t chN 0x3F80#16 0#16 perm0 perm1 perm2 perm3 perm4 perm5 perm6 perm7 r k

end Cert.Proof.KernelIdeal

end
-- ==== Proof.lean ====
module

public import proofs.«01_k».proof.Defs
public import proofs.«01_k».proof.Proof.P.Frame
public import proofs.«01_k».proof.Proof.PI.Frame
public import proofs.«01_k».proof.Proof.RI
public import proofs.«01_k».proof.Proof.Alg
public import proofs.«01_k».proof.Proof.PI.Perm
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Proof.Num.factsPre,
  fun m ρ _ => Cert.Proof.Kernel.quiescent m ρ, fun m ρ _ => Cert.Proof.KernelIdeal.quiescent m ρ,
  fun m ρ _ => Cert.Proof.KernelIdeal.quiescent m ρ, frame_r, fun m ρ _ => frame_r m ρ trivial, trivial,
  algebraic_of Cert.Proof.KernelIdeal.perm_at⟩

end Cert.Proof

end
